-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Gqa_GqaIdeal : Prop :=
  IdealRules.named_const.Statement Cert.GqaIdeal.κ "qscale" .f32 0x3E38AA3B#32 ((8⁻¹ * (Real.log 2)⁻¹ : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v11)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v11) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v20) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v4) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v34) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hKernel : Cert.Kernel.Facts) (hKernelIdeal : Cert.KernelIdeal.Facts) (hReferenceIdeal : Cert.ReferenceIdeal.Facts) (hGqa : Cert.Gqa.Facts) (hGqaIdeal : Cert.GqaIdeal.Facts) (hGqaRefIdeal : Cert.GqaRefIdeal.Facts) (hFinal : Cert.Final.Facts) (hFinalIdeal : Cert.FinalIdeal.Facts) (hFinalRefIdeal : Cert.FinalRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_finite : Cert.Pre_finite.Facts) (hPre_gqa_finite : Cert.Pre_gqa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Final (hFinal := hFinal)
    ∧ quiescent_FinalIdeal (hFinalIdeal := hFinalIdeal)
    ∧ quiescent_FinalRefIdeal (hFinalRefIdeal := hFinalRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Final_FinalIdeal
    ∧ algebraic_FinalIdeal_FinalRefIdeal (hFinalIdeal := hFinalIdeal) (hFinalRefIdeal := hFinalRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_finite.lean ====
abbrev S2x16384x4x2x64 : Shape := ⟨5, ![2, 16384, 4, 2, 64]⟩
abbrev S2x256x4x2x64 : Shape := ⟨5, ![2, 256, 4, 2, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S_ : Shape := ⟨0, ![]⟩

class Facts : Prop where
  bcast_S_S2x16384x4x2x64 : S_.BroadcastsInDim S2x16384x4x2x64 (![] : Fin 0 → Fin S2x16384x4x2x64.rank)
  reducesTo_S2x16384x4x2x64_S_d0_1_2_3_4 : S2x16384x4x2x64.ReducesTo [0, 1, 2, 3, 4] S_
  h_S_ : 0 < S_.numel
  bcast_S_S2x256x4x2x64 : S_.BroadcastsInDim S2x256x4x2x64 (![] : Fin 0 → Fin S2x256x4x2x64.rank)
  reducesTo_S2x256x4x2x64_S_d0_1_2_3_4 : S2x256x4x2x64.ReducesTo [0, 1, 2, 3, 4] S_
  bcast_S_S2x256x4x128 : S_.BroadcastsInDim S2x256x4x128 (![] : Fin 0 → Fin S2x256x4x128.rank)
  reducesTo_S2x256x4x128_S_d0_1_2_3 : S2x256x4x128.ReducesTo [0, 1, 2, 3] S_
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S2x16384x4x128 .f32) (main_arg5 : FVec F S4x64 .f32) (main_v13 : IVec S_ 1) (main_v16 : IVec S2x256x4x128 1) : IVec S_ 1 :=
  let main_c_5 : IVec S_ 1 := constantI S_ 1 1#1
  let main_v17 : IVec S_ 1 := (fun x v => Host.reduce IntOp.andi x v reducesTo_S2x256x4x128_S_d0_1_2_3 h_S_) main_v16 main_c_5
  let main_v18 : IVec S_ 1 := andi main_v13 main_v17
  let main_v19 : FVec F S2x16384x4x128 .f32 := Host.absf main_arg4
  let main_cst_6 : FVec F S_ .f32 := constant S_ .f32 0x7F800000#32
  let main_v20 : FVec F S2x16384x4x128 .f32 := broadcastInDim S2x16384x4x128 ![] bcast_S_S2x16384x4x128 main_cst_6
  let main_v21 : IVec S2x16384x4x128 1 := cmpf .olt main_v19 main_v20
  let main_c_7 : IVec S_ 1 := constantI S_ 1 1#1
  let main_v22 : IVec S_ 1 := (fun x v => Host.reduce IntOp.andi x v reducesTo_S2x16384x4x128_S_d0_1_2_3 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S2x16384x4x2x64 .f32) (main_arg1 : FVec F S2x256x4x2x64 .f32) (main_arg2 : FVec F S2x16384x4x2x64 .f32) (main_arg3 : FVec F S2x256x4x128 .f32) (main_arg4 : FVec F S2x16384x4x128 .f32) (main_arg5 : FVec F S4x64 .f32) (main_arg6 : FVec F S128 .f32) : IVec S_ 1 :=
  let main_v0 : FVec F S2x16384x4x2x64 .f32 := Host.absf main_arg0
  let main_cst : FVec F S_ .f32 := constant S_ .f32 0x7F800000#32
  let main_v1 : FVec F S2x16384x4x2x64 .f32 := broadcastInDim S2x16384x4x2x64 ![] bcast_S_S2x16384x4x2x64 main_cst
  let main_v2 : IVec S2x16384x4x2x64 1 := cmpf .olt main_v0 main_v1
  let main_c : IVec S_ 1 := constantI S_ 1 1#1
  let main_v3 : IVec S_ 1 := (fun x v => Host.reduce IntOp.andi x v reducesTo_S2x16384x4x2x64_S_d0_1_2_3_4 h_S_) main_v2 main_c
  let main_v4 : FVec F S2x256x4x2x64 .f32 := Host.absf main_arg1
  let main_cst_0 : FVec F S_ .f32 := constant S_ .f32 0x7F800000#32
  let main_v5 : FVec F S2x256x4x2x64 .f32 := broadcastInDim S2x256x4x2x64 ![] bcast_S_S2x256x4x2x64 main_cst_0
  let main_v6 : IVec S2x256x4x2x64 1 := cmpf .olt main_v4 main_v5
  let main_c_1 : IVec S_ 1 := constantI S_ 1 1#1
  let main_v7 : IVec S_ 1 := (fun x v => Host.reduce IntOp.andi x v reducesTo_S2x256x4x2x64_S_d0_1_2_3_4 h_S_) main_v6 main_c_1
  let main_v8 : IVec S_ 1 := andi main_v3 main_v7
  let main_v9 : FVec F S2x16384x4x2x64 .f32 := Host.absf main_arg2
  let main_cst_2 : FVec F S_ .f32 := constant S_ .f32 0x7F800000#32
  let main_v10 : FVec F S2x16384x4x2x64 .f32 := broadcastInDim S2x16384x4x2x64 ![] bcast_S_S2x16384x4x2x64 main_cst_2
  let main_v11 : IVec S2x16384x4x2x64 1 := cmpf .olt main_v9 main_v10
  let main_c_3 : IVec S_ 1 := constantI S_ 1 1#1
  let main_v12 : IVec S_ 1 := (fun x v => Host.reduce IntOp.andi x v reducesTo_S2x16384x4x2x64_S_d0_1_2_3_4 h_S_) main_v11 main_c_3
  let main_v13 : IVec S_ 1 := andi main_v8 main_v12
  let main_v14 : FVec F S2x256x4x128 .f32 := Host.absf main_arg3
  let main_cst_4 : FVec F S_ .f32 := constant S_ .f32 0x7F800000#32
  let main_v15 : FVec F S2x256x4x128 .f32 := broadcastInDim S2x256x4x128 ![] bcast_S_S2x256x4x128 main_cst_4
  let main_v16 : IVec S2x256x4x128 1 := cmpf .olt main_v14 main_v15
  fn_part1 (F := F) main_arg4 main_arg5 main_v13 main_v16
-- ==== Pre_gqa_finite.lean ====
abbrev S2x16384x2x4x64 : Shape := ⟨5, ![2, 16384, 2, 4, 64]⟩
abbrev S2x256x2x64 : Shape := ⟨4, ![2, 256, 2, 64]⟩
abbrev S2x16384x2x64 : Shape := ⟨4, ![2, 16384, 2, 64]⟩
abbrev S_ : Shape := ⟨0, ![]⟩

class Facts : Prop where
  bcast_S_S2x16384x2x4x64 : S_.BroadcastsInDim S2x16384x2x4x64 (![] : Fin 0 → Fin S2x16384x2x4x64.rank)
  reducesTo_S2x16384x2x4x64_S_d0_1_2_3_4 : S2x16384x2x4x64.ReducesTo [0, 1, 2, 3, 4] S_
  h_S_ : 0 < S_.numel
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S2x16384x2x64 : S_.BroadcastsInDim S2x16384x2x64 (![] : Fin 0 → Fin S2x16384x2x64.rank)
  reducesTo_S2x16384x2x64_S_d0_1_2_3 : S2x16384x2x64.ReducesTo [0, 1, 2, 3] S_

variable [Facts]

def fn_part1 {F : FTy → Type} [FloatOps F] (main_arg4 : FVec F S2x16384x2x64 .f32) (main_v13 : IVec S_ 1) (main_v16 : IVec S2x256x2x64 1) : IVec S_ 1 :=
  let main_c_5 : IVec S_ 1 := constantI S_ 1 1#1
  let main_v17 : IVec S_ 1 := (fun x v => Host.reduce IntOp.andi x v reducesTo_S2x256x2x64_S_d0_1_2_3 h_S_) main_v16 main_c_5
  let main_v18 : IVec S_ 1 := andi main_v13 main_v17
  let main_v19 : FVec F S2x16384x2x64 .f32 := Host.absf main_arg4
  let main_cst_6 : FVec F S_ .f32 := constant S_ .f32 0x7F800000#32
  let main_v20 : FVec F S2x16384x2x64 .f32 := broadcastInDim S2x16384x2x64 ![] bcast_S_S2x16384x2x64 main_cst_6
  let main_v21 : IVec S2x16384x2x64 1 := cmpf .olt main_v19 main_v20
  let main_c_7 : IVec S_ 1 := constantI S_ 1 1#1
  let main_v22 : IVec S_ 1 := (fun x v => Host.reduce IntOp.andi x v reducesTo_S2x16384x2x64_S_d0_1_2_3 h_S_) main_v21 main_c_7
  let main_v23 : IVec S_ 1 := andi main_v18 main_v22
  main_v23

def fn {F : FTy → Type} [FloatOps F] (main_arg0 : FVec F S2x16384x2x4x64 .f32) (main_arg1 : FVec F S2x256x2x64 .f32) (main_arg2 : FVec F S2x16384x2x64 .f32) (main_arg3 : FVec F S2x256x2x64 .f32) (main_arg4 : FVec F S2x16384x2x64 .f32) : IVec S_ 1 :=
  let main_v0 : FVec F S2x16384x2x4x64 .f32 := Host.absf main_arg0
  let main_cst : FVec F S_ .f32 := constant S_ .f32 0x7F800000#32
  let main_v1 : FVec F S2x16384x2x4x64 .f32 := broadcastInDim S2x16384x2x4x64 ![] bcast_S_S2x16384x2x4x64 main_cst
  let main_v2 : IVec S2x16384x2x4x64 1 := cmpf .olt main_v0 main_v1
  let main_c : IVec S_ 1 := constantI S_ 1 1#1
  let main_v3 : IVec S_ 1 := (fun x v => Host.reduce IntOp.andi x v reducesTo_S2x16384x2x4x64_S_d0_1_2_3_4 h_S_) main_v2 main_c
  let main_v4 : FVec F S2x256x2x64 .f32 := Host.absf main_arg1
  let main_cst_0 : FVec F S_ .f32 := constant S_ .f32 0x7F800000#32
  let main_v5 : FVec F S2x256x2x64 .f32 := broadcastInDim S2x256x2x64 ![] bcast_S_S2x256x2x64 main_cst_0
  let main_v6 : IVec S2x256x2x64 1 := cmpf .olt main_v4 main_v5
  let main_c_1 : IVec S_ 1 := constantI S_ 1 1#1
  let main_v7 : IVec S_ 1 := (fun x v => Host.reduce IntOp.andi x v reducesTo_S2x256x2x64_S_d0_1_2_3 h_S_) main_v6 main_c_1
  let main_v8 : IVec S_ 1 := andi main_v3 main_v7
  let main_v9 : FVec F S2x16384x2x64 .f32 := Host.absf main_arg2
  let main_cst_2 : FVec F S_ .f32 := constant S_ .f32 0x7F800000#32
  let main_v10 : FVec F S2x16384x2x64 .f32 := broadcastInDim S2x16384x2x64 ![] bcast_S_S2x16384x2x64 main_cst_2
  let main_v11 : IVec S2x16384x2x64 1 := cmpf .olt main_v9 main_v10
  let main_c_3 : IVec S_ 1 := constantI S_ 1 1#1
  let main_v12 : IVec S_ 1 := (fun x v => Host.reduce IntOp.andi x v reducesTo_S2x16384x2x64_S_d0_1_2_3 h_S_) main_v11 main_c_3
  let main_v13 : IVec S_ 1 := andi main_v8 main_v12
  let main_v14 : FVec F S2x256x2x64 .f32 := Host.absf main_arg3
  let main_cst_4 : FVec F S_ .f32 := constant S_ .f32 0x7F800000#32
  let main_v15 : FVec F S2x256x2x64 .f32 := broadcastInDim S2x256x2x64 ![] bcast_S_S2x256x2x64 main_cst_4
  let main_v16 : IVec S2x256x2x64 1 := cmpf .olt main_v14 main_v15
  fn_part1 (F := F) main_arg4 main_v13 main_v16
-- ==== Kernel.lean ====
abbrev S2x16384x4x2x64 : Shape := ⟨5, ![2, 16384, 4, 2, 64]⟩
abbrev S2x256x4x2x64 : Shape := ⟨5, ![2, 256, 4, 2, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S2x16384x512 : Shape := ⟨3, ![2, 16384, 512]⟩
abbrev S1x64 : Shape := ⟨2, ![1, 64]⟩
abbrev S64 : Shape := ⟨1, ![64]⟩
abbrev S_ : Shape := ⟨0, ![]⟩
abbrev S2x1x256x4x2x64 : Shape := ⟨6, ![2, 1, 256, 4, 2, 64]⟩
abbrev S2x4x2x1x64x256 : Shape := ⟨6, ![2, 4, 2, 1, 64, 256]⟩
abbrev S2x256x512 : Shape := ⟨3, ![2, 256, 512]⟩
abbrev S2x8x2048x4x2x64 : Shape := ⟨6, ![2, 8, 2048, 4, 2, 64]⟩
abbrev S2x4x2x8x64x2048 : Shape := ⟨6, ![2, 4, 2, 8, 64, 2048]⟩
abbrev S1x128 : Shape := ⟨2, ![1, 128]⟩
abbrev S1x1024x128 : Shape := ⟨3, ![1, 1024, 128]⟩
abbrev S1x1x2x1x64x256 : Shape := ⟨6, ![1, 1, 2, 1, 64, 256]⟩
abbrev S1x256x128 : Shape := ⟨3, ![1, 256, 128]⟩
abbrev S1x1x2x8x64x2048 : Shape := ⟨6, ![1, 1, 2, 8, 64, 2048]⟩
abbrev S1x16384x128 : Shape := ⟨3, ![1, 16384, 128]⟩
abbrev S2x1024x128 : Shape := ⟨3, ![2, 1024, 128]⟩
abbrev S1024x128 : Shape := ⟨2, ![1024, 128]⟩
abbrev S1024x64 : Shape := ⟨2, ![1024, 64]⟩
abbrev S1x1x1x1x64x256 : Shape := ⟨6, ![1, 1, 1, 1, 64, 256]⟩
abbrev S64x256 : Shape := ⟨2, ![64, 256]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S1x1x1x1x64x2048 : Shape := ⟨6, ![1, 1, 1, 1, 64, 2048]⟩
abbrev S64x2048 : Shape := ⟨2, ![64, 2048]⟩
abbrev S1x2048x128 : Shape := ⟨3, ![1, 2048, 128]⟩
abbrev S2048x128 : Shape := ⟨2, ![2048, 128]⟩
abbrev S1024x2048 : Shape := ⟨2, ![1024, 2048]⟩

abbrev nBuf : Space → Nat
  | .hbm => 40
  | .vmem => 17
  | .smem => 0
  | _ => 0

abbrev bufTy : (tb : Table) → Fin (tcTables nBuf tb) → BufTy
  | .hbm, ⟨0, _⟩ => ⟨S2x16384x4x2x64, .f32⟩
  | .hbm, ⟨1, _⟩ => ⟨S2x256x4x2x64, .f32⟩
  | .hbm, ⟨2, _⟩ => ⟨S2x16384x4x2x64, .f32⟩
  | .hbm, ⟨3, _⟩ => ⟨S2x256x4x128, .f32⟩
  | .hbm, ⟨4, _⟩ => ⟨S2x16384x4x128, .f32⟩
  | .hbm, ⟨5, _⟩ => ⟨S4x64, .f32⟩
  | .hbm, ⟨6, _⟩ => ⟨S128, .f32⟩
  | .hbm, ⟨7, _⟩ => ⟨S2x16384x512, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x1x256x4x2x64, .f32⟩
  | .hbm, ⟨28, _⟩ => ⟨S2x4x2x1x64x256, .f32⟩
  | .hbm, ⟨29, _⟩ => ⟨S2x4x2x1x64x256, .bf16⟩
  | .hbm, ⟨30, _⟩ => ⟨S2x256x4x128, .bf16⟩
  | .hbm, ⟨31, _⟩ => ⟨S2x256x512, .bf16⟩
  | .hbm, ⟨32, _⟩ => ⟨S2x8x2048x4x2x64, .f32⟩
  | .hbm, ⟨33, _⟩ => ⟨S2x4x2x8x64x2048, .f32⟩
  | .hbm, ⟨34, _⟩ => ⟨S2x4x2x8x64x2048, .bf16⟩
  | .hbm, ⟨35, _⟩ => ⟨S2x16384x4x128, .bf16⟩
  | .hbm, ⟨36, _⟩ => ⟨S2x16384x512, .bf16⟩
  | .hbm, ⟨37, _⟩ => ⟨S1x128, .f32⟩
  | .hbm, ⟨38, _⟩ => ⟨S1x128, .f32⟩
  | .hbm, ⟨39, _⟩ => ⟨S2x16384x512, .bf16⟩
  | .local _ .vmem, ⟨0, _⟩ => ⟨S1x1024x128, .f32⟩
  | .local _ .vmem, ⟨1, _⟩ => ⟨S1x1024x128, .f32⟩
  | .local _ .vmem, ⟨2, _⟩ => ⟨S1x1x2x1x64x256, .bf16⟩
  | .local _ .vmem, ⟨3, _⟩ => ⟨S1x1x2x1x64x256, .bf16⟩
  | .local _ .vmem, ⟨4, _⟩ => ⟨S1x256x128, .bf16⟩
  | .local _ .vmem, ⟨5, _⟩ => ⟨S1x256x128, .bf16⟩
  | .local _ .vmem, ⟨6, _⟩ => ⟨S1x1x2x8x64x2048, .bf16⟩
  | .local _ .vmem, ⟨7, _⟩ => ⟨S1x1x2x8x64x2048, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x128, .f32⟩
  | .local _ .vmem, ⟨11, _⟩ => ⟨S1x128, .f32⟩
  | .local _ .vmem, ⟨12, _⟩ => ⟨S1x1024x128, .bf16⟩
  | .local _ .vmem, ⟨13, _⟩ => ⟨S1x1024x128, .bf16⟩
  | .local _ .vmem, ⟨14, _⟩ => ⟨S2x1024x128, .f32⟩
  | .local _ .vmem, ⟨15, _⟩ => ⟨S2x1024x128, .f32⟩
  | .local _ .vmem, ⟨16, _⟩ => ⟨S2x1024x128, .f32⟩
  | _, _ => ⟨S2x16384x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c8_i32 : BitVec 32 := 8#32
  let v95 : BitVec 32 := Scalar.addi c0_i32 c8_i32
  let c1_i32 : BitVec 32 := 1#32
  ⟨c0_i32, v95, c1_i32⟩
def k0_off1 (k0_t1 : Fin k0_t1_loop.trips) : Fin 6 → Nat :=
  let c0_99 : Index := 0#32
  let c0_100 : Index := 0#32
  let c0_101 : Index := 0#32
  let c0_i32 : BitVec 32 := 0#32
  let c1_i32 : BitVec 32 := 1#32
  let arg14 : BitVec 32 := Scf.iv c0_i32 c1_i32 k0_t1
  let v131 : Index := Scalar.indexCast arg14
  let c0_102 : Index := 0#32
  let c0_103 : Index := 0#32
  ![0, 0, 0, v131.toNat, 0, 0]
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c2048_i32 : BitVec 32 := 2048#32
  let v134 : BitVec 32 := Scalar.muli arg14 c2048_i32
  v134
def k0_off2 (k0_t1 : Fin k0_t1_loop.trips) : Fin 3 → Nat :=
  let c0_104 : Index := 0#32
  let c0_i32 : BitVec 32 := 0#32
  let c1_i32 : BitVec 32 := 1#32
  let arg14 : BitVec 32 := Scf.iv c0_i32 c1_i32 k0_t1
  let c2048_i32 : BitVec 32 := 2048#32
  let v134 : BitVec 32 := Scalar.muli arg14 c2048_i32
  let v135 : BitVec 32 := v134
  let v136 : Index := Scalar.indexCast v135
  let c0_105 : Index := 0#32
  ![0, v136.toNat, 0]
def k0_off3 (k0_t1 : Fin k0_t1_loop.trips) : Fin 6 → Nat :=
  let c0_128 : Index := 0#32
  let c0_129 : Index := 0#32
  let c1_130 : Index := 1#32
  let c0_i32 : BitVec 32 := 0#32
  let c1_i32 : BitVec 32 := 1#32
  let arg14 : BitVec 32 := Scf.iv c0_i32 c1_i32 k0_t1
  let v173 : Index := Scalar.indexCast arg14
  let c0_131 : Index := 0#32
  let c0_132 : Index := 0#32
  ![0, 0, 1, v173.toNat, 0, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c2048_i32_133 : BitVec 32 := 2048#32
  let v176 : BitVec 32 := Scalar.muli arg14 c2048_i32_133
  v176
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S2x16384x4x2x64 : Shape := ⟨5, ![2, 16384, 4, 2, 64]⟩
abbrev S2x256x4x2x64 : Shape := ⟨5, ![2, 256, 4, 2, 64]⟩
abbrev S2x256x4x128 : Shape := ⟨4, ![2, 256, 4, 128]⟩
abbrev S2x16384x4x128 : Shape := ⟨4, ![2, 16384, 4, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S2x16640x4x2x64 : Shape := ⟨5, ![2, 16640, 4, 2, 64]⟩
abbrev S2x16640x4x128 : Shape := ⟨4, ![2, 16640, 4, 128]⟩
abbrev S2x4x2x16384x16640 : Shape := ⟨5, ![2, 4, 2, 16384, 16640]⟩
abbrev S2x4x2x16384 : Shape := ⟨4, ![2, 4, 2, 16384]⟩
abbrev S2x4x2x16384x1 : Shape := ⟨5, ![2, 4, 2, 16384, 1]⟩
abbrev S2x4x1x16384x16640 : Shape := ⟨5, ![2, 4, 1, 16384, 16640]⟩
abbrev S2x4x16384x16640 : Shape := ⟨4, ![2, 4, 16384, 16640]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x512 : Shape := ⟨3, ![2, 16384, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x4x2x64, .f32⟩
  | .hbm, ⟨1, _⟩ => ⟨S2x256x4x2x64, .f32⟩
  | .hbm, ⟨2, _⟩ => ⟨S2x16384x4x2x64, .f32⟩
  | .hbm, ⟨3, _⟩ => ⟨S2x256x4x128, .f32⟩
  | .hbm, ⟨4, _⟩ => ⟨S2x16384x4x128, .f32⟩
  | .hbm, ⟨5, _⟩ => ⟨S4x64, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x16640x4x2x64, .f32⟩
  | .hbm, ⟨27, _⟩ => ⟨S2x16640x4x128, .f32⟩
  | .hbm, ⟨28, _⟩ => ⟨S2x4x2x16384x16640, .f32⟩
  | .hbm, ⟨29, _⟩ => ⟨S_, .f32⟩
  | .hbm, ⟨30, _⟩ => ⟨S2x4x2x16384x16640, .f32⟩
  | .hbm, ⟨31, _⟩ => ⟨S2x4x2x16384x16640, .f32⟩
  | .hbm, ⟨32, _⟩ => ⟨S_, .f32⟩
  | .hbm, ⟨33, _⟩ => ⟨S2x4x2x16384, .f32⟩
  | .hbm, ⟨34, _⟩ => ⟨S_, .f32⟩
  | .hbm, ⟨35, _⟩ => ⟨S2x4x2x16384, .f32⟩
  | .hbm, ⟨36, _⟩ => ⟨S2x4x2x16384, .f32⟩
  | .hbm, ⟨37, _⟩ => ⟨S2x4x2x16384x1, .f32⟩
  | .hbm, ⟨38, _⟩ => ⟨S2x4x2x16384x16640, .f32⟩
  | .hbm, ⟨39, _⟩ => ⟨S2x4x2x16384x16640, .f32⟩
  | .hbm, ⟨40, _⟩ => ⟨S2x4x2x16384x16640, .f32⟩
  | .hbm, ⟨41, _⟩ => ⟨S_, .f32⟩
  | .hbm, ⟨42, _⟩ => ⟨S2x4x2x16384, .f32⟩
  | .hbm, ⟨43, _⟩ => ⟨S2x4x2x16384x1, .f32⟩
  | .hbm, ⟨44, _⟩ => ⟨S2x4x2x16384x16640, .f32⟩
  | .hbm, ⟨45, _⟩ => ⟨S2x4x2x16384x16640, .f32⟩
  | .hbm, ⟨46, _⟩ => ⟨S2x4x1x16384x16640, .f32⟩
  | .hbm, ⟨47, _⟩ => ⟨S2x4x16384x16640, .f32⟩
  | .hbm, ⟨48, _⟩ => ⟨S2x4x1x16384x16640, .f32⟩
  | .hbm, ⟨49, _⟩ => ⟨S2x4x16384x16640, .f32⟩
  | .hbm, ⟨50, _⟩ => ⟨S2x4x16384x16640, .f32⟩
  | .hbm, ⟨51, _⟩ => ⟨S2x4x16384x16640, .f32⟩
  | .hbm, ⟨52, _⟩ => ⟨S2x4x16384x16640, .f32⟩
  | .hbm, ⟨53, _⟩ => ⟨S2x4x128x16384, .f32⟩
  | .hbm, ⟨54, _⟩ => ⟨S2x16384x4x128, .f32⟩
  | .hbm, ⟨55, _⟩ => ⟨S2x16384x4x128, .f32⟩
  | .hbm, ⟨56, _⟩ => ⟨S_, .f32⟩
  | .hbm, ⟨57, _⟩ => ⟨S2x16384x4, .f32⟩
  | .hbm, ⟨58, _⟩ => ⟨S2x16384x4x1, .f32⟩
  | .hbm, ⟨59, _⟩ => ⟨S_, .f32⟩
  | .hbm, ⟨60, _⟩ => ⟨S2x16384x4x1, .f32⟩
  | .hbm, ⟨61, _⟩ => ⟨S2x16384x4x1, .f32⟩
  | .hbm, ⟨62, _⟩ => ⟨S_, .f32⟩
  | .hbm, ⟨63, _⟩ => ⟨S2x16384x4x1, .f32⟩
  | .hbm, ⟨64, _⟩ => ⟨S2x16384x4x1, .f32⟩
  | .hbm, ⟨65, _⟩ => ⟨S2x16384x4x1, .f32⟩
  | .hbm, ⟨66, _⟩ => ⟨S2x16384x4x128, .f32⟩
  | .hbm, ⟨67, _⟩ => ⟨S2x16384x4x128, .f32⟩
  | .hbm, ⟨68, _⟩ => ⟨S1x1x1x128, .f32⟩
  | .hbm, ⟨69, _⟩ => ⟨S2x16384x4x128, .f32⟩
  | .hbm, ⟨70, _⟩ => ⟨S2x16384x4x128, .f32⟩
  | .hbm, ⟨71, _⟩ => ⟨S_, .f32⟩
  | .hbm, ⟨72, _⟩ => ⟨S2x16384x4x128, .f32⟩
  | .hbm, ⟨73, _⟩ => ⟨S2x16384x4x128, .f32⟩
  | .hbm, ⟨74, _⟩ => ⟨S2x16384x512, .f32⟩
  | .hbm, ⟨75, _⟩ => ⟨S2x16384x512, .bf16⟩
  | _, _ => ⟨S2x16384x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Gqa.lean ====
abbrev S2x16384x2x4x64 : Shape := ⟨5, ![2, 16384, 2, 4, 64]⟩
abbrev S2x256x2x64 : Shape := ⟨4, ![2, 256, 2, 64]⟩
abbrev S2x16384x2x64 : Shape := ⟨4, ![2, 16384, 2, 64]⟩
abbrev S2x16384x512 : Shape := ⟨3, ![2, 16384, 512]⟩
abbrev S2x1x256x2x64 : Shape := ⟨5, ![2, 1, 256, 2, 64]⟩
abbrev S2x2x1x64x256 : Shape := ⟨5, ![2, 2, 1, 64, 256]⟩
abbrev S2x2x256x64 : Shape := ⟨4, ![2, 2, 256, 64]⟩
abbrev S2x8x2048x2x64 : Shape := ⟨5, ![2, 8, 2048, 2, 64]⟩
abbrev S2x2x8x64x2048 : Shape := ⟨5, ![2, 2, 8, 64, 2048]⟩
abbrev S2x2x16384x64 : Shape := ⟨4, ![2, 2, 16384, 64]⟩
abbrev S1x1024x128 : Shape := ⟨3, ![1, 1024, 128]⟩
abbrev S1x1x1x64x256 : Shape := ⟨5, ![1, 1, 1, 64, 256]⟩
abbrev S1x1x256x64 : Shape := ⟨4, ![1, 1, 256, 64]⟩
abbrev S1x1x8x64x2048 : Shape := ⟨5, ![1, 1, 8, 64, 2048]⟩
abbrev S1x1x16384x64 : Shape := ⟨4, ![1, 1, 16384, 64]⟩
abbrev S2x1024x128 : Shape := ⟨3, ![2, 1024, 128]⟩
abbrev S2x1024x64 : Shape := ⟨3, ![2, 1024, 64]⟩
abbrev S1024x128 : Shape := ⟨2, ![1024, 128]⟩
abbrev S1024x64 : Shape := ⟨2, ![1024, 64]⟩
abbrev S64x256 : Shape := ⟨2, ![64, 256]⟩
abbrev S256x64 : Shape := ⟨2, ![256, 64]⟩
abbrev S1024x256 : Shape := ⟨2, ![1024, 256]⟩
abbrev S1024 : Shape := ⟨1, ![1024]⟩
abbrev S1024x1 : Shape := ⟨2, ![1024, 1]⟩
abbrev S1x1024x64 : Shape := ⟨3, ![1, 1024, 64]⟩
abbrev S1x1x1x64x2048 : Shape := ⟨5, ![1, 1, 1, 64, 2048]⟩
abbrev S64x2048 : Shape := ⟨2, ![64, 2048]⟩
abbrev S1x1x2048x64 : Shape := ⟨4, ![1, 1, 2048, 64]⟩
abbrev S2048x64 : Shape := ⟨2, ![2048, 64]⟩
abbrev S1024x2048 : Shape := ⟨2, ![1024, 2048]⟩

abbrev nBuf : Space → Nat
  | .hbm => 17
  | .vmem => 15
  | .smem => 0
  | _ => 0

abbrev bufTy : (tb : Table) → Fin (tcTables nBuf tb) → BufTy
  | .hbm, ⟨0, _⟩ => ⟨S2x16384x2x4x64, .f32⟩
  | .hbm, ⟨1, _⟩ => ⟨S2x256x2x64, .f32⟩
  | .hbm, ⟨2, _⟩ => ⟨S2x16384x2x64, .f32⟩
  | .hbm, ⟨3, _⟩ => ⟨S2x256x2x64, .f32⟩
  | .hbm, ⟨4, _⟩ => ⟨S2x16384x2x64, .f32⟩
  | .hbm, ⟨5, _⟩ => ⟨S2x16384x512, .f32⟩
  | .hbm, ⟨6, _⟩ => ⟨S2x1x256x2x64, .f32⟩
  | .hbm, ⟨7, _⟩ => ⟨S2x2x1x64x256, .f32⟩
  | .hbm, ⟨8, _⟩ => ⟨S2x2x1x64x256, .bf16⟩
  | .hbm, ⟨9, _⟩ => ⟨S2x256x2x64, .bf16⟩
  | .hbm, ⟨10, _⟩ => ⟨S2x2x256x64, .bf16⟩
  | .hbm, ⟨11, _⟩ => ⟨S2x8x2048x2x64, .f32⟩
  | .hbm, ⟨12, _⟩ => ⟨S2x2x8x64x2048, .f32⟩
  | .hbm, ⟨13, _⟩ => ⟨S2x2x8x64x2048, .bf16⟩
  | .hbm, ⟨14, _⟩ => ⟨S2x16384x2x64, .bf16⟩
  | .hbm, ⟨15, _⟩ => ⟨S2x2x16384x64, .bf16⟩
  | .hbm, ⟨16, _⟩ => ⟨S2x16384x512, .bf16⟩
  | .local _ .vmem, ⟨0, _⟩ => ⟨S1x1024x128, .f32⟩
  | .local _ .vmem, ⟨1, _⟩ => ⟨S1x1024x128, .f32⟩
  | .local _ .vmem, ⟨2, _⟩ => ⟨S1x1x1x64x256, .bf16⟩
  | .local _ .vmem, ⟨3, _⟩ => ⟨S1x1x1x64x256, .bf16⟩
  | .local _ .vmem, ⟨4, _⟩ => ⟨S1x1x256x64, .bf16⟩
  | .local _ .vmem, ⟨5, _⟩ => ⟨S1x1x256x64, .bf16⟩
  | .local _ .vmem, ⟨6, _⟩ => ⟨S1x1x8x64x2048, .bf16⟩
  | .local _ .vmem, ⟨7, _⟩ => ⟨S1x1x8x64x2048, .bf16⟩
  | .local _ .vmem, ⟨8, _⟩ => ⟨S1x1x16384x64, .bf16⟩
  | .local _ .vmem, ⟨9, _⟩ => ⟨S1x1x16384x64, .bf16⟩
  | .local _ .vmem, ⟨10, _⟩ => ⟨S1x1024x128, .bf16⟩
  | .local _ .vmem, ⟨11, _⟩ => ⟨S1x1024x128, .bf16⟩
  | .local _ .vmem, ⟨12, _⟩ => ⟨S2x1024x128, .f32⟩
  | .local _ .vmem, ⟨13, _⟩ => ⟨S2x1024x128, .f32⟩
  | .local _ .vmem, ⟨14, _⟩ => ⟨S2x1024x64, .f32⟩
  | _, _ => ⟨S2x16384x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

@[reducible] def k0_t1_loop : Scf.Loop 32 :=
  let c0_i32 : BitVec 32 := 0#32
  let c8_i32 : BitVec 32 := 8#32
  let v97 : BitVec 32 := Scalar.addi c0_i32 c8_i32
  let c1_i32 : BitVec 32 := 1#32
  ⟨c0_i32, v97, c1_i32⟩
def k0_off1 (k0_t1 : Fin k0_t1_loop.trips) : Fin 5 → Nat :=
  let c0_91 : Index := 0#32
  let c0_92 : Index := 0#32
  let c0_i32 : BitVec 32 := 0#32
  let c1_i32 : BitVec 32 := 1#32
  let arg12 : BitVec 32 := Scf.iv c0_i32 c1_i32 k0_t1
  let v115 : Index := Scalar.indexCast arg12
  let c0_93 : Index := 0#32
  let c0_94 : Index := 0#32
  ![0, 0, v115.toNat, 0, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v118 : BitVec 32 := Scalar.muli arg12 c2048_i32
  v118
def k0_off2 (k0_t1 : Fin k0_t1_loop.trips) : Fin 4 → Nat :=
  let c0_95 : Index := 0#32
  let c0_96 : Index := 0#32
  let c0_i32 : BitVec 32 := 0#32
  let c1_i32 : BitVec 32 := 1#32
  let arg12 : BitVec 32 := Scf.iv c0_i32 c1_i32 k0_t1
  let c2048_i32 : BitVec 32 := 2048#32
  let v118 : BitVec 32 := Scalar.muli arg12 c2048_i32
  let v119 : BitVec 32 := v118
  let v120 : Index := Scalar.indexCast v119
  let c0_97 : Index := 0#32
  ![0, 0, v120.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32_124 : BitVec 32 := 2048#32
  let v161 : BitVec 32 := Scalar.muli arg12 c2048_i32_124
  v161
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16384x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaIdeal.lean ====
variable {F : FTy → Type} [FloatOps F] [Named F]
def κ : String → Option EReal := fun
  | "qscale" => some ((8⁻¹ * (Real.log 2)⁻¹ : ℝ) : EReal)
  | _ => none
-- ==== GqaRefIdeal.lean ====
abbrev S2x16384x2x4x64 : Shape := ⟨5, ![2, 16384, 2, 4, 64]⟩
abbrev S2x256x2x64 : Shape := ⟨4, ![2, 256, 2, 64]⟩
abbrev S2x16384x2x64 : Shape := ⟨4, ![2, 16384, 2, 64]⟩
abbrev S2x16640x2x64 : Shape := ⟨4, ![2, 16640, 2, 64]⟩
abbrev S2x2x16640x16384x4 : Shape := ⟨5, ![2, 2, 16640, 16384, 4]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x16384x512 : Shape := ⟨3, ![2, 16384, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x2x4x64, .f32⟩
  | .hbm, ⟨1, _⟩ => ⟨S2x256x2x64, .f32⟩
  | .hbm, ⟨2, _⟩ => ⟨S2x16384x2x64, .f32⟩
  | .hbm, ⟨3, _⟩ => ⟨S2x256x2x64, .f32⟩
  | .hbm, ⟨4, _⟩ => ⟨S2x16384x2x64, .f32⟩
  | .hbm, ⟨5, _⟩ => ⟨S2x16640x2x64, .f32⟩
  | .hbm, ⟨6, _⟩ => ⟨S2x16640x2x64, .f32⟩
  | .hbm, ⟨7, _⟩ => ⟨S2x2x16640x16384x4, .f32⟩
  | .hbm, ⟨8, _⟩ => ⟨S2x2x4x16384x16640, .f32⟩
  | .hbm, ⟨9, _⟩ => ⟨S_, .f32⟩
  | .hbm, ⟨10, _⟩ => ⟨S2x2x4x16384x16640, .f32⟩
  | .hbm, ⟨11, _⟩ => ⟨S2x2x4x16384x16640, .f32⟩
  | .hbm, ⟨12, _⟩ => ⟨S_, .f32⟩
  | .hbm, ⟨13, _⟩ => ⟨S2x2x4x16384, .f32⟩
  | .hbm, ⟨14, _⟩ => ⟨S_, .f32⟩
  | .hbm, ⟨15, _⟩ => ⟨S2x2x4x16384, .f32⟩
  | .hbm, ⟨16, _⟩ => ⟨S2x2x4x16384, .f32⟩
  | .hbm, ⟨17, _⟩ => ⟨S2x2x4x16384x1, .f32⟩
  | .hbm, ⟨18, _⟩ => ⟨S2x2x4x16384x16640, .f32⟩
  | .hbm, ⟨19, _⟩ => ⟨S2x2x4x16384x16640, .f32⟩
  | .hbm, ⟨20, _⟩ => ⟨S2x2x4x16384x16640, .f32⟩
  | .hbm, ⟨21, _⟩ => ⟨S_, .f32⟩
  | .hbm, ⟨22, _⟩ => ⟨S2x2x4x16384, .f32⟩
  | .hbm, ⟨23, _⟩ => ⟨S2x2x4x16384x1, .f32⟩
  | .hbm, ⟨24, _⟩ => ⟨S2x2x4x16384x16640, .f32⟩
  | .hbm, ⟨25, _⟩ => ⟨S2x2x4x16384x16640, .f32⟩
  | .hbm, ⟨26, _⟩ => ⟨S2x2x64x4x16384, .f32⟩
  | .hbm, ⟨27, _⟩ => ⟨S2x16384x2x4x64, .f32⟩
  | .hbm, ⟨28, _⟩ => ⟨S2x16384x512, .f32⟩
  | .hbm, ⟨29, _⟩ => ⟨S2x16384x512, .bf16⟩
  | _, _ => ⟨S2x16384x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Final.lean ====
abbrev S2x16384x1024 : Shape := ⟨3, ![2, 16384, 1024]⟩
abbrev S1024 : Shape := ⟨1, ![1024]⟩
abbrev S_ : Shape := ⟨0, ![]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S_, .f32⟩
  | .hbm, ⟨3, _⟩ => ⟨S2x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S2x16384x1024 : Shape := ⟨3, ![2, 16384, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x1024, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x1024, .f32⟩
  | .hbm, ⟨14, _⟩ => ⟨S2x16384x1024, .f32⟩
  | .hbm, ⟨15, _⟩ => ⟨S1x1x1024, .f32⟩
  | .hbm, ⟨16, _⟩ => ⟨S2x16384x1024, .f32⟩
  | .hbm, ⟨17, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proj.lean ====
abbrev S2x16384x1024 : Shape := ⟨3, ![2, 16384, 1024]⟩
abbrev S1024 : Shape := ⟨1, ![1024]⟩
abbrev S2x1024 : Shape := ⟨2, ![2, 1024]⟩
abbrev S1024x10000 : Shape := ⟨2, ![1024, 10000]⟩
abbrev S1024x512 : Shape := ⟨2, ![1024, 512]⟩
abbrev S1024x1536 : Shape := ⟨2, ![1024, 1536]⟩
abbrev S1024x16 : Shape := ⟨2, ![1024, 16]⟩
abbrev S1024x256 : Shape := ⟨2, ![1024, 256]⟩
abbrev S1024x4096 : Shape := ⟨2, ![1024, 4096]⟩
abbrev S_ : Shape := ⟨0, ![]⟩
abbrev S1024x240 : Shape := ⟨2, ![1024, 240]⟩
abbrev S1024x10240 : Shape := ⟨2, ![1024, 10240]⟩
abbrev S1x1024 : Shape := ⟨2, ![1, 1024]⟩
abbrev S2x1x1024 : Shape := ⟨3, ![2, 1, 1024]⟩
abbrev S2x16384x10240 : Shape := ⟨3, ![2, 16384, 10240]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 23
  | .vmem => 12
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x10000, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x1536, .f32⟩
  | .hbm, ⟨9, _⟩ => ⟨S1024x512, .f32⟩
  | .hbm, ⟨10, _⟩ => ⟨S1024x16, .f32⟩
  | .hbm, ⟨11, _⟩ => ⟨S1024x512, .f32⟩
  | .hbm, ⟨12, _⟩ => ⟨S1024x256, .f32⟩
  | .hbm, ⟨13, _⟩ => ⟨S1024x1536, .f32⟩
  | .hbm, ⟨14, _⟩ => ⟨S1024x4096, .f32⟩
  | .hbm, ⟨15, _⟩ => ⟨S_, .f32⟩
  | .hbm, ⟨16, _⟩ => ⟨S1024x240, .f32⟩
  | .hbm, ⟨17, _⟩ => ⟨S1024x10240, .f32⟩
  | .hbm, ⟨18, _⟩ => ⟨S1024x10240, .bf16⟩
  | .hbm, ⟨19, _⟩ => ⟨S1x1024, .f32⟩
  | .hbm, ⟨20, _⟩ => ⟨S2x1x1024, .f32⟩
  | .hbm, ⟨21, _⟩ => ⟨S2x1x1024, .f32⟩
  | .hbm, ⟨22, _⟩ => ⟨S2x16384x10240, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 10], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ProjRefIdeal.lean ====
abbrev S2x16384x1024 : Shape := ⟨3, ![2, 16384, 1024]⟩
abbrev S1024 : Shape := ⟨1, ![1024]⟩
abbrev S2x1024 : Shape := ⟨2, ![2, 1024]⟩
abbrev S1024x10000 : Shape := ⟨2, ![1024, 10000]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x10000 : Shape := ⟨3, ![2, 16384, 10000]⟩
abbrev S2x16384x512 : Shape := ⟨3, ![2, 16384, 512]⟩
abbrev S2x16384x1536 : Shape := ⟨3, ![2, 16384, 1536]⟩
abbrev S2x16384x16 : Shape := ⟨3, ![2, 16384, 16]⟩
abbrev S2x16384x256 : Shape := ⟨3, ![2, 16384, 256]⟩
abbrev S2x16384x4096 : Shape := ⟨3, ![2, 16384, 4096]⟩
abbrev S2x16384x240 : Shape := ⟨3, ![2, 16384, 240]⟩
abbrev S2x16384x10240 : Shape := ⟨3, ![2, 16384, 10240]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x10000, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x10000, .f32⟩
  | .hbm, ⟨31, _⟩ => ⟨S2x16384x512, .f32⟩
  | .hbm, ⟨32, _⟩ => ⟨S2x16384x512, .f32⟩
  | .hbm, ⟨33, _⟩ => ⟨S2x16384x512, .f32⟩
  | .hbm, ⟨34, _⟩ => ⟨S2x16384x1536, .f32⟩
  | .hbm, ⟨35, _⟩ => ⟨S2x16384x512, .f32⟩
  | .hbm, ⟨36, _⟩ => ⟨S2x16384x16, .f32⟩
  | .hbm, ⟨37, _⟩ => ⟨S2x16384x512, .f32⟩
  | .hbm, ⟨38, _⟩ => ⟨S2x16384x256, .f32⟩
  | .hbm, ⟨39, _⟩ => ⟨S2x16384x1536, .f32⟩
  | .hbm, ⟨40, _⟩ => ⟨S2x16384x4096, .f32⟩
  | .hbm, ⟨41, _⟩ => ⟨S_, .f32⟩
  | .hbm, ⟨42, _⟩ => ⟨S2x16384x240, .f32⟩
  | .hbm, ⟨43, _⟩ => ⟨S2x16384x10240, .f32⟩
  | .hbm, ⟨44, _⟩ => ⟨S2x16384x10240, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Merge.lean ====
abbrev S2x16384x512 : Shape := ⟨3, ![2, 16384, 512]⟩
abbrev S2x16384x4x128 : Shape := ⟨4, ![2, 16384, 4, 128]⟩
abbrev S2x16384x4096 : Shape := ⟨3, ![2, 16384, 4096]⟩
abbrev S128 : Shape := ⟨1, ![128]⟩
abbrev S4x512x1024 : Shape := ⟨3, ![4, 512, 1024]⟩
abbrev S1024x1024 : Shape := ⟨2, ![1024, 1024]⟩
abbrev S2x16384x1024 : Shape := ⟨3, ![2, 16384, 1024]⟩
abbrev S2x1024 : Shape := ⟨2, ![2, 1024]⟩
abbrev S_ : Shape := ⟨0, ![]⟩
abbrev S2x16384x3072 : Shape := ⟨3, ![2, 16384, 3072]⟩
abbrev S2x16384x2560 : Shape := ⟨3, ![2, 16384, 2560]⟩
abbrev S2x16384x10240 : Shape := ⟨3, ![2, 16384, 10240]⟩
abbrev S1x128 : Shape := ⟨2, ![1, 128]⟩
abbrev S2x1x1024 : Shape := ⟨3, ![2, 1, 1024]⟩
abbrev S1x512x512 : Shape := ⟨3, ![1, 512, 512]⟩
abbrev S1x512x4096 : Shape := ⟨3, ![1, 512, 4096]⟩
abbrev S1x512x1024 : Shape := ⟨3, ![1, 512, 1024]⟩
abbrev S1x1x1024 : Shape := ⟨3, ![1, 1, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 29
  | .vmem => 23
  | .smem => 0
  | _ => 0

abbrev bufTy : (tb : Table) → Fin (tcTables nBuf tb) → BufTy
  | .hbm, ⟨0, _⟩ => ⟨S2x16384x512, .f32⟩
  | .hbm, ⟨1, _⟩ => ⟨S2x16384x4x128, .f32⟩
  | .hbm, ⟨2, _⟩ => ⟨S2x16384x4x128, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x4096, .f32⟩
  | .hbm, ⟨7, _⟩ => ⟨S128, .f32⟩
  | .hbm, ⟨8, _⟩ => ⟨S4x512x1024, .f32⟩
  | .hbm, ⟨9, _⟩ => ⟨S1024x1024, .f32⟩
  | .hbm, ⟨10, _⟩ => ⟨S2x16384x1024, .f32⟩
  | .hbm, ⟨11, _⟩ => ⟨S2x1024, .f32⟩
  | .hbm, ⟨12, _⟩ => ⟨S2x16384x4096, .bf16⟩
  | .hbm, ⟨13, _⟩ => ⟨S_, .bf16⟩
  | .hbm, ⟨14, _⟩ => ⟨S2x16384x3072, .bf16⟩
  | .hbm, ⟨15, _⟩ => ⟨S2x16384x512, .bf16⟩
  | .hbm, ⟨16, _⟩ => ⟨S_, .bf16⟩
  | .hbm, ⟨17, _⟩ => ⟨S2x16384x2560, .bf16⟩
  | .hbm, ⟨18, _⟩ => ⟨S2x16384x10240, .bf16⟩
  | .hbm, ⟨19, _⟩ => ⟨S2x16384x512, .bf16⟩
  | .hbm, ⟨20, _⟩ => ⟨S2x16384x512, .f32⟩
  | .hbm, ⟨21, _⟩ => ⟨S2x16384x512, .f32⟩
  | .hbm, ⟨22, _⟩ => ⟨S2x16384x512, .bf16⟩
  | .hbm, ⟨23, _⟩ => ⟨S2x16384x512, .bf16⟩
  | .hbm, ⟨24, _⟩ => ⟨S4x512x1024, .bf16⟩
  | .hbm, ⟨25, _⟩ => ⟨S1024x1024, .bf16⟩
  | .hbm, ⟨26, _⟩ => ⟨S1x128, .f32⟩
  | .hbm, ⟨27, _⟩ => ⟨S2x1x1024, .f32⟩
  | .hbm, ⟨28, _⟩ => ⟨S2x16384x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x4096, .bf16⟩
  | .local _ .vmem, ⟨13, _⟩ => ⟨S1x512x4096, .bf16⟩
  | .local _ .vmem, ⟨14, _⟩ => ⟨S1x128, .f32⟩
  | .local _ .vmem, ⟨15, _⟩ => ⟨S4x512x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x512x1024, .f32⟩
  | .local _ .vmem, ⟨22, _⟩ => ⟨S1x512x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, arg1.toNat, c14_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S2x16384x512 : Shape := ⟨3, ![2, 16384, 512]⟩
abbrev S2x16384x4x128 : Shape := ⟨4, ![2, 16384, 4, 128]⟩
abbrev S2x16384x4096 : Shape := ⟨3, ![2, 16384, 4096]⟩
abbrev S128 : Shape := ⟨1, ![128]⟩
abbrev S4x512x1024 : Shape := ⟨3, ![4, 512, 1024]⟩
abbrev S1024x1024 : Shape := ⟨2, ![1024, 1024]⟩
abbrev S2x16384x1024 : Shape := ⟨3, ![2, 16384, 1024]⟩
abbrev S2x1024 : Shape := ⟨2, ![2, 1024]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x16384x1x512 : Shape := ⟨4, ![2, 16384, 1, 512]⟩
abbrev S2x16384x4x512 : Shape := ⟨4, ![2, 16384, 4, 512]⟩
abbrev S2x16384x4x1024 : Shape := ⟨4, ![2, 16384, 4, 1024]⟩
abbrev S4x1024x2x16384 : Shape := ⟨4, ![4, 1024, 2, 16384]⟩
abbrev S2x1x1024 : Shape := ⟨3, ![2, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x4x128, .f32⟩
  | .hbm, ⟨2, _⟩ => ⟨S2x16384x4x128, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x4096, .f32⟩
  | .hbm, ⟨7, _⟩ => ⟨S128, .f32⟩
  | .hbm, ⟨8, _⟩ => ⟨S4x512x1024, .f32⟩
  | .hbm, ⟨9, _⟩ => ⟨S1024x1024, .f32⟩
  | .hbm, ⟨10, _⟩ => ⟨S2x16384x1024, .f32⟩
  | .hbm, ⟨11, _⟩ => ⟨S2x1024, .f32⟩
  | .hbm, ⟨12, _⟩ => ⟨S2x16384x4x128, .f32⟩
  | .hbm, ⟨13, _⟩ => ⟨S2x16384x4x128, .f32⟩
  | .hbm, ⟨14, _⟩ => ⟨S_, .f32⟩
  | .hbm, ⟨15, _⟩ => ⟨S2x16384x4, .f32⟩
  | .hbm, ⟨16, _⟩ => ⟨S2x16384x4x1, .f32⟩
  | .hbm, ⟨17, _⟩ => ⟨S_, .f32⟩
  | .hbm, ⟨18, _⟩ => ⟨S2x16384x4x1, .f32⟩
  | .hbm, ⟨19, _⟩ => ⟨S2x16384x4x1, .f32⟩
  | .hbm, ⟨20, _⟩ => ⟨S_, .f32⟩
  | .hbm, ⟨21, _⟩ => ⟨S2x16384x4x1, .f32⟩
  | .hbm, ⟨22, _⟩ => ⟨S2x16384x4x1, .f32⟩
  | .hbm, ⟨23, _⟩ => ⟨S2x16384x4x1, .f32⟩
  | .hbm, ⟨24, _⟩ => ⟨S2x16384x4x128, .f32⟩
  | .hbm, ⟨25, _⟩ => ⟨S2x16384x4x128, .f32⟩
  | .hbm, ⟨26, _⟩ => ⟨S1x1x1x128, .f32⟩
  | .hbm, ⟨27, _⟩ => ⟨S2x16384x4x128, .f32⟩
  | .hbm, ⟨28, _⟩ => ⟨S2x16384x4x128, .f32⟩
  | .hbm, ⟨29, _⟩ => ⟨S2x16384x512, .f32⟩
  | .hbm, ⟨30, _⟩ => ⟨S2x16384x512, .f32⟩
  | .hbm, ⟨31, _⟩ => ⟨S_, .f32⟩
  | .hbm, ⟨32, _⟩ => ⟨S2x16384x512, .f32⟩
  | .hbm, ⟨33, _⟩ => ⟨S2x16384x512, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S2x16384x4x128, .f32⟩
  | .hbm, ⟨38, _⟩ => ⟨S2x16384x4x128, .f32⟩
  | .hbm, ⟨39, _⟩ => ⟨S2x16384x512, .f32⟩
  | .hbm, ⟨40, _⟩ => ⟨S2x16384x1x512, .f32⟩
  | .hbm, ⟨41, _⟩ => ⟨S2x16384x1x512, .f32⟩
  | .hbm, ⟨42, _⟩ => ⟨S2x16384x1x512, .f32⟩
  | .hbm, ⟨43, _⟩ => ⟨S2x16384x1x512, .f32⟩
  | .hbm, ⟨44, _⟩ => ⟨S2x16384x4x512, .f32⟩
  | .hbm, ⟨45, _⟩ => ⟨S2x16384x4x1024, .f32⟩
  | .hbm, ⟨46, _⟩ => ⟨S2x16384x4x1024, .f32⟩
  | .hbm, ⟨47, _⟩ => ⟨S2x16384x4x1024, .f32⟩
  | .hbm, ⟨48, _⟩ => ⟨S_, .f32⟩
  | .hbm, ⟨49, _⟩ => ⟨S2x16384x4x1024, .f32⟩
  | .hbm, ⟨50, _⟩ => ⟨S2x16384x4x1024, .f32⟩
  | .hbm, ⟨51, _⟩ => ⟨S_, .f32⟩
  | .hbm, ⟨52, _⟩ => ⟨S2x16384x4x1024, .f32⟩
  | .hbm, ⟨53, _⟩ => ⟨S2x16384x4x1024, .f32⟩
  | .hbm, ⟨54, _⟩ => ⟨S4x1024x2x16384, .f32⟩
  | .hbm, ⟨55, _⟩ => ⟨S2x16384x4x1024, .f32⟩
  | .hbm, ⟨56, _⟩ => ⟨S2x16384x4x1024, .f32⟩
  | .hbm, ⟨57, _⟩ => ⟨S_, .f32⟩
  | .hbm, ⟨58, _⟩ => ⟨S2x16384x1024, .f32⟩
  | .hbm, ⟨59, _⟩ => ⟨S2x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proof.Softmax.lean ====
/-
  One pass over the keys, at one query row: a running base `μ`, the sum `∑ 2^(s k - μ)` and the weighted sum
  `∑ 2^(s k - μ) v k` of the keys seen so far. Which real the base is does not matter: the quotient of the two
  sums is the same at every base.
-/
module

public import Idealize.ShloMosaic.PureOps.Ideal
public import Idealize.ShloMosaic.Lib.Pointwise

@[expose] public section

noncomputable section

open Idealize.ShloMosaic
open scoped BigOperators

namespace Cert.Softmax

/-- A real sum, read as an extended real, is the sum of the terms read so. -/
theorem coe_sum {ι : Type*} (t : Finset ι) (f : ι → ℝ) : ((∑ k ∈ t, f k : ℝ) : EReal) = ∑ k ∈ t, (f k : EReal) := by
  classical
  induction t using Finset.induction_on with
  | empty => simp
  | insert a u ha ih => rw [Finset.sum_insert ha, Finset.sum_insert ha, EReal.coe_add, ih]

/-- A maximum of reals over a non-empty set, folded from `-∞` or from a real, is a real. -/
theorem fold_max_real {ι : Type*} (t : Finset ι) (b : EReal) (hb : b ≠ ⊤) (f : ι → ℝ) :
    t.fold max b (fun k => (f k : EReal)) ≠ ⊤ := by
  classical
  induction t using Finset.induction_on with
  | empty => simpa
  | insert a u ha ih =>
    rw [Finset.fold_insert ha]
    rcases max_choice (f a : EReal) (u.fold max b fun k => (f k : EReal)) with h | h <;> rw [h]
    · exact EReal.coe_ne_top _
    · exact ih

theorem le_fold_max {ι : Type*} (t : Finset ι) (b : EReal) (f : ι → EReal) (k : ι) (hk : k ∈ t) : f k ≤ t.fold max b f :=
  (Finset.le_fold_max _).2 (Or.inr ⟨k, hk, le_rfl⟩)

/-- The maximum over a non-empty `Fin T`, from `-∞`. -/
theorem fold_max_fin {T : ℕ} (hT : 0 < T) (f : Fin T → ℝ) :
    ∃ μ : ℝ, Finset.univ.fold max (⊥ : EReal) (fun k => (f k : EReal)) = μ := by
  have h1 := fold_max_real Finset.univ (⊥ : EReal) (by simp) f
  have h2 : Finset.univ.fold max (⊥ : EReal) (fun k => (f k : EReal)) ≠ ⊥ := fun h => by
    have := le_fold_max Finset.univ (⊥ : EReal) (fun k => (f k : EReal)) ⟨0, hT⟩ (Finset.mem_univ _)
    rw [h] at this
    exact EReal.coe_ne_bot _ (le_bot_iff.mp this)
  exact ⟨_, (EReal.coe_toReal h1 h2).symm⟩

/-- `2^x` of a real. -/
def p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

theorem exp2_coe (x : ℝ) : Ideal.exp2 (x : EReal) = (p2 x : EReal) := rfl

theorem exp2_sub (x y : ℝ) : Ideal.exp2 ((x : EReal) - (y : EReal)) = (p2 (x - y) : EReal) := by
  rw [← EReal.coe_sub, exp2_coe]

theorem exp2_bot_sub (y : ℝ) : Ideal.exp2 ((⊥ : EReal) - (y : EReal)) = 0 := by
  rw [EReal.bot_sub]; rfl

/-- The sum of the first `n` keys' weights at base `μ`. -/
def wsum (s : ℕ → ℝ) (n : ℕ) (μ : ℝ) : ℝ := ∑ k ∈ Finset.range n, p2 (s k - μ)
/-- The weighted sum of the first `n` keys' values at base `μ`. -/
def vsum (s v : ℕ → ℝ) (n : ℕ) (μ : ℝ) : ℝ := ∑ k ∈ Finset.range n, p2 (s k - μ) * v k

/-- What the scratch holds at one row (and lane) after the first `n` keys: the base, the sum of the weights, the
    weighted sum of the values; before any key the base is `-∞` and both sums are 0. -/
def St (s v : ℕ → ℝ) (n : ℕ) (m l a : EReal) : Prop :=
  (n = 0 ∧ m = ⊥ ∧ l = 0 ∧ a = 0) ∨ (0 < n ∧ ∃ μ : ℝ, m = μ ∧ l = wsum s n μ ∧ a = vsum s v n μ)

theorem wsum_rebase (s : ℕ → ℝ) (n : ℕ) (μ ν : ℝ) : p2 (μ - ν) * wsum s n μ = wsum s n ν := by
  unfold wsum
  rw [Finset.mul_sum]
  refine Finset.sum_congr rfl fun k _ => ?_
  rw [← p2_add]; congr 1; ring

theorem vsum_rebase (s v : ℕ → ℝ) (n : ℕ) (μ ν : ℝ) : p2 (μ - ν) * vsum s v n μ = vsum s v n ν := by
  unfold vsum
  rw [Finset.mul_sum]
  refine Finset.sum_congr rfl fun k _ => ?_
  rw [← mul_assoc, ← p2_add]; congr 2; ring

theorem wsum_append (s : ℕ → ℝ) (n T : ℕ) (μ : ℝ) : wsum s (n + T) μ = wsum s n μ + ∑ k : Fin T, p2 (s (n + k) - μ) := by
  unfold wsum
  rw [Finset.sum_range_add, Finset.sum_range (fun k => p2 (s (n + k) - μ))]

theorem vsum_append (s v : ℕ → ℝ) (n T : ℕ) (μ : ℝ) :
    vsum s v (n + T) μ = vsum s v n μ + ∑ k : Fin T, p2 (s (n + k) - μ) * v (n + k) := by
  unfold vsum
  rw [Finset.sum_range_add, Finset.sum_range (fun k => p2 (s (n + k) - μ) * v (n + k))]

theorem wsum_pos (s : ℕ → ℝ) (n : ℕ) (hn : 0 < n) (μ : ℝ) : 0 < wsum s n μ :=
  Finset.sum_pos (fun _ _ => p2_pos _) (Finset.nonempty_range_iff.mpr hn.ne')

/-- ONE STEP over a chunk of `T` keys: the new base `max m (max of the chunk)`, the old sums rescaled to it and the
    chunk's added. -/
theorem step (s v : ℕ → ℝ) (n T : ℕ) (hT : 0 < T) (m l a : EReal) (h : St s v n m l a)
    (sc vc : Fin T → EReal) (hs : ∀ k : Fin T, sc k = (s (n + k) : EReal)) (hv : ∀ k : Fin T, vc k = (v (n + k) : EReal))
    (m' : EReal) (hm' : m' = max m (Finset.univ.fold max (⊥ : EReal) sc)) :
    St s v (n + T) m' (Ideal.exp2 (m - m') * l + ∑ k, Ideal.exp2 (sc k - m'))
      (a * Ideal.exp2 (m - m') + ∑ k, Ideal.exp2 (sc k - m') * vc k) := by
  obtain ⟨ν, hν⟩ := fold_max_fin hT fun k : Fin T => s (n + k)
  have hsc : sc = fun k : Fin T => (s (n + k) : EReal) := funext hs
  have hvc : vc = fun k : Fin T => (v (n + k) : EReal) := funext hv
  subst hsc; subst hvc
  rw [hν] at hm'
  right
  refine ⟨by omega, ?_⟩
  rcases h with ⟨hn, hm, hl, ha⟩ | ⟨hn, μ, hm, hl, ha⟩
  · subst hm hl ha hn
    rw [max_eq_right bot_le] at hm'
    subst hm'
    refine ⟨ν, rfl, ?_, ?_⟩
    · rw [mul_zero, zero_add, wsum_append]
      simp only [exp2_sub, wsum, Finset.range_zero, Finset.sum_empty, zero_add, coe_sum]
    · rw [zero_mul, zero_add, vsum_append]
      simp only [exp2_sub, vsum, Finset.range_zero, Finset.sum_empty, zero_add, coe_sum, EReal.coe_mul]
  · subst hm hl ha
    rw [← EReal.coe_strictMono.monotone.map_max] at hm'
    subst hm'
    refine ⟨max μ ν, rfl, ?_, ?_⟩
    · simp only [exp2_sub]
      rw [← EReal.coe_mul, wsum_rebase, wsum_append, EReal.coe_add, coe_sum]
    · simp only [exp2_sub]
      rw [mul_comm, ← EReal.coe_mul, vsum_rebase, vsum_append, EReal.coe_add, coe_sum]
      simp only [EReal.coe_mul]

/-- The quotient of the two sums does not depend on the base. -/
theorem quot_base (s v : ℕ → ℝ) (n : ℕ) (μ ν : ℝ) : vsum s v n μ / wsum s n μ = vsum s v n ν / wsum s n ν := by
  rw [← vsum_rebase s v n μ ν, ← wsum_rebase s n μ ν, mul_div_mul_left _ _ (p2_pos _).ne']

/-- The attention of one row: the values' mean with weights `2^(s k)`. -/
def att (s v : ℕ → ℝ) (n : ℕ) : ℝ := vsum s v n 0 / wsum s n 0

/-- What the last division leaves. -/
theorem St.div {s v : ℕ → ℝ} {n : ℕ} {m l a : EReal} (h : St s v n m l a) (hn : 0 < n) :
    Ideal.div a l = (att s v n : EReal) := by
  rcases h with ⟨h0, _⟩ | ⟨_, μ, _, rfl, rfl⟩
  · omega
  · rw [Ideal.div_coe (wsum_pos s n hn μ).ne', ← EReal.coe_mul, mul_one_div, quot_base s v n μ 0]; rfl

end Cert.Softmax

end
-- ==== Proof.Pays.lean ====
/-
  What each stored value of one chunk step is at one row and lane: the running maximum joined with the chunk's scores,
  the sum of the weights rescaled and extended, the weighted sum of the values rescaled and extended. Stated at a row whose
  maximum is the same in all 128 lanes, as the kernel keeps it.
-/
module

public import proofs.«01_k».proof.Proof.Gen.KernelIdeal.Value
public import Idealize.ShloMosaic.Lib.Pointwise
public import Idealize.ShloMosaic.Lib.Pipeline.ValueKit
public import proofs.«01_k».proof.Proof.Softmax

@[expose] public section

set_option maxRecDepth 16384

noncomputable section

namespace Cert.KernelIdeal.Gen

open Idealize.ShloMosaic Idealize.ShloMosaic.TcCoe Idealize.SL.Sem
open Idealize.ShloMosaic.Pipeline (Dat)

theorem bot_word : Ideal.ofBits FTy.f32 4286578688#32 = ⊥ := by simp [Ideal.ofBits, Ideal.ieee]

/-- Sixteen copies of a block of 128 columns side by side, read in a row where the block is constant. -/
theorem tiled16 (x : FVec Ideal S1024x128 .f32) (h) (r : Fin 1024) (j : Fin 2048) (w : EReal) (hx : ∀ e : Fin 128, x (ix2 r e) = w) :
    concatenate S1024x2048 1 [⟨S1024x128, x⟩, ⟨S1024x128, x⟩, ⟨S1024x128, x⟩, ⟨S1024x128, x⟩, ⟨S1024x128, x⟩, ⟨S1024x128, x⟩, ⟨S1024x128, x⟩, ⟨S1024x128, x⟩,
      ⟨S1024x128, x⟩, ⟨S1024x128, x⟩, ⟨S1024x128, x⟩, ⟨S1024x128, x⟩, ⟨S1024x128, x⟩, ⟨S1024x128, x⟩, ⟨S1024x128, x⟩, ⟨S1024x128, x⟩] h (ix2 r j) = w := by
  rw [← hx ⟨j.val % 128, Nat.mod_lt _ (by norm_num)⟩]
  refine concatenate_replicate_apply (t := S1024x2048) (s₁ := S1024x128) 1 16 x h rfl (ix2 r j) (ix2 r ⟨j.val % 128, Nat.mod_lt _ (by norm_num)⟩) rfl ?_
  intro b hb
  match b, hb with
  | ⟨0, _⟩, _ => rfl
  | ⟨1, _⟩, hb => exact absurd rfl hb

/-- Two copies, likewise. -/
theorem tiled2 (x : FVec Ideal S1024x128 .f32) (h) (r : Fin 1024) (j : Fin 256) (w : EReal) (hx : ∀ e : Fin 128, x (ix2 r e) = w) :
    concatenate S1024x256 1 [⟨S1024x128, x⟩, ⟨S1024x128, x⟩] h (ix2 r j) = w := by
  rw [← hx ⟨j.val % 128, Nat.mod_lt _ (by norm_num)⟩]
  refine concatenate_replicate_apply (t := S1024x256) (s₁ := S1024x128) 1 2 x h rfl (ix2 r j) (ix2 r ⟨j.val % 128, Nat.mod_lt _ (by norm_num)⟩) rfl ?_
  intro b hb
  match b, hb with
  | ⟨0, _⟩, _ => rfl
  | ⟨1, _⟩, hb => exact absurd rfl hb

/-- The score of row `r` against key `j` of a chunk of 2048. -/
def scL (q : FVec Ideal S1024x64 .bf16) (k : Vec Ideal S1x1x1x1x64x2048 .bf16) (r : Fin 1024) (j : Fin 2048) : EReal :=
  ∑ d : Fin 64, q (ix2 r d) * k (ix6 0 0 0 0 d j)
/-- The score of row `r` against key `j` of the chunk of 256. -/
def scC (q : FVec Ideal S1024x64 .bf16) (k : Vec Ideal S1x1x1x1x64x256 .bf16) (r : Fin 1024) (j : Fin 256) : EReal :=
  ∑ d : Fin 64, q (ix2 r d) * k (ix6 0 0 0 0 d j)
/-- The running maximum joined with the chunk's. -/
def mx {T : ℕ} (mm : EReal) (sc : Fin T → EReal) : EReal := max mm (Finset.univ.fold max ⊥ sc)

theorem sc_L0 (q : FVec Ideal S1024x64 .bf16) (k : Vec Ideal S1x1x1x1x64x2048 .bf16) (r : Fin 1024) (j : Fin 2048) :
    k0_pay3 q k (ix2 r j) = scL q k r j := by
  pointwise [k0_pay3]; rfl

theorem mn_L0 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay5 q k m (ix2 r e) = mx mm (scL q k r) := by
  pointwise [k0_pay5, k0_pay4]
  rw [hm, bot_word]; simp only [sc_L0]; rfl

theorem al_L0 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay6 q k m (ix2 r e) = Ideal.exp2 (mm - mx mm (scL q k r)) := by
  have h1 : k0_pay4 m (ix2 r e) = mm := by rw [← hm e]; pointwise [k0_pay4]
  rw [← mn_L0 q k m r mm hm e, ← h1]; rfl

theorem p_L0 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (j : Fin 2048) : k0_pay7 q k m (ix2 r j) = Ideal.exp2 (scL q k r j - mx mm (scL q k r)) := by
  unfold k0_pay7
  show Ideal.exp2 (k0_pay3 q k (ix2 r j) - concatenate S1024x2048 1 _ _ (ix2 r j)) = _
  rw [sc_L0, tiled16 _ _ r j _ (mn_L0 q k m r mm hm)]

theorem lst_L0 (q : FVec Ideal S1024x64 .bf16) (k : Vec Ideal S1x1x1x1x64x2048 .bf16) (m l : Vec Ideal S1x1024x128 .f32) (r : Fin 1024) (mm : EReal)
    (hm : ∀ e : Fin 128, m (ix3 0 r e) = mm) (e : Fin 128) :
    k0_pay8 q k m l (ix3 0 r e) = Ideal.exp2 (mm - mx mm (scL q k r)) * l (ix3 0 r e) + ∑ j, Ideal.exp2 (scL q k r j - mx mm (scL q k r)) := by
  pointwise [k0_pay8]
  simp only [al_L0 q k m r mm hm, p_L0 q k m r mm hm]

theorem ast_L0 (q : FVec Ideal S1024x64 .bf16) (k : Vec Ideal S1x1x1x1x64x2048 .bf16) (m a : Vec Ideal S1x1024x128 .f32) (v : Vec Ideal S1x2048x128 .bf16) (r : Fin 1024) (mm : EReal)
    (hm : ∀ e : Fin 128, m (ix3 0 r e) = mm) (e : Fin 128) :
    k0_pay11 (k0_pay2 v) (k0_pay9 q k m a) (k0_pay10 q k m) trip_k0_t1.sl.cst_121 (ix3 0 r e) = a (ix3 0 r e) * Ideal.exp2 (mm - mx mm (scL q k r)) + ∑ j, Ideal.exp2 (scL q k r j - mx mm (scL q k r)) * v (ix3 0 j e) := by
  pointwise [k0_pay11, k0_pay2, k0_pay9, k0_pay10, trip_k0_t1.sl.cst_121]
  simp only [al_L0 q k m r mm hm, p_L0 q k m r mm hm]

theorem mst_L0 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay12 (k0_pay5 q k m) (ix3 0 r e) = mx mm (scL q k r) := by
  rw [← mn_L0 q k m r mm hm e]; pointwise [k0_pay12]

theorem sc_L1 (q : FVec Ideal S1024x64 .bf16) (k : Vec Ideal S1x1x1x1x64x2048 .bf16) (r : Fin 1024) (j : Fin 2048) :
    k0_pay14 q k (ix2 r j) = scL q k r j := by
  pointwise [k0_pay14]; rfl

theorem mn_L1 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay16 q k m (ix2 r e) = mx mm (scL q k r) := by
  pointwise [k0_pay16, k0_pay15]
  rw [hm, bot_word]; simp only [sc_L1]; rfl

theorem al_L1 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay17 q k m (ix2 r e) = Ideal.exp2 (mm - mx mm (scL q k r)) := by
  have h1 : k0_pay15 m (ix2 r e) = mm := by rw [← hm e]; pointwise [k0_pay15]
  rw [← mn_L1 q k m r mm hm e, ← h1]; rfl

theorem p_L1 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (j : Fin 2048) : k0_pay18 q k m (ix2 r j) = Ideal.exp2 (scL q k r j - mx mm (scL q k r)) := by
  unfold k0_pay18
  show Ideal.exp2 (k0_pay14 q k (ix2 r j) - concatenate S1024x2048 1 _ _ (ix2 r j)) = _
  rw [sc_L1, tiled16 _ _ r j _ (mn_L1 q k m r mm hm)]

theorem lst_L1 (q : FVec Ideal S1024x64 .bf16) (k : Vec Ideal S1x1x1x1x64x2048 .bf16) (m l : Vec Ideal S1x1024x128 .f32) (r : Fin 1024) (mm : EReal)
    (hm : ∀ e : Fin 128, m (ix3 0 r e) = mm) (e : Fin 128) :
    k0_pay43 (k0_pay19 q k m l) (ix3 0 r e) = Ideal.exp2 (mm - mx mm (scL q k r)) * l (ix3 0 r e) + ∑ j, Ideal.exp2 (scL q k r j - mx mm (scL q k r)) := by
  pointwise [k0_pay43, k0_pay19]
  simp only [al_L1 q k m r mm hm, p_L1 q k m r mm hm]

theorem ast_L1 (q : FVec Ideal S1024x64 .bf16) (k : Vec Ideal S1x1x1x1x64x2048 .bf16) (m a : Vec Ideal S1x1024x128 .f32) (v : Vec Ideal S1x2048x128 .bf16) (r : Fin 1024) (mm : EReal)
    (hm : ∀ e : Fin 128, m (ix3 0 r e) = mm) (e : Fin 128) :
    k0_pay44 (k0_pay13 v) (k0_pay17 q k m) (k0_pay18 q k m) a (ix3 0 r e) = a (ix3 0 r e) * Ideal.exp2 (mm - mx mm (scL q k r)) + ∑ j, Ideal.exp2 (scL q k r j - mx mm (scL q k r)) * v (ix3 0 j e) := by
  pointwise [k0_pay44, k0_pay13]
  simp only [al_L1 q k m r mm hm, p_L1 q k m r mm hm]

theorem mst_L1 (q : FVec Ideal S1024x64 .bf16) (k : Vec Ideal S1x1x1x1x64x2048 .bf16) (m : Vec Ideal S1x1024x128 .f32) (r : Fin 1024) (mm : EReal)
    (hm : ∀ e : Fin 128, m (ix3 0 r e) = mm) (e : Fin 128) : k0_pay45 (k0_pay16 q k m) (ix3 0 r e) = mx mm (scL q k r) := by
  rw [← mn_L1 q k m r mm hm e]; pointwise [k0_pay45]

end Cert.KernelIdeal.Gen

end
-- ==== Proof.Rows.lean ====
/-
  The invariant of the running softmax over whole scratch buffers, and one trip of the loop over the latent keys.
-/
module

public import proofs.«01_k».proof.Proof.Gen.KernelIdeal.Value
public import Idealize.ShloMosaic.Lib.Pointwise
public import Idealize.ShloMosaic.Lib.Pipeline.ValueKit
public import proofs.«01_k».proof.Proof.Pays
public import Idealize.ShloMosaic.Lib.WritesUnit

@[expose] public section

set_option maxRecDepth 16384

noncomputable section

namespace Cert.KernelIdeal.Gen

open Idealize.ShloMosaic Idealize.ShloMosaic.TcCoe Idealize.SL.Sem
open Idealize.ShloMosaic.Pipeline (Dat)

open Cert.Softmax

/-- What map `c`'s rows of the three scratch buffers hold after `n` keys: in each row one maximum and one weight sum in
    all lanes, and in lane `e` the weighted sum of the values' column `e`. -/
def Rows (S : Fin 1024 → ℕ → ℝ) (V : ℕ → Fin 128 → ℝ) (n : ℕ) (c : Fin 2) (M L A : S2x1024x128.Idx → EReal) : Prop :=
  ∀ r : Fin 1024, ∃ m l : EReal, ∀ e : Fin 128, M (ix3 c r e) = m ∧ L (ix3 c r e) = l ∧ St (S r) (fun k => V k e) n m l (A (ix3 c r e))

/-- One chunk of `T` keys. -/
theorem Rows.step {S : Fin 1024 → ℕ → ℝ} {V : ℕ → Fin 128 → ℝ} {n : ℕ} {c : Fin 2} {M L A : S2x1024x128.Idx → EReal}
    (h : Rows S V n c M L A) {T : ℕ} (hT : 0 < T) (sc : Fin 1024 → Fin T → EReal) (hs : ∀ r (j : Fin T), sc r j = (S r (n + j) : EReal))
    (vc : Fin T → Fin 128 → EReal) (hv : ∀ (j : Fin T) e, vc j e = (V (n + j) e : EReal)) (M' L' A' : S2x1024x128.Idx → EReal)
    (hM : ∀ r mm, (∀ e, M (ix3 c r e) = mm) → ∀ e, M' (ix3 c r e) = mx mm (sc r))
    (hL : ∀ r mm, (∀ e, M (ix3 c r e) = mm) → ∀ e, L' (ix3 c r e)
      = Ideal.exp2 (mm - mx mm (sc r)) * L (ix3 c r e) + ∑ j, Ideal.exp2 (sc r j - mx mm (sc r)))
    (hA : ∀ r mm, (∀ e, M (ix3 c r e) = mm) → ∀ e, A' (ix3 c r e)
      = A (ix3 c r e) * Ideal.exp2 (mm - mx mm (sc r)) + ∑ j, Ideal.exp2 (sc r j - mx mm (sc r)) * vc j e) :
    Rows S V (n + T) c M' L' A' := by
  intro r
  obtain ⟨m, l, h⟩ := h r
  have hm : ∀ e, M (ix3 c r e) = m := fun e => (h e).1
  refine ⟨_, _, fun e => ⟨hM r m hm e, (hL r m hm e).trans (by rw [(h e).2.1]), ?_⟩⟩
  rw [hA r m hm e]
  exact Softmax.step (S r) (fun k => V k e) n T hT m l _ (h e).2.2 (sc r) (fun j => vc j e) (hs r) (fun j => hv j e) _ rfl

/-- The rows only read the map's own rows. -/
theorem Rows.congr {S : Fin 1024 → ℕ → ℝ} {V : ℕ → Fin 128 → ℝ} {n : ℕ} {c : Fin 2} {M L A M' L' A' : S2x1024x128.Idx → EReal}
    (h : Rows S V n c M L A) (hM : ∀ r e, M' (ix3 c r e) = M (ix3 c r e)) (hL : ∀ r e, L' (ix3 c r e) = L (ix3 c r e))
    (hA : ∀ r e, A' (ix3 c r e) = A (ix3 c r e)) : Rows S V n c M' L' A' := fun r => by
  obtain ⟨m, l, h⟩ := h r
  exact ⟨m, l, fun e => by rw [hM, hL, hA]; exact h e⟩

section Reads

variable (v : View sig .tc .vmem S2x1024x128 .f32) (f : BufTy.Contents (Elt Ideal) v.ty) (L : List (View.Piece (Elt Ideal) S2x1024x128 .f32))

theorem rd_hit0 (inb) (w : S1x1024x128.Idx → EReal) (r : Fin 1024) (e : Fin 128) :
    v.read (Elt Ideal) (v.writes (Elt Ideal) f (⟨Rect.unit ![0, 0, 0] S1x1024x128.size inb, w⟩ :: L)) (ix3 0 r e) = w (ix3 0 r e) :=
  View.read_writes_cons_unit_of_mem v f inb w L (ix3 0 r e) (ix3 0 r e) rfl (by
    intro a; fin_cases a <;> simp [ix3])

theorem rd_hit1 (inb) (w : S1x1024x128.Idx → EReal) (r : Fin 1024) (e : Fin 128) :
    v.read (Elt Ideal) (v.writes (Elt Ideal) f (⟨Rect.unit ![1, 0, 0] S1x1024x128.size inb, w⟩ :: L)) (ix3 1 r e) = w (ix3 0 r e) :=
  View.read_writes_cons_unit_of_mem v f inb w L (ix3 1 r e) (ix3 0 r e) rfl (by
    intro a; fin_cases a <;> simp [ix3])

theorem rd_miss0 (inb) (w : S1x1024x128.Idx → EReal) (r : Fin 1024) (e : Fin 128) :
    v.read (Elt Ideal) (v.writes (Elt Ideal) f (⟨Rect.unit ![0, 0, 0] S1x1024x128.size inb, w⟩ :: L)) (ix3 1 r e)
      = v.read (Elt Ideal) (v.writes (Elt Ideal) f L) (ix3 1 r e) :=
  View.read_writes_cons_unit_of_not_mem v f inb w L (ix3 1 r e) rfl 0 (Or.inr (by simp [ix3]))

theorem rd_miss1 (inb) (w : S1x1024x128.Idx → EReal) (r : Fin 1024) (e : Fin 128) :
    v.read (Elt Ideal) (v.writes (Elt Ideal) f (⟨Rect.unit ![1, 0, 0] S1x1024x128.size inb, w⟩ :: L)) (ix3 0 r e)
      = v.read (Elt Ideal) (v.writes (Elt Ideal) f L) (ix3 0 r e) :=
  View.read_writes_cons_unit_of_not_mem v f inb w L (ix3 0 r e) rfl 0 (Or.inl (by simp [ix3]))

theorem ld_row0 (inb) (r : Fin 1024) (e : Fin 128) :
    View.readAt (Elt Ideal) v (Rect.unit (s := S2x1024x128) ![0, 0, 0] S1x1024x128.size inb).toLoadRect f (ix3 0 r e : S1x1024x128.Idx) = v.read (Elt Ideal) f (ix3 0 r e) :=
  congrArg (v.read (Elt Ideal) f) (funext fun a => Fin.ext (by fin_cases a <;> simp [ix3, LoadRect.idx, Rect.toLoadRect, Rect.unit]))

theorem ld_row1 (inb) (r : Fin 1024) (e : Fin 128) :
    View.readAt (Elt Ideal) v (Rect.unit (s := S2x1024x128) ![1, 0, 0] S1x1024x128.size inb).toLoadRect f (ix3 0 r e : S1x1024x128.Idx) = v.read (Elt Ideal) f (ix3 1 r e) :=
  congrArg (v.read (Elt Ideal) f) (funext fun a => Fin.ext (by fin_cases a <;> simp [ix3, LoadRect.idx, Rect.toLoadRect, Rect.unit]))

end Reads

theorem trips_eq : k0_t1_loop.trips = 8 := by decide +kernel
theorem off1 : ∀ k : Fin k0_t1_loop.trips, k0_off1 k = ![0, 0, 0, k.val, 0, 0] := by decide +kernel
theorem off2 : ∀ k : Fin k0_t1_loop.trips, k0_off2 k = ![0, 2048 * k.val, 0] := by decide +kernel
theorem off3 : ∀ k : Fin k0_t1_loop.trips, k0_off3 k = ![0, 0, 1, k.val, 0, 0] := by decide +kernel

theorem ld_k0 (v : View sig .tc .vmem S1x1x2x8x64x2048 .bf16) (f : BufTy.Contents (Elt Ideal) v.ty) (k : Fin k0_t1_loop.trips) (inb)
    (k' : Fin 8) (hk : k'.val = k.val) (d : Fin 64) (j : Fin 2048) :
    View.readAt (Elt Ideal) v (Rect.unit (s := S1x1x2x8x64x2048) (k0_off1 k) S1x1x1x1x64x2048.size inb).toLoadRect f (ix6 0 0 0 0 d j : S1x1x1x1x64x2048.Idx)
      = v.read (Elt Ideal) f (ix6 0 0 0 k' d j) :=
  congrArg (v.read (Elt Ideal) f) (funext fun a => Fin.ext (by
    refine (congrArg (fun z => z + 1 * _) (congrFun (off1 k) a)).trans ?_
    fin_cases a <;> simp [ix6, hk]))

theorem ld_k1 (v : View sig .tc .vmem S1x1x2x8x64x2048 .bf16) (f : BufTy.Contents (Elt Ideal) v.ty) (k : Fin k0_t1_loop.trips) (inb)
    (k' : Fin 8) (hk : k'.val = k.val) (d : Fin 64) (j : Fin 2048) :
    View.readAt (Elt Ideal) v (Rect.unit (s := S1x1x2x8x64x2048) (k0_off3 k) S1x1x1x1x64x2048.size inb).toLoadRect f (ix6 0 0 0 0 d j : S1x1x1x1x64x2048.Idx)
      = v.read (Elt Ideal) f (ix6 0 0 1 k' d j) :=
  congrArg (v.read (Elt Ideal) f) (funext fun a => Fin.ext (by
    refine (congrArg (fun z => z + 1 * _) (congrFun (off3 k) a)).trans ?_
    fin_cases a <;> simp [ix6, hk]))

theorem ld_v (v : View sig .tc .vmem S1x16384x128 .bf16) (f : BufTy.Contents (Elt Ideal) v.ty) (k : Fin k0_t1_loop.trips) (inb)
    (j : Fin 2048) (j' : Fin 16384) (hj : j'.val = 2048 * k.val + j.val) (e : Fin 128) :
    View.readAt (Elt Ideal) v (Rect.unit (s := S1x16384x128) (k0_off2 k) S1x2048x128.size inb).toLoadRect f (ix3 0 j e : S1x2048x128.Idx)
      = v.read (Elt Ideal) f (ix3 0 j' e) :=
  congrArg (v.read (Elt Ideal) f) (funext fun a => Fin.ext (by
    refine (congrArg (fun z => z + 1 * _) (congrFun (off2 k) a)).trans ?_
    fin_cases a <;> simp [ix3, hj]))

end Cert.KernelIdeal.Gen

end
-- ==== Proof.Trip.lean ====
/-
  One trip of the loop over the latent keys, and all eight: the scratch's rows go from the first 256 keys to all of them.
-/
module

public import proofs.«01_k».proof.Proof.Gen.KernelIdeal.Value
public import Idealize.ShloMosaic.Lib.Pointwise
public import Idealize.ShloMosaic.Lib.Pipeline.ValueKit
public import proofs.«01_k».proof.Proof.Rows

@[expose] public section

set_option maxRecDepth 16384

noncomputable section

namespace Cert.KernelIdeal.Gen

open Idealize.ShloMosaic Idealize.ShloMosaic.TcCoe Idealize.SL.Sem
open Idealize.ShloMosaic.Pipeline (Dat)

open Cert.Softmax

/-- The keys of trip `k`, map 0 and map 1, and its values, as the trip loads them. -/
abbrev kk0 {arg6 : Memref sig .tc .vmem S1x1x2x8x64x2048 .bf16} (X_arg6 : BufTy.Contents (Elt Ideal) arg6.view.ty) (k : Fin k0_t1_loop.trips) : Vec Ideal S1x1x1x1x64x2048 .bf16 :=
  View.readAt (Elt Ideal) arg6.view (Rect.unit (s := S1x1x2x8x64x2048) (k0_off1 k) S1x1x1x1x64x2048.size (k0_off1_inb k)).toLoadRect X_arg6
abbrev kk1 {arg6 : Memref sig .tc .vmem S1x1x2x8x64x2048 .bf16} (X_arg6 : BufTy.Contents (Elt Ideal) arg6.view.ty) (k : Fin k0_t1_loop.trips) : Vec Ideal S1x1x1x1x64x2048 .bf16 :=
  View.readAt (Elt Ideal) arg6.view (Rect.unit (s := S1x1x2x8x64x2048) (k0_off3 k) S1x1x1x1x64x2048.size (k0_off3_inb k)).toLoadRect X_arg6
abbrev vv {arg7 : Memref sig .tc .vmem S1x16384x128 .bf16} (X_arg7 : BufTy.Contents (Elt Ideal) arg7.view.ty) (k : Fin k0_t1_loop.trips) : Vec Ideal S1x2048x128 .bf16 :=
  View.readAt (Elt Ideal) arg7.view (Rect.unit (s := S1x16384x128) (k0_off2 k) S1x2048x128.size (k0_off2_inb k)).toLoadRect X_arg7
/-- Map 0's and map 1's rows of a scratch buffer, as loaded. -/
abbrev ld0 {b : Memref sig .tc .vmem S2x1024x128 .f32} (f : BufTy.Contents (Elt Ideal) b.view.ty) : Vec Ideal S1x1024x128 .f32 :=
  View.readAt (Elt Ideal) b.view (Rect.unit (s := S2x1024x128) ![0, 0, 0] S1x1024x128.size inb_S2x1024x128_S1x1024x128_0_0_0).toLoadRect f
abbrev ld1 {b : Memref sig .tc .vmem S2x1024x128 .f32} (f : BufTy.Contents (Elt Ideal) b.view.ty) : Vec Ideal S1x1024x128 .f32 :=
  View.readAt (Elt Ideal) b.view (Rect.unit (s := S2x1024x128) ![1, 0, 0] S1x1024x128.size inb_S2x1024x128_S1x1024x128_1_0_0).toLoadRect f

section Trip

variable (𝒱 : Variants) (c : Dev nD) (bd : Option 𝒱.V) (i : grid0.Coords) (arg3 : Memref sig .tc .vmem S1x1024x128 .f32) (harg3 : arg3.IsWhole) (arg4 : Memref sig .tc .vmem S1x1x2x1x64x256 .bf16) (harg4 : arg4.IsWhole) (arg5 : Memref sig .tc .vmem S1x256x128 .bf16) (harg5 : arg5.IsWhole) (arg6 : Memref sig .tc .vmem S1x1x2x8x64x2048 .bf16) (harg6 : arg6.IsWhole) (arg7 : Memref sig .tc .vmem S1x16384x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x128 .f32) (harg13 : arg13.IsWhole)
variable (v17 : FVec Ideal S1024x64 .bf16) (v18 : FVec Ideal S1024x64 .bf16) (v67 : FVec Ideal S1024x128 .f32) (X_arg6 : BufTy.Contents (Elt Ideal) arg6.view.ty) (X_arg7 : BufTy.Contents (Elt Ideal) arg7.view.ty)

section One

variable (k : Fin k0_t1_loop.trips) (f_arg11 : BufTy.Contents (Elt Ideal) arg11.view.ty) (f_arg12 : BufTy.Contents (Elt Ideal) arg12.view.ty) (f_arg13 : BufTy.Contents (Elt Ideal) arg13.view.ty)

theorem trip_m : (trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).1 f_arg11 f_arg12 f_arg13
    = [⟨Rect.unit (s := S2x1024x128) ![1, 0, 0] S1x1024x128.size inb_S2x1024x128_S1x1024x128_1_0_0, k0_pay45 (k0_pay16 v18 (kk1 X_arg6 k) (ld1 f_arg11))⟩,
       ⟨Rect.unit (s := S2x1024x128) ![0, 0, 0] S1x1024x128.size inb_S2x1024x128_S1x1024x128_0_0_0, k0_pay12 (k0_pay5 v17 (kk0 X_arg6 k) (ld0 f_arg11))⟩] := by
  unfold trip_k0_t1; rfl

theorem trip_l : (trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).2.1 f_arg11 f_arg12 f_arg13
    = [⟨Rect.unit (s := S2x1024x128) ![1, 0, 0] S1x1024x128.size inb_S2x1024x128_S1x1024x128_1_0_0, k0_pay43 (k0_pay19 v18 (kk1 X_arg6 k) (ld1 f_arg11) (ld1 f_arg12))⟩,
       ⟨Rect.unit (s := S2x1024x128) ![0, 0, 0] S1x1024x128.size inb_S2x1024x128_S1x1024x128_0_0_0, k0_pay8 v17 (kk0 X_arg6 k) (ld0 f_arg11) (ld0 f_arg12)⟩] := by
  unfold trip_k0_t1; rfl

theorem trip_a : (trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).2.2.1 f_arg11 f_arg12 f_arg13
    = [⟨Rect.unit (s := S2x1024x128) ![1, 0, 0] S1x1024x128.size inb_S2x1024x128_S1x1024x128_1_0_0, k0_pay44 (k0_pay13 (vv X_arg7 k)) (k0_pay17 v18 (kk1 X_arg6 k) (ld1 f_arg11)) (k0_pay18 v18 (kk1 X_arg6 k) (ld1 f_arg11)) (ld1 f_arg13)⟩,
       ⟨Rect.unit (s := S2x1024x128) ![0, 0, 0] S1x1024x128.size inb_S2x1024x128_S1x1024x128_0_0_0, k0_pay11 (k0_pay2 (vv X_arg7 k)) (k0_pay9 v17 (kk0 X_arg6 k) (ld0 f_arg11) (ld0 f_arg13)) (k0_pay10 v17 (kk0 X_arg6 k) (ld0 f_arg11)) trip_k0_t1.sl.cst_121⟩] := by
  unfold trip_k0_t1; rfl

end One

variable (S : Fin 2 → Fin 1024 → ℕ → ℝ) (V : ℕ → Fin 128 → ℝ)
  (hS0 : ∀ (kk : Fin 8) (r : Fin 1024) (j : Fin 2048), ∑ d : Fin 64, v17 (ix2 r d) * arg6.view.read (Elt Ideal) X_arg6 (ix6 0 0 0 kk d j) = (S 0 r (256 + 2048 * kk.val + j.val) : EReal))
  (hS1 : ∀ (kk : Fin 8) (r : Fin 1024) (j : Fin 2048), ∑ d : Fin 64, v18 (ix2 r d) * arg6.view.read (Elt Ideal) X_arg6 (ix6 0 0 1 kk d j) = (S 1 r (256 + 2048 * kk.val + j.val) : EReal))
  (hV : ∀ (j : Fin 16384) (e : Fin 128), arg7.view.read (Elt Ideal) X_arg7 (ix3 0 j e) = (V (256 + j.val) e : EReal))

include hS0 hS1 hV

theorem trip_rows (k : Fin k0_t1_loop.trips) (f_arg11 : BufTy.Contents (Elt Ideal) arg11.view.ty) (f_arg12 : BufTy.Contents (Elt Ideal) arg12.view.ty) (f_arg13 : BufTy.Contents (Elt Ideal) arg13.view.ty)
    (h : ∀ mp : Fin 2, Rows (S mp) V (256 + 2048 * k.val) mp (arg11.view.read (Elt Ideal) f_arg11) (arg12.view.read (Elt Ideal) f_arg12) (arg13.view.read (Elt Ideal) f_arg13)) (mp : Fin 2) :
    Rows (S mp) V (256 + 2048 * k.val + 2048) mp
      (arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).1 f_arg11 f_arg12 f_arg13)))
      (arg12.view.read (Elt Ideal) (arg12.view.writes (Elt Ideal) f_arg12 ((trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).2.1 f_arg11 f_arg12 f_arg13)))
      (arg13.view.read (Elt Ideal) (arg13.view.writes (Elt Ideal) f_arg13 ((trip_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 k).2.2.1 f_arg11 f_arg12 f_arg13))) := by
  rw [trip_m, trip_l, trip_a]
  have hk8 : k.val < 8 := lt_of_lt_of_eq k.isLt trips_eq
  have hvv : ∀ (j : Fin 2048) (e : Fin 128), vv X_arg7 k (ix3 0 j e) = (V (256 + 2048 * k.val + j.val) e : EReal) := fun j e => by
    refine (ld_v arg7.view X_arg7 k _ j ⟨2048 * k.val + j.val, by have := j.isLt; omega⟩ rfl e).trans ?_
    rw [hV, Nat.add_assoc]
  match mp with
  | 0 =>
    refine (h 0).step (by norm_num) (scL v17 (kk0 X_arg6 k)) (fun r j => ?_) (fun j e => vv X_arg7 k (ix3 0 j e)) hvv _ _ _ ?_ ?_ ?_
    · rw [← hS0 ⟨k.val, hk8⟩]
      exact Finset.sum_congr rfl fun d _ => congrArg _ (ld_k0 arg6.view X_arg6 k _ ⟨k.val, hk8⟩ rfl d j)
    · intro r mm hm e
      rw [rd_miss1, rd_hit0]
      exact mst_L0 _ _ _ r mm (fun e => (ld_row0 _ _ _ r e).trans (hm e)) e
    · intro r mm hm e
      rw [rd_miss1, rd_hit0, ← ld_row0 arg12.view f_arg12 inb_S2x1024x128_S1x1024x128_0_0_0 r e]
      exact lst_L0 _ _ _ _ r mm (fun e => (ld_row0 _ _ _ r e).trans (hm e)) e
    · intro r mm hm e
      rw [rd_miss1, rd_hit0, ← ld_row0 arg13.view f_arg13 inb_S2x1024x128_S1x1024x128_0_0_0 r e]
      exact ast_L0 _ _ _ _ _ r mm (fun e => (ld_row0 _ _ _ r e).trans (hm e)) e
  | 1 =>
    refine (h 1).step (by norm_num) (scL v18 (kk1 X_arg6 k)) (fun r j => ?_) (fun j e => vv X_arg7 k (ix3 0 j e)) hvv _ _ _ ?_ ?_ ?_
    · rw [← hS1 ⟨k.val, hk8⟩]
      exact Finset.sum_congr rfl fun d _ => congrArg _ (ld_k1 arg6.view X_arg6 k _ ⟨k.val, hk8⟩ rfl d j)
    · intro r mm hm e
      rw [rd_hit1]
      exact mst_L1 _ _ _ r mm (fun e => (ld_row1 _ _ _ r e).trans (hm e)) e
    · intro r mm hm e
      rw [rd_hit1, ← ld_row1 arg12.view f_arg12 inb_S2x1024x128_S1x1024x128_1_0_0 r e]
      exact lst_L1 _ _ _ _ r mm (fun e => (ld_row1 _ _ _ r e).trans (hm e)) e
    · intro r mm hm e
      rw [rd_hit1, ← ld_row1 arg13.view f_arg13 inb_S2x1024x128_S1x1024x128_1_0_0 r e]
      exact ast_L1 _ _ _ _ _ r mm (fun e => (ld_row1 _ _ _ r e).trans (hm e)) e

/-- After `j` trips, from rows holding the first 256 keys. -/
theorem loop_rows (G_arg11 : BufTy.Contents (Elt Ideal) arg11.view.ty) (G_arg12 : BufTy.Contents (Elt Ideal) arg12.view.ty) (G_arg13 : BufTy.Contents (Elt Ideal) arg13.view.ty)
    (h : ∀ mp : Fin 2, Rows (S mp) V 256 mp (arg11.view.read (Elt Ideal) G_arg11) (arg12.view.read (Elt Ideal) G_arg12) (arg13.view.read (Elt Ideal) G_arg13)) (j : ℕ) (hj : j ≤ 8) (mp : Fin 2) :
    Rows (S mp) V (256 + 2048 * j) mp
      (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 G_arg11 G_arg12 G_arg13 j).1))
      (arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 G_arg11 G_arg12 G_arg13 j).2.1))
      (arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 G_arg11 G_arg12 G_arg13 j).2.2)) := by
  induction j generalizing mp with
  | zero => exact h mp
  | succ j ih =>
    have hk : j < k0_t1_loop.trips := by rw [trips_eq]; omega
    have e := pb_k0_t1_succ (F := Ideal) 𝒱 c bd i arg3 harg3 arg4 harg4 arg5 harg5 arg6 harg6 arg7 harg7 arg8 harg8 arg9 harg9 arg10 harg10 arg11 harg11 arg12 harg12 arg13 harg13 v17 v18 v67 X_arg6 X_arg7 G_arg11 G_arg12 G_arg13 ⟨j, hk⟩
    dsimp only at e
    rw [e]
    dsimp only
    rw [View.writes_append, View.writes_append, View.writes_append]
    exact trip_rows 𝒱 c bd i arg3 harg3 arg4 harg4 arg5 harg5 arg6 harg6 arg7 harg7 arg8 harg8 arg9 harg9 arg10 harg10 arg11 harg11 arg12 harg12 arg13 harg13 v17 v18 v67 X_arg6 X_arg7 S V hS0 hS1 hV ⟨j, hk⟩ _ _ _ (fun mp => ih (by omega) mp) mp

end Trip

end Cert.KernelIdeal.Gen

end
-- ==== Proof.PaysC0.lean ====
/-
  The same facts as Pays.lean, for the chunk of 256 context keys taken before the loop.
-/
module

public import proofs.«01_k».proof.Proof.Gen.KernelIdeal.Value
public import Idealize.ShloMosaic.Lib.Pointwise
public import Idealize.ShloMosaic.Lib.Pipeline.ValueKit
public import proofs.«01_k».proof.Proof.Pays

@[expose] public section

set_option maxRecDepth 16384

noncomputable section

namespace Cert.KernelIdeal.Gen

open Idealize.ShloMosaic Idealize.ShloMosaic.TcCoe Idealize.SL.Sem
open Idealize.ShloMosaic.Pipeline (Dat)

theorem sc_C0 (x : Vec Ideal S1x1024x128 .f32) (k : Vec Ideal S1x1x1x1x64x256 .bf16) (r : Fin 1024) (j : Fin 256) :
    k0_pay27 x k (ix2 r j) = scC (k0_pay24 x) k r j := by
  pointwise [k0_pay27]; rfl

theorem mn_C0 (x : Vec Ideal S1x1024x128 .f32) (k : Vec Ideal S1x1x1x1x64x256 .bf16) (m : Vec Ideal S1x1024x128 .f32) (r : Fin 1024) (mm : EReal)
    (hm : ∀ e : Fin 128, m (ix3 0 r e) = mm) (e : Fin 128) : k0_pay29 (k0_pay27 x k) m (ix2 r e) = mx mm (scC (k0_pay24 x) k r) := by
  pointwise [k0_pay29, k0_pay28]
  rw [hm, bot_word]; simp only [sc_C0]; rfl

theorem al_C0 (x : Vec Ideal S1x1024x128 .f32) (k : Vec Ideal S1x1x1x1x64x256 .bf16) (m : Vec Ideal S1x1024x128 .f32) (r : Fin 1024) (mm : EReal)
    (hm : ∀ e : Fin 128, m (ix3 0 r e) = mm) (e : Fin 128) : k0_pay30 (k0_pay27 x k) m (ix2 r e) = Ideal.exp2 (mm - mx mm (scC (k0_pay24 x) k r)) := by
  have h1 : k0_pay28 m (ix2 r e) = mm := by rw [← hm e]; pointwise [k0_pay28]
  rw [← mn_C0 x k m r mm hm e, ← h1]; rfl

theorem p_C0 (x : Vec Ideal S1x1024x128 .f32) (k : Vec Ideal S1x1x1x1x64x256 .bf16) (m : Vec Ideal S1x1024x128 .f32) (r : Fin 1024) (mm : EReal)
    (hm : ∀ e : Fin 128, m (ix3 0 r e) = mm) (j : Fin 256) : k0_pay31 (k0_pay27 x k) m (ix2 r j) = Ideal.exp2 (scC (k0_pay24 x) k r j - mx mm (scC (k0_pay24 x) k r)) := by
  unfold k0_pay31
  show Ideal.exp2 (k0_pay27 x k (ix2 r j) - concatenate S1024x256 1 _ _ (ix2 r j)) = _
  rw [sc_C0, tiled2 _ _ r j _ (mn_C0 x k m r mm hm)]

theorem lst_C0 (x : Vec Ideal S1x1024x128 .f32) (k : Vec Ideal S1x1x1x1x64x256 .bf16) (m l : Vec Ideal S1x1024x128 .f32) (r : Fin 1024) (mm : EReal)
    (hm : ∀ e : Fin 128, m (ix3 0 r e) = mm) (e : Fin 128) :
    k0_pay32 (k0_pay27 x k) m l (ix3 0 r e) = Ideal.exp2 (mm - mx mm (scC (k0_pay24 x) k r)) * l (ix3 0 r e) + ∑ j, Ideal.exp2 (scC (k0_pay24 x) k r j - mx mm (scC (k0_pay24 x) k r)) := by
  pointwise [k0_pay32]
  simp only [al_C0 x k m r mm hm, p_C0 x k m r mm hm]

theorem ast_C0 (x : Vec Ideal S1x1024x128 .f32) (k : Vec Ideal S1x1x1x1x64x256 .bf16) (m a : Vec Ideal S1x1024x128 .f32) (v : Vec Ideal S1x256x128 .bf16) (r : Fin 1024) (mm : EReal)
    (hm : ∀ e : Fin 128, m (ix3 0 r e) = mm) (e : Fin 128) :
    k0_pay33 (k0_pay26 v) (k0_pay27 x k) m a (ix3 0 r e) = a (ix3 0 r e) * Ideal.exp2 (mm - mx mm (scC (k0_pay24 x) k r)) + ∑ j, Ideal.exp2 (scC (k0_pay24 x) k r j - mx mm (scC (k0_pay24 x) k r)) * v (ix3 0 j e) := by
  pointwise [k0_pay33, k0_pay26]
  simp only [al_C0 x k m r mm hm, p_C0 x k m r mm hm]

theorem mst_C0 (x : Vec Ideal S1x1024x128 .f32) (k : Vec Ideal S1x1x1x1x64x256 .bf16) (m : Vec Ideal S1x1024x128 .f32) (r : Fin 1024) (mm : EReal)
    (hm : ∀ e : Fin 128, m (ix3 0 r e) = mm) (e : Fin 128) : k0_pay34 (k0_pay27 x k) m (ix3 0 r e) = mx mm (scC (k0_pay24 x) k r) := by
  rw [← mn_C0 x k m r mm hm e]; pointwise [k0_pay34]

end Cert.KernelIdeal.Gen

end
-- ==== Proof.PaysC1.lean ====
/-
  The same facts as Pays.lean, for the chunk of 256 context keys taken before the loop.
-/
module

public import proofs.«01_k».proof.Proof.Gen.KernelIdeal.Value
public import Idealize.ShloMosaic.Lib.Pointwise
public import Idealize.ShloMosaic.Lib.Pipeline.ValueKit
public import proofs.«01_k».proof.Proof.Pays

@[expose] public section

set_option maxRecDepth 16384

noncomputable section

namespace Cert.KernelIdeal.Gen

open Idealize.ShloMosaic Idealize.ShloMosaic.TcCoe Idealize.SL.Sem
open Idealize.ShloMosaic.Pipeline (Dat)

theorem sc_C1 (q : FVec Ideal S1024x64 .bf16) (k : Vec Ideal S1x1x1x1x64x256 .bf16) (r : Fin 1024) (j : Fin 256) :
    k0_pay35 q k (ix2 r j) = scC q k r j := by
  pointwise [k0_pay35]; rfl

theorem mn_C1 (q : FVec Ideal S1024x64 .bf16) (k : Vec Ideal S1x1x1x1x64x256 .bf16) (m : Vec Ideal S1x1024x128 .f32) (r : Fin 1024) (mm : EReal)
    (hm : ∀ e : Fin 128, m (ix3 0 r e) = mm) (e : Fin 128) : k0_pay37 q k m (ix2 r e) = mx mm (scC q k r) := by
  pointwise [k0_pay37, k0_pay36]
  rw [hm, bot_word]; simp only [sc_C1]; rfl

theorem al_C1 (q : FVec Ideal S1024x64 .bf16) (k : Vec Ideal S1x1x1x1x64x256 .bf16) (m : Vec Ideal S1x1024x128 .f32) (r : Fin 1024) (mm : EReal)
    (hm : ∀ e : Fin 128, m (ix3 0 r e) = mm) (e : Fin 128) : k0_pay38 q k m (ix2 r e) = Ideal.exp2 (mm - mx mm (scC q k r)) := by
  have h1 : k0_pay36 m (ix2 r e) = mm := by rw [← hm e]; pointwise [k0_pay36]
  rw [← mn_C1 q k m r mm hm e, ← h1]; rfl

theorem p_C1 (q : FVec Ideal S1024x64 .bf16) (k : Vec Ideal S1x1x1x1x64x256 .bf16) (m : Vec Ideal S1x1024x128 .f32) (r : Fin 1024) (mm : EReal)
    (hm : ∀ e : Fin 128, m (ix3 0 r e) = mm) (j : Fin 256) : k0_pay39 q k m (ix2 r j) = Ideal.exp2 (scC q k r j - mx mm (scC q k r)) := by
  unfold k0_pay39
  show Ideal.exp2 (k0_pay35 q k (ix2 r j) - concatenate S1024x256 1 _ _ (ix2 r j)) = _
  rw [sc_C1, tiled2 _ _ r j _ (mn_C1 q k m r mm hm)]

theorem lst_C1 (q : FVec Ideal S1024x64 .bf16) (k : Vec Ideal S1x1x1x1x64x256 .bf16) (m l : Vec Ideal S1x1024x128 .f32) (r : Fin 1024) (mm : EReal)
    (hm : ∀ e : Fin 128, m (ix3 0 r e) = mm) (e : Fin 128) :
    k0_pay40 q k m l (ix3 0 r e) = Ideal.exp2 (mm - mx mm (scC q k r)) * l (ix3 0 r e) + ∑ j, Ideal.exp2 (scC q k r j - mx mm (scC q k r)) := by
  pointwise [k0_pay40]
  simp only [al_C1 q k m r mm hm, p_C1 q k m r mm hm]

theorem ast_C1 (q : FVec Ideal S1024x64 .bf16) (k : Vec Ideal S1x1x1x1x64x256 .bf16) (m a : Vec Ideal S1x1024x128 .f32) (v : Vec Ideal S1x256x128 .bf16) (r : Fin 1024) (mm : EReal)
    (hm : ∀ e : Fin 128, m (ix3 0 r e) = mm) (e : Fin 128) :
    k0_pay41 q k v m a (ix3 0 r e) = a (ix3 0 r e) * Ideal.exp2 (mm - mx mm (scC q k r)) + ∑ j, Ideal.exp2 (scC q k r j - mx mm (scC q k r)) * v (ix3 0 j e) := by
  pointwise [k0_pay41]
  simp only [al_C1 q k m r mm hm, p_C1 q k m r mm hm]

theorem mst_C1 (q : FVec Ideal S1024x64 .bf16) (k : Vec Ideal S1x1x1x1x64x256 .bf16) (m : Vec Ideal S1x1024x128 .f32) (r : Fin 1024) (mm : EReal)
    (hm : ∀ e : Fin 128, m (ix3 0 r e) = mm) (e : Fin 128) : k0_pay42 (k0_pay37 q k m) (ix3 0 r e) = mx mm (scC q k r) := by
  rw [← mn_C1 q k m r mm hm e]; pointwise [k0_pay42]

end Cert.KernelIdeal.Gen

end
-- ==== Proof.Model.lean ====
/-
  What both programs compute, as plain formulas over the argument arrays' values: the keys and the values in their
  order, one row's scores, the difference of two attentions, the normalisation. And the softmax as the reference writes it.
-/
module

public import Idealize.ShloMosaic.Lib.Pointwise
public import proofs.«01_k».proof.Proof.Softmax

@[expose] public section

set_option maxRecDepth 16384

noncomputable section

namespace Cert.Softmax

open Idealize.ShloMosaic

/-- The number of keys: 256 of the context, 16384 of the latent. -/
abbrev NK : ℕ := 16640

abbrev QShape : Shape := ⟨5, ![2, 16384, 4, 2, 64]⟩
abbrev KcShape : Shape := ⟨5, ![2, 256, 4, 2, 64]⟩
abbrev VcShape : Shape := ⟨4, ![2, 256, 4, 128]⟩
abbrev VlShape : Shape := ⟨4, ![2, 16384, 4, 128]⟩

/-- Every entry is a real number. -/
def Fin' {s : Shape} (x : s.Idx → EReal) : Prop := ∀ i, ((x i).toReal : EReal) = x i

/-- Key `n`: the context's 256, then the latent's. -/
def kAt (a1 : KcShape.Idx → EReal) (a2 : QShape.Idx → EReal) (b : Fin 2) (h : Fin 4) (c : Fin 2) (d : Fin 64) (n : ℕ) : ℝ :=
  if hn : n < 256 then (a1 (ix5 b ⟨n, hn⟩ h c d)).toReal
  else if hn : n - 256 < 16384 then (a2 (ix5 b ⟨n - 256, hn⟩ h c d)).toReal else 0

/-- Value `n`, likewise. -/
def vAt (a3 : VcShape.Idx → EReal) (a4 : VlShape.Idx → EReal) (b : Fin 2) (h : Fin 4) (n : ℕ) (e : Fin 128) : ℝ :=
  if hn : n < 256 then (a3 (ix4 b ⟨n, hn⟩ h e)).toReal
  else if hn : n - 256 < 16384 then (a4 (ix4 b ⟨n - 256, hn⟩ h e)).toReal else 0

/-- A row's scores, in units in which the softmax is over powers of two. -/
def score (a0 : QShape.Idx → EReal) (a1 : KcShape.Idx → EReal) (a2 : QShape.Idx → EReal) (b : Fin 2) (h : Fin 4) (c : Fin 2)
    (q : Fin 16384) (n : ℕ) : ℝ :=
  (∑ d : Fin 64, (a0 (ix5 b q h c d)).toReal * kAt a1 a2 b h c d n) * (1 / 8 * (1 / Real.log 2))

/-- The difference of the two maps' attentions. -/
def diff (s0 s1 : ℕ → ℝ) (v : ℕ → ℝ) (lam : EReal) : EReal := (att s0 v NK : EReal) - lam * (att s1 v NK : EReal)

/-- The normalisation over the 128 lanes, its gain and the last factor. -/
def normed (o : Fin 128 → EReal) (g : EReal) (e : Fin 128) : EReal :=
  o e * Ideal.rsqrt (Ideal.div (∑ x, o x * o x) (Ideal.ofBits FTy.f32 1124073472#32) + Ideal.ofBits FTy.f32 897988541#32) * g
    * Ideal.ofBits FTy.f32 1061997773#32

theorem exp_sub_eq (σ μ : ℝ) : Ideal.exp (((σ * Real.log 2 : ℝ) : EReal) - (μ : EReal)) = (p2 (σ - μ / Real.log 2) : EReal) := by
  rw [← EReal.coe_sub, Ideal.exp_coe]
  congr 1
  unfold p2
  show _ = (2 : ℝ) ^ (σ - μ / Real.log 2)
  have h2 : Real.log 2 ≠ 0 := (Real.log_pos (by norm_num)).ne'
  rw [Real.rpow_def_of_pos (by norm_num)]
  congr 1
  field_simp

/-- A softmax entry, whatever real number was subtracted from the row. -/
theorem soft_row {N : ℕ} (hN : 0 < N) (σ : ℕ → ℝ) (s : Fin N → EReal) (hs : ∀ k : Fin N, s k = ((σ k * Real.log 2 : ℝ) : EReal))
    (M : EReal) (hM : ∃ μ : ℝ, M = μ) (k : Fin N) :
    Ideal.div (Ideal.exp (s k - M)) (∑ x, Ideal.exp (s x - M)) = ((p2 (σ k - 0) / wsum σ N 0 : ℝ) : EReal) := by
  obtain ⟨μ, rfl⟩ := hM
  simp only [hs, exp_sub_eq]
  rw [← coe_sum, ← Finset.sum_range (fun k => p2 (σ k - μ / Real.log 2))]
  show Ideal.div _ ((wsum σ N (μ / Real.log 2) : ℝ) : EReal) = _
  rw [Ideal.div_coe (wsum_pos σ N hN _).ne', ← EReal.coe_mul, mul_one_div, ← wsum_rebase σ N 0 (μ / Real.log 2),
    show σ k - μ / Real.log 2 = (0 - μ / Real.log 2) + (σ k - 0) by ring, p2_add, mul_div_mul_left _ _ (p2_pos _).ne']

/-- The values' sum weighted by a softmax. -/
theorem soft_sum {N : ℕ} (σ v : ℕ → ℝ) : ∑ x : Fin N, v x * (p2 (σ x - 0) / wsum σ N 0) = att σ v N := by
  unfold att
  rw [← Finset.sum_range (fun x => v x * (p2 (σ x - 0) / wsum σ N 0))]
  unfold vsum
  rw [Finset.sum_div]
  exact Finset.sum_congr rfl fun x _ => by ring

/-- The values' sum weighted by the difference of two softmaxes. -/
theorem soft_diff {N : ℕ} (σ0 σ1 v : ℕ → ℝ) (lam : EReal) (hlam : ∃ l : ℝ, lam = l) (w p0 p1 : Fin N → EReal)
    (hw : ∀ x : Fin N, w x = (v x : EReal)) (h0 : ∀ x : Fin N, p0 x = ((p2 (σ0 x - 0) / wsum σ0 N 0 : ℝ) : EReal))
    (h1 : ∀ x : Fin N, p1 x = ((p2 (σ1 x - 0) / wsum σ1 N 0 : ℝ) : EReal)) :
    ∑ x, w x * (p0 x - lam * p1 x) = (att σ0 v N : EReal) - lam * (att σ1 v N : EReal) := by
  obtain ⟨l, rfl⟩ := hlam
  simp only [hw, h0, h1, ← EReal.coe_mul, ← EReal.coe_sub]
  rw [← coe_sum, ← soft_sum σ0 v, ← soft_sum σ1 v, Finset.mul_sum, ← Finset.sum_sub_distrib]
  congr 1
  exact Finset.sum_congr rfl fun x _ => by ring

/-- A maximum over the last of five axes of real entries, from `-∞`, is a real number. -/
theorem max_real {n0 n1 n2 n3 n4 : ℕ} (h4 : 0 < n4) {t u : Shape} (x : (⟨5, ![n0, n1, n2, n3, n4]⟩ : Shape).Idx → EReal) (init : u.Idx → EReal)
    (h : (⟨5, ![n0, n1, n2, n3, n4]⟩ : Shape).ReducesTo [4] t) (hu : 0 < u.numel) (hx : ∀ i, ∃ r : ℝ, x i = r) (hi : ∀ i, init i = ⊥) (j : t.Idx)
    (op : EReal → EReal → EReal) (hop : op = max) : ∃ r : ℝ, Host.reduce op x init h hu j = r := by
  subst hop
  rw [Host.reduce_eq_fold, Shape.ReducesTo.fold_fiber_r5_a4, hi]
  choose r hr using hx
  simp only [hr]
  exact fold_max_fin h4 _

end Cert.Softmax

end
-- ==== Proof.Block.lean ====
/-
  One program of the grid: its q block against all keys, from the scratch's fill to the output block.
-/
module

public import proofs.«01_k».proof.Proof.Gen.KernelIdeal.Value
public import Idealize.ShloMosaic.Lib.Pointwise
public import Idealize.ShloMosaic.Lib.Pipeline.ValueKit
public import proofs.«01_k».proof.Proof.Trip
public import proofs.«01_k».proof.Proof.PaysC0
public import proofs.«01_k».proof.Proof.PaysC1
public import Idealize.ShloMosaic.Lib.WholeRead
public import proofs.«01_k».proof.Proof.Model

@[expose] public section

set_option maxRecDepth 16384

noncomputable section

namespace Cert.KernelIdeal.Gen

open Idealize.ShloMosaic Idealize.ShloMosaic.TcCoe Idealize.SL.Sem
open Idealize.ShloMosaic.Pipeline (Dat)

open Cert.Softmax

theorem ini_m (c : Fin 2) (r : Fin 1024) (e : Fin 128) : k0_pay20 (F := Ideal) (ix3 c r e) = ⊥ := by
  rw [← bot_word]; pointwise [k0_pay20]
theorem ini_l (c : Fin 2) (r : Fin 1024) (e : Fin 128) : k0_pay21 (F := Ideal) (ix3 c r e) = 0 := by
  pointwise [k0_pay21]
theorem ini_a (c : Fin 2) (r : Fin 1024) (e : Fin 128) : k0_pay22 (F := Ideal) (ix3 c r e) = 0 := by
  pointwise [k0_pay22]
/-- The queries' scale, one over 8 log 2. -/
def qs : EReal := ((8⁻¹ * (Real.log 2)⁻¹ : ℝ) : EReal)
theorem q0_val (x : Vec Ideal S1x1024x128 .f32) (r : Fin 1024) (d : Fin 64) : k0_pay24 x (ix2 r d) = x (ix3 0 r ⟨d.val, by omega⟩) * qs := by
  pointwise [k0_pay24, k0_pay23]; rfl
theorem q1_val (x : Vec Ideal S1x1024x128 .f32) (r : Fin 1024) (d : Fin 64) : k0_pay25 x (ix2 r d) = x (ix3 0 r ⟨64 + d.val, by omega⟩) * qs := by
  pointwise [k0_pay25, k0_pay23]; rfl
/-- The output's scale, as its word. -/
abbrev outS : Ideal .f32 := Scalar.ofBits .f32 0x3F4CCCCD#32
theorem fin_val (v93 v95 v98 v100 : Vec Ideal S1x1024x128 .f32) (v103 v118 : Vec Ideal S1x128 .f32) (r : Fin 1024) (e : Fin 128) :
    k0_pay1 (k0_pay46 v93 v95 v98 v100 v103 v118) outS (ix3 0 r e)
      = normed (fun e => Ideal.div (v93 (ix3 0 r e)) (v95 (ix3 0 r e)) - v103 (ix2 0 e) * Ideal.div (v98 (ix3 0 r e)) (v100 (ix3 0 r e))) (v118 (ix2 0 e)) e := by
  unfold normed
  pointwise [k0_pay1, k0_pay46]

/-- A buffer filled with one array. -/
theorem rd_fill (v : View sig .tc .vmem S2x1024x128 .f32) (f : BufTy.Contents (Elt Ideal) v.ty) (inb) (w : S2x1024x128.Idx → EReal) (c : Fin 2) (r : Fin 1024) (e : Fin 128) :
    v.read (Elt Ideal) (v.writes (Elt Ideal) f [⟨Rect.unit ![0, 0, 0] S2x1024x128.size inb, w⟩]) (ix3 c r e) = w (ix3 c r e) :=
  View.read_writes_cons_unit_of_mem v f inb w [] (ix3 c r e) (ix3 c r e) rfl (by
    intro a; fin_cases a <;> simp [ix3])

theorem ld_app0 (b : Memref sig .tc .vmem S2x1024x128 .f32) (f : BufTy.Contents (Elt Ideal) b.view.ty) (L L' : List (View.Piece (Elt Ideal) S2x1024x128 .f32)) (r : Fin 1024) (e : Fin 128) :
    ld0 (b := b) (b.view.writes (Elt Ideal) f (L ++ L')) (ix3 0 r e) = b.view.read (Elt Ideal) (b.view.writes (Elt Ideal) (b.view.writes (Elt Ideal) f L') L) (ix3 0 r e) := by
  rw [View.writes_append]; exact ld_row0 _ _ _ r e
theorem ld_app1 (b : Memref sig .tc .vmem S2x1024x128 .f32) (f : BufTy.Contents (Elt Ideal) b.view.ty) (L L' : List (View.Piece (Elt Ideal) S2x1024x128 .f32)) (r : Fin 1024) (e : Fin 128) :
    ld1 (b := b) (b.view.writes (Elt Ideal) f (L ++ L')) (ix3 0 r e) = b.view.read (Elt Ideal) (b.view.writes (Elt Ideal) (b.view.writes (Elt Ideal) f L') L) (ix3 1 r e) := by
  rw [View.writes_append]; exact ld_row1 _ _ _ r e

section Block

variable (c : Dev nD) (i : grid0.Coords) (arg3 : Memref sig .tc .vmem S1x1024x128 .f32) (harg3 : arg3.IsWhole) (arg4 : Memref sig .tc .vmem S1x1x2x1x64x256 .bf16) (harg4 : arg4.IsWhole) (arg5 : Memref sig .tc .vmem S1x256x128 .bf16) (harg5 : arg5.IsWhole) (arg6 : Memref sig .tc .vmem S1x1x2x8x64x2048 .bf16) (harg6 : arg6.IsWhole) (arg7 : Memref sig .tc .vmem S1x16384x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S2x1024x128 .f32) (harg11 : arg11.IsWhole) (arg12 : Memref sig .tc .vmem S2x1024x128 .f32) (harg12 : arg12.IsWhole) (arg13 : Memref sig .tc .vmem S2x1024x128 .f32) (harg13 : arg13.IsWhole)
variable (lq : Vec Ideal S1x1024x128 .f32) (k0 k1 : Vec Ideal S1x1x1x1x64x256 .bf16) (vc : Vec Ideal S1x256x128 .bf16)

/-- The pieces written to the three scratch buffers: the fill, the context's keys in map 0, then in map 1. -/
def m1 : List (View.Piece (Elt Ideal) S2x1024x128 .f32) := [⟨Rect.unit ![0, 0, 0] S2x1024x128.size inb_S2x1024x128_S2x1024x128_0_0_0, k0_pay20 (F := Ideal)⟩]
def l1 : List (View.Piece (Elt Ideal) S2x1024x128 .f32) := [⟨Rect.unit ![0, 0, 0] S2x1024x128.size inb_S2x1024x128_S2x1024x128_0_0_0, k0_pay21 (F := Ideal)⟩]
def a1 : List (View.Piece (Elt Ideal) S2x1024x128 .f32) := [⟨Rect.unit ![0, 0, 0] S2x1024x128.size inb_S2x1024x128_S2x1024x128_0_0_0, k0_pay22 (F := Ideal)⟩]
def m2 : List (View.Piece (Elt Ideal) S2x1024x128 .f32) :=
  ⟨Rect.unit ![0, 0, 0] S1x1024x128.size inb_S2x1024x128_S1x1024x128_0_0_0, k0_pay34 (k0_pay27 lq k0) (ld0 (b := arg11) (arg11.view.writes (Elt Ideal) (arg11.view.junk) m1))⟩ :: m1
def l2 : List (View.Piece (Elt Ideal) S2x1024x128 .f32) :=
  ⟨Rect.unit ![0, 0, 0] S1x1024x128.size inb_S2x1024x128_S1x1024x128_0_0_0, k0_pay32 (k0_pay27 lq k0) (ld0 (b := arg11) (arg11.view.writes (Elt Ideal) (arg11.view.junk) m1)) (ld0 (b := arg12) (arg12.view.writes (Elt Ideal) (arg12.view.junk) l1))⟩ :: l1
def a2 : List (View.Piece (Elt Ideal) S2x1024x128 .f32) :=
  ⟨Rect.unit ![0, 0, 0] S1x1024x128.size inb_S2x1024x128_S1x1024x128_0_0_0, k0_pay33 (k0_pay26 vc) (k0_pay27 lq k0) (ld0 (b := arg11) (arg11.view.writes (Elt Ideal) (arg11.view.junk) m1)) (ld0 (b := arg13) (arg13.view.writes (Elt Ideal) (arg13.view.junk) a1))⟩ :: a1
def m3 : List (View.Piece (Elt Ideal) S2x1024x128 .f32) :=
  ⟨Rect.unit ![1, 0, 0] S1x1024x128.size inb_S2x1024x128_S1x1024x128_1_0_0, k0_pay42 (k0_pay37 (k0_pay25 lq) k1 (ld1 (b := arg11) (arg11.view.writes (Elt Ideal) (arg11.view.junk) (m2 arg11 lq k0))))⟩ :: m2 arg11 lq k0
def l3 : List (View.Piece (Elt Ideal) S2x1024x128 .f32) :=
  ⟨Rect.unit ![1, 0, 0] S1x1024x128.size inb_S2x1024x128_S1x1024x128_1_0_0, k0_pay40 (k0_pay25 lq) k1 (ld1 (b := arg11) (arg11.view.writes (Elt Ideal) (arg11.view.junk) (m2 arg11 lq k0))) (ld1 (b := arg12) (arg12.view.writes (Elt Ideal) (arg12.view.junk) (l2 arg11 arg12 lq k0)))⟩ :: l2 arg11 arg12 lq k0
def a3 : List (View.Piece (Elt Ideal) S2x1024x128 .f32) :=
  ⟨Rect.unit ![1, 0, 0] S1x1024x128.size inb_S2x1024x128_S1x1024x128_1_0_0, k0_pay41 (k0_pay25 lq) k1 vc (ld1 (b := arg11) (arg11.view.writes (Elt Ideal) (arg11.view.junk) (m2 arg11 lq k0))) (ld1 (b := arg13) (arg13.view.writes (Elt Ideal) (arg13.view.junk) (a2 arg11 arg13 lq k0 vc)))⟩ :: a2 arg11 arg13 lq k0 vc

variable (S : Fin 2 → Fin 1024 → ℕ → ℝ) (V : ℕ → Fin 128 → ℝ)

/-- After the context's keys. -/
theorem ctx_rows (h0 : ∀ (r : Fin 1024) (j : Fin 256), ∑ d : Fin 64, k0_pay24 lq (ix2 r d) * k0 (ix6 0 0 0 0 d j) = (S 0 r j.val : EReal))
    (h1 : ∀ (r : Fin 1024) (j : Fin 256), ∑ d : Fin 64, k0_pay25 lq (ix2 r d) * k1 (ix6 0 0 0 0 d j) = (S 1 r j.val : EReal))
    (hV : ∀ (j : Fin 256) (e : Fin 128), vc (ix3 0 j e) = (V j.val e : EReal)) (mp : Fin 2) :
    Rows (S mp) V 256 mp (arg11.view.read (Elt Ideal) (arg11.view.writes (Elt Ideal) (arg11.view.junk) (m3 arg11 lq k0 k1)))
      (arg12.view.read (Elt Ideal) (arg12.view.writes (Elt Ideal) (arg12.view.junk) (l3 arg11 arg12 lq k0 k1)))
      (arg13.view.read (Elt Ideal) (arg13.view.writes (Elt Ideal) (arg13.view.junk) (a3 arg11 arg13 lq k0 k1 vc))) := by
  have ini : ∀ mp : Fin 2, Rows (S mp) V 0 mp (arg11.view.read (Elt Ideal) (arg11.view.writes (Elt Ideal) (arg11.view.junk) m1))
      (arg12.view.read (Elt Ideal) (arg12.view.writes (Elt Ideal) (arg12.view.junk) l1))
      (arg13.view.read (Elt Ideal) (arg13.view.writes (Elt Ideal) (arg13.view.junk) a1)) := fun mp r => by
    refine ⟨⊥, 0, fun e => ⟨?_, ?_, Or.inl ⟨rfl, rfl, rfl, ?_⟩⟩⟩
    · unfold m1; rw [rd_fill, ini_m]
    · unfold l1; rw [rd_fill, ini_l]
    · unfold a1; rw [rd_fill, ini_a]
  match mp with
  | 0 =>
    have s := (ini 0).step (T := 256) (by norm_num) (scC (k0_pay24 lq) k0) (fun r j => by rw [Nat.zero_add, ← h0]; rfl)
      (fun j e => vc (ix3 0 j e)) (fun j e => by rw [Nat.zero_add]; exact hV j e)
      (arg11.view.read (Elt Ideal) (arg11.view.writes (Elt Ideal) (arg11.view.junk) (m2 arg11 lq k0)))
      (arg12.view.read (Elt Ideal) (arg12.view.writes (Elt Ideal) (arg12.view.junk) (l2 arg11 arg12 lq k0)))
      (arg13.view.read (Elt Ideal) (arg13.view.writes (Elt Ideal) (arg13.view.junk) (a2 arg11 arg13 lq k0 vc)))
      (fun r mm hm e => by
        unfold m2; rw [rd_hit0]
        exact mst_C0 _ _ _ r mm (fun e => (ld_row0 _ _ _ r e).trans (hm e)) e)
      (fun r mm hm e => by
        unfold l2; rw [rd_hit0, ← ld_row0 arg12.view _ inb_S2x1024x128_S1x1024x128_0_0_0 r e]
        exact lst_C0 _ _ _ _ r mm (fun e => (ld_row0 _ _ _ r e).trans (hm e)) e)
      (fun r mm hm e => by
        unfold a2; rw [rd_hit0, ← ld_row0 arg13.view _ inb_S2x1024x128_S1x1024x128_0_0_0 r e]
        exact ast_C0 _ _ _ _ _ r mm (fun e => (ld_row0 _ _ _ r e).trans (hm e)) e)
    refine Rows.congr s (fun r e => ?_) (fun r e => ?_) (fun r e => ?_)
    · unfold m3; rw [rd_miss1]
    · unfold l3; rw [rd_miss1]
    · unfold a3; rw [rd_miss1]
  | 1 =>
    have h := (ini 1).congr (M' := arg11.view.read (Elt Ideal) (arg11.view.writes (Elt Ideal) (arg11.view.junk) (m2 arg11 lq k0)))
      (L' := arg12.view.read (Elt Ideal) (arg12.view.writes (Elt Ideal) (arg12.view.junk) (l2 arg11 arg12 lq k0)))
      (A' := arg13.view.read (Elt Ideal) (arg13.view.writes (Elt Ideal) (arg13.view.junk) (a2 arg11 arg13 lq k0 vc)))
      (fun r e => by unfold m2; rw [rd_miss0]) (fun r e => by unfold l2; rw [rd_miss0]) (fun r e => by unfold a2; rw [rd_miss0])
    exact h.step (T := 256) (by norm_num) (scC (k0_pay25 lq) k1) (fun r j => by rw [Nat.zero_add, ← h1]; rfl)
      (fun j e => vc (ix3 0 j e)) (fun j e => by rw [Nat.zero_add]; exact hV j e) _ _ _
      (fun r mm hm e => by
        unfold m3; rw [rd_hit1]
        exact mst_C1 _ _ _ r mm (fun e => (ld_row1 _ _ _ r e).trans (hm e)) e)
      (fun r mm hm e => by
        unfold l3; rw [rd_hit1, ← ld_row1 arg12.view _ inb_S2x1024x128_S1x1024x128_1_0_0 r e]
        exact lst_C1 _ _ _ _ r mm (fun e => (ld_row1 _ _ _ r e).trans (hm e)) e)
      (fun r mm hm e => by
        unfold a3; rw [rd_hit1, ← ld_row1 arg13.view _ inb_S2x1024x128_S1x1024x128_1_0_0 r e]
        exact ast_C1 _ _ _ _ _ r mm (fun e => (ld_row1 _ _ _ r e).trans (hm e)) e)

variable (x0 : Vec Ideal S1x1024x128 .f32) (x1 : Vec Ideal S1x1x2x1x64x256 .bf16) (x2 : Vec Ideal S1x256x128 .bf16) (x3 : Vec Ideal S1x1x2x8x64x2048 .bf16) (x4 : Vec Ideal S1x16384x128 .bf16) (x5 : Vec Ideal S1x128 .f32) (x6 : Vec Ideal S1x128 .f32)

/-- The blocks as the body loads them. -/
abbrev qL : Vec Ideal S1x1024x128 .f32 := View.readAt (Elt Ideal) arg3.view (Rect.unit (s := S1x1024x128) ![0, 0, 0] S1x1024x128.size inb_S1x1024x128_S1x1024x128_0_0_0).toLoadRect (harg3.unread x0)
abbrev k0L : Vec Ideal S1x1x1x1x64x256 .bf16 := View.readAt (Elt Ideal) arg4.view (Rect.unit (s := S1x1x2x1x64x256) ![0, 0, 0, 0, 0, 0] S1x1x1x1x64x256.size inb_S1x1x2x1x64x256_S1x1x1x1x64x256_0_0_0_0_0_0).toLoadRect (harg4.unread x1)
abbrev k1L : Vec Ideal S1x1x1x1x64x256 .bf16 := View.readAt (Elt Ideal) arg4.view (Rect.unit (s := S1x1x2x1x64x256) ![0, 0, 1, 0, 0, 0] S1x1x1x1x64x256.size inb_S1x1x2x1x64x256_S1x1x1x1x64x256_0_0_1_0_0_0).toLoadRect (harg4.unread x1)
abbrev vL : Vec Ideal S1x256x128 .bf16 := View.readAt (Elt Ideal) arg5.view (Rect.unit (s := S1x256x128) ![0, 0, 0] S1x256x128.size inb_S1x256x128_S1x256x128_0_0_0).toLoadRect (harg5.unread x2)
abbrev lamL : Vec Ideal S1x128 .f32 := View.readAt (Elt Ideal) arg8.view (Rect.unit (s := S1x128) ![0, 0] S1x128.size inb_S1x128_S1x128_0_0).toLoadRect (harg8.unread x5)
abbrev gL : Vec Ideal S1x128 .f32 := View.readAt (Elt Ideal) arg9.view (Rect.unit (s := S1x128) ![0, 0] S1x128.size inb_S1x128_S1x128_0_0).toLoadRect (harg9.unread x6)

theorem qL_val (r : Fin 1024) (e : Fin 128) : qL arg3 harg3 x0 (ix3 0 r e) = x0 (ix3 0 r e) :=
  (harg3.readAt_unread x0 _ _).trans (congrArg x0 (funext fun a => Fin.ext (by fin_cases a <;> simp [ix3, LoadRect.idx, Rect.toLoadRect, Rect.unit])))
theorem k0L_val (d : Fin 64) (j : Fin 256) : k0L arg4 harg4 x1 (ix6 0 0 0 0 d j) = x1 (ix6 0 0 0 0 d j) :=
  (harg4.readAt_unread x1 _ _).trans (congrArg x1 (funext fun a => Fin.ext (by fin_cases a <;> simp [ix6, LoadRect.idx, Rect.toLoadRect, Rect.unit])))
theorem k1L_val (d : Fin 64) (j : Fin 256) : k1L arg4 harg4 x1 (ix6 0 0 0 0 d j) = x1 (ix6 0 0 1 0 d j) :=
  (harg4.readAt_unread x1 _ _).trans (congrArg x1 (funext fun a => Fin.ext (by fin_cases a <;> simp [ix6, LoadRect.idx, Rect.toLoadRect, Rect.unit])))
theorem vL_val (j : Fin 256) (e : Fin 128) : vL arg5 harg5 x2 (ix3 0 j e) = x2 (ix3 0 j e) :=
  (harg5.readAt_unread x2 _ _).trans (congrArg x2 (funext fun a => Fin.ext (by fin_cases a <;> simp [ix3, LoadRect.idx, Rect.toLoadRect, Rect.unit])))
theorem lamL_val (e : Fin 128) : lamL arg8 harg8 x5 (ix2 0 e) = x5 (ix2 0 e) :=
  (harg8.readAt_unread x5 _ _).trans (congrArg x5 (funext fun a => Fin.ext (by fin_cases a <;> simp [ix2, LoadRect.idx, Rect.toLoadRect, Rect.unit])))
theorem gL_val (e : Fin 128) : gL arg9 harg9 x6 (ix2 0 e) = x6 (ix2 0 e) :=
  (harg9.readAt_unread x6 _ _).trans (congrArg x6 (funext fun a => Fin.ext (by fin_cases a <;> simp [ix2, LoadRect.idx, Rect.toLoadRect, Rect.unit])))

/-- The pieces all eight trips write. -/
abbrev pbL := pb_k0_t1 (F := Ideal) Variants.none c none i arg3 harg3 arg4 harg4 arg5 harg5 arg6 harg6 arg7 harg7 arg8 harg8 arg9 harg9 arg10 harg10 arg11 harg11 arg12 harg12 arg13 harg13 (k0_pay24 (qL arg3 harg3 x0)) (k0_pay25 (qL arg3 harg3 x0))
    (k0_pay37 (k0_pay25 (qL arg3 harg3 x0)) (k1L arg4 harg4 x1) (ld1 (b := arg11) (arg11.view.writes (Elt Ideal) (arg11.view.junk) (m2 arg11 (qL arg3 harg3 x0) (k0L arg4 harg4 x1)))))
    (harg6.unread x3) (harg7.unread x4)
    (arg11.view.writes (Elt Ideal) (arg11.view.junk) (m3 arg11 (qL arg3 harg3 x0) (k0L arg4 harg4 x1) (k1L arg4 harg4 x1)))
    (arg12.view.writes (Elt Ideal) (arg12.view.junk) (l3 arg11 arg12 (qL arg3 harg3 x0) (k0L arg4 harg4 x1) (k1L arg4 harg4 x1)))
    (arg13.view.writes (Elt Ideal) (arg13.view.junk) (a3 arg11 arg13 (qL arg3 harg3 x0) (k0L arg4 harg4 x1) (k1L arg4 harg4 x1) (vL arg5 harg5 x2)))
    (Scf.trips k0_t1_loop.lb k0_t1_loop.ub k0_t1_loop.st)

set_option maxHeartbeats 2000000 in
/-- The one piece the body writes to the output block. -/
theorem run_eq : (kernelRun0_A (F := Ideal) c i arg3 harg3 arg4 harg4 arg5 harg5 arg6 harg6 arg7 harg7 arg8 harg8 arg9 harg9 arg10 harg10 arg11 harg11 arg12 harg12 arg13 harg13 x0 x1 x2 x3 x4 x5 x6).1 =
    [⟨Rect.unit ![0, 0, 0] ![1, 1024, 128] inb_S1x1024x128_S1x1024x128_0_0_0, k0_pay1 (k0_pay46
      (ld0 (b := arg13) (arg13.view.writes (Elt Ideal) (arg13.view.junk) ((pbL c i arg3 harg3 arg4 harg4 arg5 harg5 arg6 harg6 arg7 harg7 arg8 harg8 arg9 harg9 arg10 harg10 arg11 harg11 arg12 harg12 arg13 harg13 x0 x1 x2 x3 x4).2.2 ++ a3 arg11 arg13 (qL arg3 harg3 x0) (k0L arg4 harg4 x1) (k1L arg4 harg4 x1) (vL arg5 harg5 x2))))
      (ld0 (b := arg12) (arg12.view.writes (Elt Ideal) (arg12.view.junk) ((pbL c i arg3 harg3 arg4 harg4 arg5 harg5 arg6 harg6 arg7 harg7 arg8 harg8 arg9 harg9 arg10 harg10 arg11 harg11 arg12 harg12 arg13 harg13 x0 x1 x2 x3 x4).2.1 ++ l3 arg11 arg12 (qL arg3 harg3 x0) (k0L arg4 harg4 x1) (k1L arg4 harg4 x1))))
      (ld1 (b := arg13) (arg13.view.writes (Elt Ideal) (arg13.view.junk) ((pbL c i arg3 harg3 arg4 harg4 arg5 harg5 arg6 harg6 arg7 harg7 arg8 harg8 arg9 harg9 arg10 harg10 arg11 harg11 arg12 harg12 arg13 harg13 x0 x1 x2 x3 x4).2.2 ++ a3 arg11 arg13 (qL arg3 harg3 x0) (k0L arg4 harg4 x1) (k1L arg4 harg4 x1) (vL arg5 harg5 x2))))
      (ld1 (b := arg12) (arg12.view.writes (Elt Ideal) (arg12.view.junk) ((pbL c i arg3 harg3 arg4 harg4 arg5 harg5 arg6 harg6 arg7 harg7 arg8 harg8 arg9 harg9 arg10 harg10 arg11 harg11 arg12 harg12 arg13 harg13 x0 x1 x2 x3 x4).2.1 ++ l3 arg11 arg12 (qL arg3 harg3 x0) (k0L arg4 harg4 x1) (k1L arg4 harg4 x1))))
      (lamL arg8 harg8 x5) (gL arg9 harg9 x6)) outS⟩] := by
  unfold kernelRun0_A
  rfl

/-- THE BLOCK'S VALUE, from the scores and the values its inputs hold. -/
theorem block_val
    (hC0 : ∀ (r : Fin 1024) (j : Fin 256), ∑ d : Fin 64, x0 (ix3 0 r ⟨d.val, by omega⟩) * qs * x1 (ix6 0 0 0 0 d j) = (S 0 r j.val : EReal))
    (hC1 : ∀ (r : Fin 1024) (j : Fin 256), ∑ d : Fin 64, x0 (ix3 0 r ⟨64 + d.val, by omega⟩) * qs * x1 (ix6 0 0 1 0 d j) = (S 1 r j.val : EReal))
    (hVc : ∀ (j : Fin 256) (e : Fin 128), x2 (ix3 0 j e) = (V j.val e : EReal))
    (hL0 : ∀ (kk : Fin 8) (r : Fin 1024) (j : Fin 2048), ∑ d : Fin 64, x0 (ix3 0 r ⟨d.val, by omega⟩) * qs * x3 (ix6 0 0 0 kk d j) = (S 0 r (256 + 2048 * kk.val + j.val) : EReal))
    (hL1 : ∀ (kk : Fin 8) (r : Fin 1024) (j : Fin 2048), ∑ d : Fin 64, x0 (ix3 0 r ⟨64 + d.val, by omega⟩) * qs * x3 (ix6 0 0 1 kk d j) = (S 1 r (256 + 2048 * kk.val + j.val) : EReal))
    (hVl : ∀ (j : Fin 16384) (e : Fin 128), x4 (ix3 0 j e) = (V (256 + j.val) e : EReal))
    (lam : EReal) (hlam : ∀ e : Fin 128, x5 (ix2 0 e) = lam) (r : Fin 1024) (e : Fin 128) :
    out0_A_7 (F := Ideal) c i arg3 harg3 arg4 harg4 arg5 harg5 arg6 harg6 arg7 harg7 arg8 harg8 arg9 harg9 arg10 harg10 arg11 harg11 arg12 harg12 arg13 harg13 x0 x1 x2 x3 x4 x5 x6 (ix3 0 r e)
      = normed (fun e => diff (S 0 r) (S 1 r) (fun n => V n e) lam) (x6 (ix2 0 e)) e := by
  unfold out0_A_7
  rw [run_eq]
  refine (View.read_writes_cons_unit_of_mem VO0_7 _ inb_S1x1024x128_S1x1024x128_0_0_0 _ [] (ix3 0 r e : S1x1024x128.Idx) (ix3 0 r e : S1x1024x128.Idx) rfl (by
    intro a; fin_cases a <;> simp [ix3])).trans ?_
  rw [fin_val, gL_val]
  refine congrArg (fun o => normed o (x6 (ix2 0 e)) e) (funext fun e => ?_)
  have ctx := ctx_rows arg11 arg12 arg13 (qL arg3 harg3 x0) (k0L arg4 harg4 x1) (k1L arg4 harg4 x1) (vL arg5 harg5 x2) S V
    (fun r j => by rw [← hC0 r j]; exact Finset.sum_congr rfl fun d _ => by rw [q0_val, qL_val, k0L_val])
    (fun r j => by rw [← hC1 r j]; exact Finset.sum_congr rfl fun d _ => by rw [q1_val, qL_val, k1L_val])
    (fun j e => by rw [vL_val, hVc])
  have lp := loop_rows Variants.none c none i arg3 harg3 arg4 harg4 arg5 harg5 arg6 harg6 arg7 harg7 arg8 harg8 arg9 harg9 arg10 harg10 arg11 harg11 arg12 harg12 arg13 harg13 (k0_pay24 (qL arg3 harg3 x0)) (k0_pay25 (qL arg3 harg3 x0))
    (k0_pay37 (k0_pay25 (qL arg3 harg3 x0)) (k1L arg4 harg4 x1) (ld1 (b := arg11) (arg11.view.writes (Elt Ideal) (arg11.view.junk) (m2 arg11 (qL arg3 harg3 x0) (k0L arg4 harg4 x1)))))
    (harg6.unread x3) (harg7.unread x4) S V
    (fun kk r j => by rw [← hL0 kk r j, harg6.read_unread]; exact Finset.sum_congr rfl fun d _ => by rw [q0_val, qL_val])
    (fun kk r j => by rw [← hL1 kk r j, harg6.read_unread]; exact Finset.sum_congr rfl fun d _ => by rw [q1_val, qL_val])
    (fun j e => by rw [harg7.read_unread, hVl]) _ _ _ ctx 8 le_rfl
  have ht : Scf.trips k0_t1_loop.lb k0_t1_loop.ub k0_t1_loop.st = 8 := trips_eq
  obtain ⟨m, l, h0⟩ := lp 0 r
  obtain ⟨m', l', h1⟩ := lp 1 r
  have d0 := (h0 e).2.2.div (by norm_num)
  have d1 := (h1 e).2.2.div (by norm_num)
  rw [← (h0 e).2.1] at d0
  rw [← (h1 e).2.1] at d1
  unfold diff pbL
  rw [lamL_val, hlam, ht]
  exact congrArg₂ (fun x y => x - lam * y) ((congrArg₂ Ideal.div (ld_app0 arg13 _ _ _ r e) (ld_app0 arg12 _ _ _ r e)).trans d0)
    ((congrArg₂ Ideal.div (ld_app1 arg13 _ _ _ r e) (ld_app1 arg12 _ _ _ r e)).trans d1)

end Block

end Cert.KernelIdeal.Gen

end
-- ==== Proof.HostVal.lean ====
/-
  What the arrays the call reads hold: the queries, the keys turned by chunk, the values, the weight of the second map and
  the gain, each at coordinates; and each grid point's blocks of them.
-/
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat)

section Operands

variable (m : (ℓ : Loc nD τ sig) → Buf (Elt Ideal) ℓ) (c : Dev nD)

abbrev A0 : FVec Ideal S2x16384x4x2x64 .f32 := m ((c.tc : Thread nD τ).loc main_arg0)
abbrev A1 : FVec Ideal S2x256x4x2x64 .f32 := m ((c.tc : Thread nD τ).loc main_arg1)
abbrev A2 : FVec Ideal S2x16384x4x2x64 .f32 := m ((c.tc : Thread nD τ).loc main_arg2)
abbrev A3 : FVec Ideal S2x256x4x128 .f32 := m ((c.tc : Thread nD τ).loc main_arg3)
abbrev A4 : FVec Ideal S2x16384x4x128 .f32 := m ((c.tc : Thread nD τ).loc main_arg4)
abbrev A5 : FVec Ideal S4x64 .f32 := m ((c.tc : Thread nD τ).loc main_arg5)
abbrev A6 : FVec Ideal S128 .f32 := m ((c.tc : Thread nD τ).loc main_arg6)

theorem op_q (b : Fin 2) (n : Fin 16384) (h : Fin 4) (mp : Fin 2) (d : Fin 64) :
    (V m c main_v0 : FVec Ideal S2x16384x512 .f32) (ix3 b n ⟨128 * h.val + (64 * mp.val + d.val), by omega⟩) = A0 m c (ix5 b n h mp d) := by
  entry_read
  pointwise

theorem op_kc (b : Fin 2) (h : Fin 4) (mp : Fin 2) (d : Fin 64) (j : Fin 256) :
    (V m c main_v19 : FVec Ideal S2x4x2x1x64x256 .bf16) (ix6 b h mp 0 d j) = A1 m c (ix5 b j h mp d) := by
  entry_read
  pointwise

theorem op_vc (b : Fin 2) (j : Fin 256) (h : Fin 4) (e : Fin 128) :
    (V m c main_v21 : FVec Ideal S2x256x512 .bf16) (ix3 b j ⟨128 * h.val + e.val, by omega⟩) = A3 m c (ix4 b j h e) := by
  entry_read
  pointwise

theorem op_kl (b : Fin 2) (h : Fin 4) (mp : Fin 2) (kk : Fin 8) (d : Fin 64) (j : Fin 2048) :
    (V m c main_v24 : FVec Ideal S2x4x2x8x64x2048 .bf16) (ix6 b h mp kk d j) = A2 m c (ix5 b ⟨2048 * kk.val + j.val, by omega⟩ h mp d) := by
  rw [show (⟨2048 * kk.val + j.val, by omega⟩ : Fin 16384) = ⟨kk.val * 2048 + j.val, by omega⟩ from Fin.ext (by dsimp only; omega)]
  entry_read
  pointwise

theorem op_vl (b : Fin 2) (j : Fin 16384) (h : Fin 4) (e : Fin 128) :
    (V m c main_v26 : FVec Ideal S2x16384x512 .bf16) (ix3 b j ⟨128 * h.val + e.val, by omega⟩) = A4 m c (ix4 b j h e) := by
  entry_read
  pointwise

theorem op_lam (e : Fin 128) : (V m c main_v27 : FVec Ideal S1x128 .f32) (ix2 0 e)
    = Ideal.exp (∑ x, A5 m c (ix2 0 x) * A5 m c (ix2 1 x)) - Ideal.exp (∑ x, A5 m c (ix2 2 x) * A5 m c (ix2 3 x)) + Ideal.ofBits FTy.f32 1045220557#32 := by
  entry_read
  pointwise

theorem op_g (e : Fin 128) : (V m c main_v28 : FVec Ideal S1x128 .f32) (ix2 0 e) = A6 m c (ix1 e) := by
  entry_read
  pointwise

/-- Where each grid point's blocks lie. -/
theorem idx : ∀ t : Fin cfg0.N, win0_0.index t = ![t.val / 64, t.val % 16, t.val / 16 % 4] ∧ win0_1.index t = ![t.val / 64, t.val / 16 % 4, 0, 0, 0, 0]
    ∧ win0_2.index t = ![t.val / 64, 0, t.val / 16 % 4] ∧ win0_3.index t = ![t.val / 64, t.val / 16 % 4, 0, 0, 0, 0]
    ∧ win0_4.index t = ![t.val / 64, 0, t.val / 16 % 4] ∧ win0_5.index t = ![0, 0] ∧ win0_6.index t = ![0, 0]
    ∧ win0_7.index t = ![t.val / 64, t.val % 16, t.val / 16 % 4] ∧ t.val / 64 < 2 :=
  (by decide +kernel : ∀ t : Fin grid0.N, _)

variable (t : Fin cfg0.N) (b : Fin 2) (h : Fin 4) (j : Fin 16)
  (hb : t.val / 64 = b.val) (hh : t.val / 16 % 4 = h.val) (hj : t.val % 16 = j.val)
include hb hh hj

theorem blk_q (r : Fin 1024) (mp : Fin 2) (d : Fin 64) :
    (iblk m c 0 t : FVec Ideal S1x1024x128 .f32) (ix3 0 r ⟨64 * mp.val + d.val, by omega⟩) = A0 m c (ix5 b ⟨1024 * j.val + r.val, by omega⟩ h mp d) := by
  rw [← op_q]
  blk_ext [iblk, idx t, hb, hh, hj]

theorem blk_kc (mp : Fin 2) (d : Fin 64) (n : Fin 256) :
    (iblk m c 1 t : FVec Ideal S1x1x2x1x64x256 .bf16) (ix6 0 0 mp 0 d n) = A1 m c (ix5 b n h mp d) := by
  rw [← op_kc]
  blk_ext [iblk, idx t, hb, hh, hj]

theorem blk_vc (n : Fin 256) (e : Fin 128) :
    (iblk m c 2 t : FVec Ideal S1x256x128 .bf16) (ix3 0 n e) = A3 m c (ix4 b n h e) := by
  rw [← op_vc]
  blk_ext [iblk, idx t, hb, hh, hj]

theorem blk_kl (mp : Fin 2) (kk : Fin 8) (d : Fin 64) (n : Fin 2048) :
    (iblk m c 3 t : FVec Ideal S1x1x2x8x64x2048 .bf16) (ix6 0 0 mp kk d n) = A2 m c (ix5 b ⟨2048 * kk.val + n.val, by omega⟩ h mp d) := by
  rw [← op_kl]
  blk_ext [iblk, idx t, hb, hh, hj]

theorem blk_vl (n : Fin 16384) (e : Fin 128) :
    (iblk m c 4 t : FVec Ideal S1x16384x128 .bf16) (ix3 0 n e) = A4 m c (ix4 b n h e) := by
  rw [← op_vl]
  blk_ext [iblk, idx t, hb, hh, hj]

omit hb hh hj

theorem blk_lam (e : Fin 128) : (iblk m c 5 t : FVec Ideal S1x128 .f32) (ix2 0 e)
    = Ideal.exp (∑ x, A5 m c (ix2 0 x) * A5 m c (ix2 1 x)) - Ideal.exp (∑ x, A5 m c (ix2 2 x) * A5 m c (ix2 3 x)) + Ideal.ofBits FTy.f32 1045220557#32 := by
  rw [← op_lam m c e]
  blk_ext [iblk, idx t]

theorem blk_g (e : Fin 128) : (iblk m c 6 t : FVec Ideal S1x128 .f32) (ix2 0 e) = A6 m c (ix1 e) := by
  rw [← op_g m c e]
  blk_ext [iblk, idx t]

end Operands

end Cert.KernelIdeal.Gen

end
-- ==== Proof.RefVal.lean ====
/-
  The reference's stages as functions of its argument arrays, and each stage's value at an index.
-/
module

public import proofs.«01_k».proof.Proof.Gen.ReferenceIdeal.Run
public import Idealize.ShloMosaic.Lib.Pointwise
public import proofs.«01_k».proof.Proof.Model

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

section Stages

/-- The context's keys, then the latent's. -/
def rK (a1 : FVec Ideal S2x256x4x2x64 .f32) (a2 : FVec Ideal S2x16384x4x2x64 .f32) : FVec Ideal S2x16640x4x2x64 .f32 :=
  concatenate S2x16640x4x2x64 1 [⟨S2x256x4x2x64, a1⟩, ⟨S2x16384x4x2x64, a2⟩] concatenates_S2x256x4x2x64_S2x16384x4x2x64_S2x16640x4x2x64_d1
/-- The context's values, then the latent's. -/
def rV (a3 : FVec Ideal S2x256x4x128 .f32) (a4 : FVec Ideal S2x16384x4x128 .f32) : FVec Ideal S2x16640x4x128 .f32 :=
  concatenate S2x16640x4x128 1 [⟨S2x256x4x128, a3⟩, ⟨S2x16384x4x128, a4⟩] concatenates_S2x256x4x128_S2x16384x4x128_S2x16640x4x128_d1
/-- The scaled scores. -/
def rS (a0 : FVec Ideal S2x16384x4x2x64 .f32) (k : FVec Ideal S2x16640x4x2x64 .f32) : FVec Ideal S2x4x2x16384x16640 .f32 :=
  mulf (Host.dotGeneral dot_S2x16384x4x2x64_S2x16640x4x2x64_S2x4x2x16384x16640_4_4_1_1_023_023 none a0 k) (broadcastInDim S2x4x2x16384x16640 ![] bcast_S_S2x4x2x16384x16640 (constant S_ .f32 0x3E000000#32))
/-- Each row's maximum. -/
def rM (s : FVec Ideal S2x4x2x16384x16640 .f32) : FVec Ideal S2x4x2x16384 .f32 :=
  maximumf (broadcastInDim S2x4x2x16384 ![] bcast_S_S2x4x2x16384 (constant S_ .f32 0xFF800000#32)) (Host.reduce FloatOps.maximumf s (constant S_ .f32 0xFF800000#32) reducesTo_S2x4x2x16384x16640_S2x4x2x16384_d4 h_S_)
/-- The exponentials, each row's maximum subtracted. -/
def rE (s : FVec Ideal S2x4x2x16384x16640 .f32) (mx : FVec Ideal S2x4x2x16384 .f32) : FVec Ideal S2x4x2x16384x16640 .f32 :=
  Host.exp (subf s (broadcastInDim S2x4x2x16384x16640 ![0, 1, 2, 3, 4] bcast_S2x4x2x16384x1_S2x4x2x16384x16640_0_1_2_3_4 (broadcastInDim S2x4x2x16384x1 ![0, 1, 2, 3] bcast_S2x4x2x16384_S2x4x2x16384x1_0_1_2_3 mx)))
/-- The softmax of the exponentials. -/
def rP (p : FVec Ideal S2x4x2x16384x16640 .f32) : FVec Ideal S2x4x2x16384x16640 .f32 :=
  Host.divf p (broadcastInDim S2x4x2x16384x16640 ![0, 1, 2, 3, 4] bcast_S2x4x2x16384x1_S2x4x2x16384x16640_0_1_2_3_4 (broadcastInDim S2x4x2x16384x1 ![0, 1, 2, 3] bcast_S2x4x2x16384_S2x4x2x16384x1_0_1_2_3 (Host.reduceAdd p (constant S_ .f32 0x00000000#32) reducesTo_S2x4x2x16384x16640_S2x4x2x16384_d4 h_S_)))
/-- The weight of the second map. -/
def rLam (a5 : FVec Ideal S4x64 .f32) : FVec Ideal S_ .f32 :=
  addf (subf (Host.exp (Host.reduceAdd (mulf (shapeCast _ (extractStridedSlice S1x64 ![0, 0] a5 slices_S4x64_S1x64_0_0) shapeCasts_S1x64_S64) (shapeCast _ (extractStridedSlice S1x64 ![1, 0] a5 slices_S4x64_S1x64_1_0) shapeCasts_S1x64_S64)) (constant S_ .f32 0x00000000#32) reducesTo_S64_S_d0 h_S_)) (Host.exp (Host.reduceAdd (mulf (shapeCast _ (extractStridedSlice S1x64 ![2, 0] a5 slices_S4x64_S1x64_2_0) shapeCasts_S1x64_S64) (shapeCast _ (extractStridedSlice S1x64 ![3, 0] a5 slices_S4x64_S1x64_3_0) shapeCasts_S1x64_S64)) (constant S_ .f32 0x00000000#32) reducesTo_S64_S_d0 h_S_))) (constant S_ .f32 0x3E4CCCCD#32)
/-- The difference of the two maps, applied to the values. -/
def rO (p : FVec Ideal S2x4x2x16384x16640 .f32) (v : FVec Ideal S2x16640x4x128 .f32) (lam : FVec Ideal S_ .f32) : FVec Ideal S2x16384x4x128 .f32 :=
  transpose S2x16384x4x128 [0, 3, 1, 2] (Host.dotGeneral dot_S2x16640x4x128_S2x4x16384x16640_S2x4x128x16384_1_3_3_2_02_01 none v (subf (shapeCast _ (extractStridedSlice S2x4x1x16384x16640 ![0, 0, 0, 0, 0] p slices_S2x4x2x16384x16640_S2x4x1x16384x16640_0_0_0_0_0) shapeCasts_S2x4x1x16384x16640_S2x4x16384x16640) (mulf (broadcastInDim S2x4x16384x16640 ![] bcast_S_S2x4x16384x16640 lam) (shapeCast _ (extractStridedSlice S2x4x1x16384x16640 ![0, 0, 1, 0, 0] p slices_S2x4x2x16384x16640_S2x4x1x16384x16640_0_0_1_0_0) shapeCasts_S2x4x1x16384x16640_S2x4x16384x16640)))) transposes_S2x4x128x16384_S2x16384x4x128_0_3_1_2
/-- The normalised, scaled result. -/
def rOut (o : FVec Ideal S2x16384x4x128 .f32) (a6 : FVec Ideal S128 .f32) : FVec Ideal S2x16384x512 .bf16 :=
  truncf .bf16 (shapeCast _ (mulf (mulf (mulf o (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf o o) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 a6))) (broadcastInDim S2x16384x4x128 ![] bcast_S_S2x16384x4x128 (constant S_ .f32 0x3F4CCCCD#32))) shapeCasts_S2x16384x4x128_S2x16384x512) bitsLt_bf16_f32

variable (a0 : FVec Ideal S2x16384x4x2x64 .f32) (a1 : FVec Ideal S2x256x4x2x64 .f32) (a2 : FVec Ideal S2x16384x4x2x64 .f32) (a3 : FVec Ideal S2x256x4x128 .f32) (a4 : FVec Ideal S2x16384x4x128 .f32) (a5 : FVec Ideal S4x64 .f32) (a6 : FVec Ideal S128 .f32)

open Cert.Softmax

theorem rM_real (s : FVec Ideal S2x4x2x16384x16640 .f32) (hs : ∀ i, ∃ r : ℝ, s i = r) (j : S2x4x2x16384.Idx) : ∃ r : ℝ, rM s j = r := by
  have hb : Ideal.ofBits FTy.f32 0xFF800000#32 = ⊥ := by simp [Ideal.ofBits, Ideal.ieee]
  have key : ∀ w : FVec Ideal S2x4x2x16384 .f32, maximumf (broadcastInDim S2x4x2x16384 ![] bcast_S_S2x4x2x16384 (constant (F := Ideal) S_ .f32 0xFF800000#32)) w j
      = max (Ideal.ofBits FTy.f32 0xFF800000#32) (w j) := fun w => rfl
  obtain ⟨r, hr⟩ := max_real (by norm_num) s (constant (F := Ideal) S_ .f32 0xFF800000#32) reducesTo_S2x4x2x16384x16640_S2x4x2x16384_d4 h_S_ hs (fun _ => hb) j
    (FloatOps.maximumf (F := Ideal) (φ := .f32)) rfl
  refine ⟨r, (key _).trans ?_⟩
  rw [hr, hb]; exact max_eq_right bot_le

set_option maxHeartbeats 2000000

theorem rK_ctx (b : Fin 2) (k : Fin 256) (h : Fin 4) (c : Fin 2) (d : Fin 64) : rK a1 a2 (ix5 b ⟨k.val, by omega⟩ h c d) = a1 (ix5 b k h c d) := by
  pointwise [rK]
theorem rK_lat (b : Fin 2) (k : Fin 16384) (h : Fin 4) (c : Fin 2) (d : Fin 64) : rK a1 a2 (ix5 b ⟨256 + k.val, by omega⟩ h c d) = a2 (ix5 b k h c d) := by
  pointwise [rK]
theorem rV_ctx (b : Fin 2) (k : Fin 256) (h : Fin 4) (e : Fin 128) : rV a3 a4 (ix4 b ⟨k.val, by omega⟩ h e) = a3 (ix4 b k h e) := by
  pointwise [rV]
theorem rV_lat (b : Fin 2) (k : Fin 16384) (h : Fin 4) (e : Fin 128) : rV a3 a4 (ix4 b ⟨256 + k.val, by omega⟩ h e) = a4 (ix4 b k h e) := by
  pointwise [rV]

theorem rK_eq (h1 : Fin' a1) (h2 : Fin' a2) (b : Fin 2) (k : Fin 16640) (h : Fin 4) (c : Fin 2) (d : Fin 64) :
    rK a1 a2 (ix5 b k h c d) = (kAt a1 a2 b h c d k.val : EReal) := by
  unfold kAt
  by_cases hk : k.val < 256
  · rw [dif_pos hk]; exact (rK_ctx a1 a2 b ⟨k.val, hk⟩ h c d).trans (h1 _).symm
  · have hk' : k.val - 256 < 16384 := by omega
    rw [dif_neg hk, dif_pos hk']
    have e : k = ⟨256 + (k.val - 256), by omega⟩ := Fin.ext (by show k.val = 256 + (k.val - 256); omega)
    conv_lhs => rw [e]
    exact (rK_lat a1 a2 b ⟨k.val - 256, hk'⟩ h c d).trans (h2 _).symm

theorem rV_eq (h3 : Fin' a3) (h4 : Fin' a4) (b : Fin 2) (k : Fin 16640) (h : Fin 4) (d : Fin 128) :
    rV a3 a4 (ix4 b k h d) = (vAt a3 a4 b h k.val d : EReal) := by
  unfold vAt
  by_cases hk : k.val < 256
  · rw [dif_pos hk]; exact (rV_ctx a3 a4 b ⟨k.val, hk⟩ h d).trans (h3 _).symm
  · have hk' : k.val - 256 < 16384 := by omega
    rw [dif_neg hk, dif_pos hk']
    have e : k = ⟨256 + (k.val - 256), by omega⟩ := Fin.ext (by show k.val = 256 + (k.val - 256); omega)
    conv_lhs => rw [e]
    exact (rV_lat a3 a4 b ⟨k.val - 256, hk'⟩ h d).trans (h4 _).symm

theorem eighth : Ideal.ofBits FTy.f32 1040187392#32 = ((1 / 8 : ℝ) : EReal) := by
  simp [Ideal.ofBits, Ideal.ieee]
  rw [← EReal.coe_mul]; norm_num

theorem rS_val (kk : FVec Ideal S2x16640x4x2x64 .f32) (b : Fin 2) (q : Fin 16384) (k : Fin 16640) (h : Fin 4) (c : Fin 2) :
    rS a0 kk (ix5 b h c q k) = (∑ x, a0 (ix5 b q h c x) * kk (ix5 b k h c x)) * Ideal.ofBits FTy.f32 1040187392#32 := by
  pointwise [rS]

theorem rS_eq (h0 : Fin' a0) (h1 : Fin' a1) (h2 : Fin' a2) (b : Fin 2) (q : Fin 16384) (k : Fin 16640) (h : Fin 4) (c : Fin 2) :
    rS a0 (rK a1 a2) (ix5 b h c q k) = ((score a0 a1 a2 b h c q k.val * Real.log 2 : ℝ) : EReal) := by
  rw [rS_val, eighth]
  have e : ∀ x : Fin 64, a0 (ix5 b q h c x) * rK a1 a2 (ix5 b k h c x)
      = (((a0 (ix5 b q h c x)).toReal * kAt a1 a2 b h c x k.val : ℝ) : EReal) := fun x => by
    rw [rK_eq a1 a2 h1 h2, EReal.coe_mul, h0]
  rw [Finset.sum_congr rfl fun x _ => e x, ← coe_sum, ← EReal.coe_mul]
  congr 1
  unfold score
  have h2 : Real.log 2 ≠ 0 := (Real.log_pos (by norm_num)).ne'
  field_simp

theorem rE_val (s : FVec Ideal S2x4x2x16384x16640 .f32) (mx : FVec Ideal S2x4x2x16384 .f32) (b : Fin 2) (q : Fin 16384) (k : Fin 16640) (h : Fin 4) (c : Fin 2) :
    rE s mx (ix5 b h c q k) = Ideal.exp (s (ix5 b h c q k) - mx (ix4 b h c q)) := by
  pointwise [rE]

theorem rP_val (s : FVec Ideal S2x4x2x16384x16640 .f32) (b : Fin 2) (q : Fin 16384) (k : Fin 16640) (h : Fin 4) (c : Fin 2) :
    rP s (ix5 b h c q k) = Ideal.div (s (ix5 b h c q k)) (∑ x, s (ix5 b h c q x)) := by
  pointwise [rP]

theorem rLam_val : rLam a5 ix0 = Ideal.exp (∑ x, a5 (ix2 0 x) * a5 (ix2 1 x)) - Ideal.exp (∑ x, a5 (ix2 2 x) * a5 (ix2 3 x)) +
      Ideal.ofBits FTy.f32 1045220557#32 := by
  pointwise [rLam]

theorem rO_val (p : FVec Ideal S2x4x2x16384x16640 .f32) (v : FVec Ideal S2x16640x4x128 .f32) (lam : FVec Ideal S_ .f32) (b : Fin 2) (q : Fin 16384) (h : Fin 4) (e : Fin 128) :
    rO p v lam (ix4 b q h e) = ∑ x, v (ix4 b x h e) * (p (ix5 b h 0 q x) - lam ix0 * p (ix5 b h 1 q x)) := by
  pointwise [rO]

theorem rOut_val (o : FVec Ideal S2x16384x4x128 .f32) (b : Fin 2) (q : Fin 16384) (h : Fin 4) (e : Fin 128) :
    rOut o a6 (ix3 b q ⟨128 * h.val + e.val, by omega⟩) = normed (fun e => o (ix4 b q h e)) (a6 (ix1 e)) e := by
  unfold normed
  pointwise [rOut]

/-- The weight of the second map, and that it is a real number. -/
def lamOf (a5 : FVec Ideal S4x64 .f32) : EReal :=
  Ideal.exp (∑ x, a5 (ix2 0 x) * a5 (ix2 1 x)) - Ideal.exp (∑ x, a5 (ix2 2 x) * a5 (ix2 3 x)) + Ideal.ofBits FTy.f32 1045220557#32

theorem lamOf_real (h5 : Fin' a5) : ∃ l : ℝ, lamOf a5 = l := by
  have e : ∀ i j : Fin 4, ∑ x, a5 (ix2 i x) * a5 (ix2 j x) = ((∑ x, (a5 (ix2 i x)).toReal * (a5 (ix2 j x)).toReal : ℝ) : EReal) := fun i j => by
    rw [coe_sum]
    exact Finset.sum_congr rfl fun x _ => by rw [EReal.coe_mul, h5, h5]
  have w : ∃ r : ℝ, Ideal.ofBits FTy.f32 1045220557#32 = r := ⟨_, by simp [Ideal.ofBits, Ideal.ieee]; rfl⟩
  obtain ⟨r, hr⟩ := w
  unfold lamOf
  rw [e 0 1, e 2 3, hr, Ideal.exp_coe, Ideal.exp_coe, ← EReal.coe_sub, ← EReal.coe_add]
  exact ⟨_, rfl⟩

/-- THE REFERENCE'S VALUE. -/
theorem ref_val (h0 : Fin' a0) (h1 : Fin' a1) (h2 : Fin' a2) (h3 : Fin' a3) (h4 : Fin' a4) (h5 : Fin' a5)
    (b : Fin 2) (q : Fin 16384) (h : Fin 4) (e : Fin 128) :
    rOut (rO (rP (rE (rS a0 (rK a1 a2)) (rM (rS a0 (rK a1 a2))))) (rV a3 a4) (rLam a5)) a6 (ix3 b q ⟨128 * h.val + e.val, by omega⟩)
      = normed (fun e => diff (score a0 a1 a2 b h 0 q) (score a0 a1 a2 b h 1 q) (fun n => vAt a3 a4 b h n e) (lamOf a5)) (a6 (ix1 e)) e := by
  rw [rOut_val]
  refine congrArg (fun o => normed o (a6 (ix1 e)) e) (funext fun e => ?_)
  have hM := rM_real (rS a0 (rK a1 a2)) fun i => by
    refine ⟨_, (congrArg (rS a0 (rK a1 a2)) ?_).trans (rS_eq a0 a1 a2 h0 h1 h2 (i 0) (i 3) (i 4) (i 1) (i 2))⟩
    exact eq_ix5 i
  rw [rO_val, show rLam a5 ix0 = lamOf a5 from rLam_val a5]
  unfold diff
  refine soft_diff (score a0 a1 a2 b h 0 q) (score a0 a1 a2 b h 1 q) (fun n => vAt a3 a4 b h n e) _ (lamOf_real a5 h5) _ _ _
    (fun x => rV_eq a3 a4 h3 h4 b x h e) (fun x => ?_) (fun x => ?_)
  · rw [rP_val]; simp only [rE_val]
    exact soft_row (by norm_num) _ _ (fun k => rS_eq a0 a1 a2 h0 h1 h2 b q k h 0) _ (hM _) x
  · rw [rP_val]; simp only [rE_val]
    exact soft_row (by norm_num) _ _ (fun k => rS_eq a0 a1 a2 h0 h1 h2 b q k h 1) _ (hM _) x

end Stages

theorem res_eq (m : (ℓ : Loc nD τ sig) → Buf (Elt Ideal) ℓ) (c : Dev nD) : res_out0 (F := Ideal) m c
    = rOut (rO (rP (rE (rS (m ((c.tc : Thread nD τ).loc main_arg0)) (rK (m ((c.tc : Thread nD τ).loc main_arg1)) (m ((c.tc : Thread nD τ).loc main_arg2))))
        (rM (rS (m ((c.tc : Thread nD τ).loc main_arg0)) (rK (m ((c.tc : Thread nD τ).loc main_arg1)) (m ((c.tc : Thread nD τ).loc main_arg2)))))))
        (rV (m ((c.tc : Thread nD τ).loc main_arg3)) (m ((c.tc : Thread nD τ).loc main_arg4))) (rLam (m ((c.tc : Thread nD τ).loc main_arg5)))) (m ((c.tc : Thread nD τ).loc main_arg6)) := by
  unfold res_out0 res_main_v57
  rfl

end Cert.ReferenceIdeal.Value
end
-- ==== Proof.ArrVal.lean ====
/-
  The kernel's output array is the reference's: at each grid point the block is the normalised difference of the two
  maps' attentions of its rows, and the blocks cover the array.
-/
module

public import proofs.«01_k».proof.Proof.Block
public import proofs.«01_k».proof.Proof.HostVal
public import proofs.«01_k».proof.Proof.RefVal

@[expose] public section

set_option maxRecDepth 16384

noncomputable section

namespace Cert.KernelIdeal.Gen

open Idealize.ShloMosaic Idealize.ShloMosaic.TcCoe Idealize.SL.Sem
open Idealize.ShloMosaic.Pipeline (Dat)
open Cert.Softmax Cert.ReferenceIdeal.Value

/-- A scaled product of real entries is real. -/
theorem dot_real (x k : Fin 64 → EReal) (y : Fin 64 → ℝ) (hx : ∀ d, ((x d).toReal : EReal) = x d) (hk : ∀ d, k d = (y d : EReal)) :
    ∑ d, x d * qs * k d = (((∑ d, (x d).toReal * y d) * (1 / 8 * (1 / Real.log 2)) : ℝ) : EReal) := by
  rw [Finset.sum_mul, coe_sum]
  refine Finset.sum_congr rfl fun d _ => ?_
  rw [hk d]
  conv_lhs => rw [← hx d]
  unfold qs
  rw [← EReal.coe_mul, ← EReal.coe_mul]
  refine congrArg _ ?_
  ring

section Arr

variable (m : (ℓ : Loc nD τ sig) → Buf (Elt Ideal) ℓ) (c : Dev nD)
  (f0 : Fin' (A0 m c)) (f1 : Fin' (A1 m c)) (f2 : Fin' (A2 m c)) (f3 : Fin' (A3 m c)) (f4 : Fin' (A4 m c)) (f5 : Fin' (A5 m c))

theorem kAt_ctx (f1 : Fin' (A1 m c)) (b : Fin 2) (h : Fin 4) (mp : Fin 2) (d : Fin 64) (n : Fin 256) :
    A1 m c (ix5 b n h mp d) = (kAt (A1 m c) (A2 m c) b h mp d n.val : EReal) := by
  unfold kAt
  rw [dif_pos n.isLt]
  exact (f1 _).symm

theorem kAt_lat (f2 : Fin' (A2 m c)) (b : Fin 2) (h : Fin 4) (mp : Fin 2) (d : Fin 64) (n : Fin 16384) (k : ℕ) (hk : k = 256 + n.val) :
    A2 m c (ix5 b n h mp d) = (kAt (A1 m c) (A2 m c) b h mp d k : EReal) := by
  subst hk
  unfold kAt
  rw [dif_neg (by omega), dif_pos (by rw [Nat.add_sub_cancel_left]; exact n.isLt)]
  rw [show (⟨256 + n.val - 256, by rw [Nat.add_sub_cancel_left]; exact n.isLt⟩ : Fin 16384) = n from Fin.ext (Nat.add_sub_cancel_left ..)]
  exact (f2 _).symm

theorem vAt_ctx (f3 : Fin' (A3 m c)) (b : Fin 2) (h : Fin 4) (n : Fin 256) (e : Fin 128) :
    A3 m c (ix4 b n h e) = (vAt (A3 m c) (A4 m c) b h n.val e : EReal) := by
  unfold vAt
  rw [dif_pos n.isLt]
  exact (f3 _).symm

theorem vAt_lat (f4 : Fin' (A4 m c)) (b : Fin 2) (h : Fin 4) (n : Fin 16384) (e : Fin 128) :
    A4 m c (ix4 b n h e) = (vAt (A3 m c) (A4 m c) b h (256 + n.val) e : EReal) := by
  unfold vAt
  rw [dif_neg (by omega), dif_pos (by rw [Nat.add_sub_cancel_left]; exact n.isLt)]
  rw [show (⟨256 + n.val - 256, by rw [Nat.add_sub_cancel_left]; exact n.isLt⟩ : Fin 16384) = n from Fin.ext (Nat.add_sub_cancel_left ..)]
  exact (f4 _).symm

include f0 f1 f2 f3 f4

/-- What the body leaves in the output block at a grid point. -/
theorem point_val (t : Fin cfg0.N) (b : Fin 2) (h : Fin 4) (j : Fin 16)
    (hb : t.val / 64 = b.val) (hh : t.val / 16 % 4 = h.val) (hj : t.val % 16 = j.val) (r : Fin 1024) (e : Fin 128) :
    (outsAt0 m c t : FVec Ideal S1x1024x128 .bf16) (ix3 0 r e)
      = normed (fun e => diff (score (A0 m c) (A1 m c) (A2 m c) b h 0 ⟨1024 * j.val + r.val, by omega⟩)
          (score (A0 m c) (A1 m c) (A2 m c) b h 1 ⟨1024 * j.val + r.val, by omega⟩) (fun n => vAt (A3 m c) (A4 m c) b h n e) (lamOf (A5 m c)))
        (A6 m c (ix1 e)) e := by
  unfold outsAt0
  rw [← blk_g m c t e]
  have q0 : ∀ (r : Fin 1024) (d : Fin 64), (iblk m c 0 t : FVec Ideal S1x1024x128 .f32) (ix3 0 r ⟨d.val, by omega⟩) = A0 m c (ix5 b ⟨1024 * j.val + r.val, by omega⟩ h 0 d) := fun r d => by
    rw [← blk_q m c t b h j hb hh hj r 0 d]
    exact congrArg (fun x => (iblk m c 0 t : FVec Ideal S1x1024x128 .f32) (ix3 0 r x)) (Fin.ext (by simp))
  have q1 : ∀ (r : Fin 1024) (d : Fin 64), (iblk m c 0 t : FVec Ideal S1x1024x128 .f32) (ix3 0 r ⟨64 + d.val, by omega⟩) = A0 m c (ix5 b ⟨1024 * j.val + r.val, by omega⟩ h 1 d) := fun r d => by
    rw [← blk_q m c t b h j hb hh hj r 1 d]
    exact congrArg (fun x => (iblk m c 0 t : FVec Ideal S1x1024x128 .f32) (ix3 0 r x)) (Fin.ext (by simp))
  refine block_val (S := fun mp r => score (A0 m c) (A1 m c) (A2 m c) b h mp ⟨1024 * j.val + r.val, by omega⟩) (V := fun n e => vAt (A3 m c) (A4 m c) b h n e)
    (hC0 := fun r n => ?_) (hC1 := fun r n => ?_) (hVc := fun n e => ?_) (hL0 := fun kk r n => ?_) (hL1 := fun kk r n => ?_) (hVl := fun n e => ?_)
    (lam := lamOf (A5 m c)) (hlam := fun e => ?_) (r := r) (e := e) ..
  · exact dot_real _ _ (fun d => kAt (A1 m c) (A2 m c) b h 0 d n.val) (fun d => by rw [q0]; exact f0 _)
      (fun d => (blk_kc m c t b h j hb hh hj 0 d n).trans (kAt_ctx m c f1 b h 0 d n)) |>.trans (by simp only [q0]; rfl)
  · exact dot_real _ _ (fun d => kAt (A1 m c) (A2 m c) b h 1 d n.val) (fun d => by rw [q1]; exact f0 _)
      (fun d => (blk_kc m c t b h j hb hh hj 1 d n).trans (kAt_ctx m c f1 b h 1 d n)) |>.trans (by simp only [q1]; rfl)
  · exact (blk_vc m c t b h j hb hh hj n e).trans (vAt_ctx m c f3 b h n e)
  · exact dot_real _ _ (fun d => kAt (A1 m c) (A2 m c) b h 0 d (256 + 2048 * kk.val + n.val)) (fun d => by rw [q0]; exact f0 _)
      (fun d => (blk_kl m c t b h j hb hh hj 0 kk d n).trans (kAt_lat m c f2 b h 0 d _ _ (by dsimp only; omega))) |>.trans (by simp only [q0]; rfl)
  · exact dot_real _ _ (fun d => kAt (A1 m c) (A2 m c) b h 1 d (256 + 2048 * kk.val + n.val)) (fun d => by rw [q1]; exact f0 _)
      (fun d => (blk_kl m c t b h j hb hh hj 1 kk d n).trans (kAt_lat m c f2 b h 1 d _ _ (by dsimp only; omega))) |>.trans (by simp only [q1]; rfl)
  · exact (blk_vl m c t b h j hb hh hj n e).trans (vAt_lat m c f4 b h n e)
  · exact blk_lam m c t e

include f5

/-- THE OUTPUT ARRAY. -/
theorem final : (dats m 0 c).arrAt 7 cfg0.N
    = rOut (rO (rP (rE (rS (A0 m c) (rK (A1 m c) (A2 m c))) (rM (rS (A0 m c) (rK (A1 m c) (A2 m c)))))) (rV (A3 m c) (A4 m c)) (rLam (A5 m c))) (A6 m c) := by
  refine (dats m 0 c).arrAt_eq_of_covers 7 _ (by decide +kernel) fun t _ y => ?_
  blk_simp
  rw [after0_7]
  have e8 : t.val / 64 < 2 := (idx t).2.2.2.2.2.2.2.2
  have pv := (point_val m c f0 f1 f2 f3 f4 t ⟨t.val / 64, e8⟩ ⟨t.val / 16 % 4, Nat.mod_lt _ (by norm_num)⟩ ⟨t.val % 16, Nat.mod_lt _ (by norm_num)⟩ rfl rfl rfl (y 1) (y 2)).trans
    (ref_val (A0 m c) (A1 m c) (A2 m c) (A3 m c) (A4 m c) (A5 m c) (A6 m c) f0 f1 f2 f3 f4 f5 ⟨t.val / 64, e8⟩ ⟨1024 * (t.val % 16) + (y 1).val, by (have h : (y 1).val < 1024 := (y 1).isLt); omega⟩ ⟨t.val / 16 % 4, Nat.mod_lt _ (by norm_num)⟩ (y 2)).symm
  refine Eq.trans (congrArg _ ?_) (pv.trans (congrArg _ ?_))
  · blk_ext [idx t]
  · blk_ext [idx t]

end Arr

end Cert.KernelIdeal.Gen

end
-- ==== Proof.Finite.lean ====
/-
  What the precondition gives: every entry of the queries, keys, values and lambda parameters is a real number.
-/
module

public import proofs.«01_k».proof.Pre_finite
public import Idealize.ShloMosaic.Lib.ReduceAll
public import proofs.«01_k».proof.Proof.Model

@[expose] public section

set_option maxRecDepth 16384

noncomputable section

namespace Cert.Pre_finite

open Idealize.ShloMosaic Cert.Softmax

instance facts : Facts where
  bcast_S_S2x16384x4x2x64 := by decide
  reducesTo_S2x16384x4x2x64_S_d0_1_2_3_4 := by decide
  h_S_ := by decide
  bcast_S_S2x256x4x2x64 := by decide
  reducesTo_S2x256x4x2x64_S_d0_1_2_3_4 := by decide
  bcast_S_S2x256x4x128 := by decide
  reducesTo_S2x256x4x128_S_d0_1_2_3 := by decide
  bcast_S_S2x16384x4x128 := by decide
  reducesTo_S2x16384x4x128_S_d0_1_2_3 := by decide
  bcast_S_S4x64 := by decide
  reducesTo_S4x64_S_d0_1 := by decide

theorem inf_word : Ideal.ofBits FTy.f32 0x7F800000#32 = ⊤ := by simp [Ideal.ofBits, Ideal.ieee]

/-- A magnitude below infinity is a real number's. -/
theorem real_of_lt (x : EReal) (h : Ideal.cmp .olt (max x (-x)) (Ideal.ofBits FTy.f32 0x7F800000#32) = 1#1) : ((x.toReal : ℝ) : EReal) = x := by
  rw [inf_word] at h
  induction x using EReal.rec with
  | bot => simp [Ideal.cmp] at h
  | top => simp [Ideal.cmp] at h
  | coe x => rfl

theorem and_one {a b : IVec S_ 1} (h : andi a b = fun _ => 1#1) : a = (fun _ => 1#1) ∧ b = fun _ => 1#1 := by
  have k : ∀ i, a i = 1#1 ∧ b i = 1#1 := fun i => by
    have e : a i &&& b i = 1#1 := congrFun h i
    revert e; generalize a i = x; generalize b i = y; revert x y; decide
  exact ⟨funext fun i => (k i).1, funext fun i => (k i).2⟩

instance : Subsingleton S_.Idx := ⟨fun a b => funext fun i => i.elim0⟩

theorem fin_of {s : Shape} {axes} (x : FVec Ideal s .f32) (hb) (h : s.ReducesTo axes S_) (hu : 0 < S_.numel)
    (e : Host.reduce IntOp.andi (cmpf .olt (Host.absf x) (broadcastInDim s ![] hb (constant (F := Ideal) S_ .f32 0x7F800000#32))) (constantI S_ 1 1#1) h hu = fun _ => 1#1) :
    Fin' x := fun i =>
  real_of_lt (x i) (Host.reduce_andi_all _ _ _ _ (fun a => a.elim0) (congrFun e _) i)

theorem finite_args (a0 a1 a2 a3 a4 a5 a6) (h : fn (F := Ideal) a0 a1 a2 a3 a4 a5 a6 = fun _ => 1#1) :
    Fin' a0 ∧ Fin' a1 ∧ Fin' a2 ∧ Fin' a3 ∧ Fin' a4 ∧ Fin' a5 := by
  unfold fn fn_part1 at h
  dsimp only at h
  obtain ⟨h, h5⟩ := and_one h
  obtain ⟨h, h4⟩ := and_one h
  obtain ⟨h, h3⟩ := and_one h
  obtain ⟨h, h2⟩ := and_one h
  obtain ⟨h0, h1⟩ := and_one h
  exact ⟨fin_of _ _ _ _ h0, fin_of _ _ _ _ h1, fin_of _ _ _ _ h2, fin_of _ _ _ _ h3, fin_of _ _ _ _ h4, fin_of _ _ _ _ h5⟩

end Cert.Pre_finite

end
-- ==== Proof.GqaScore.lean ====
/-
  The scores the grouped-query kernel computes of one row against the keys of a chunk.
-/
module

public import proofs.«01_k».proof.Proof.Gen.GqaIdeal.Value
public import Idealize.ShloMosaic.Lib.Pointwise
public import Idealize.ShloMosaic.Lib.Pipeline.ValueKit
public import proofs.«01_k».proof.Proof.Pays

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

/-- The score of row `r` against key `j` of a chunk of 2048. -/
def scL (q : FVec Ideal S1024x64 .bf16) (k : Vec Ideal S1x1x1x64x2048 .bf16) (r : Fin 1024) (j : Fin 2048) : EReal :=
  ∑ d : Fin 64, q (ix2 r d) * k (ix5 0 0 0 d j)

/-- The score of row `r` against key `j` of the chunk of 256. -/
def scC (q : FVec Ideal S1024x64 .bf16) (k : Vec Ideal S1x1x1x64x256 .bf16) (r : Fin 1024) (j : Fin 256) : EReal :=
  ∑ d : Fin 64, q (ix2 r d) * k (ix5 0 0 0 d j)

end Cert.GqaIdeal.Gen

end
-- ==== Proof.GqaRows.lean ====
/-
  The invariant of the running softmax over the grouped-query kernel's scratch buffers, and what the loop reads.
-/
module

public import proofs.«01_k».proof.Proof.Gen.GqaIdeal.Value
public import Idealize.ShloMosaic.Lib.Pointwise
public import Idealize.ShloMosaic.Lib.Pipeline.ValueKit
public import proofs.«01_k».proof.Proof.GqaScore
public import Idealize.ShloMosaic.Lib.WritesUnit

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

open Cert.Softmax

/-- What head `c` of the pair's rows of the three scratch buffers hold after `n` keys: in each row one maximum and one
    weight sum in all 128 lanes, and in lane `e` of 64 the weighted sum of the values' column `e`. -/
def Rows (S : Fin 1024 → ℕ → ℝ) (V : ℕ → Fin 64 → ℝ) (n : ℕ) (c : Fin 2) (M L : S2x1024x128.Idx → EReal) (A : S2x1024x64.Idx → EReal) : Prop :=
  ∀ r : Fin 1024, ∃ m l : EReal, (∀ e : Fin 128, M (ix3 c r e) = m ∧ L (ix3 c r e) = l) ∧ ∀ e : Fin 64, St (S r) (fun k => V k e) n m l (A (ix3 c r e))

/-- One chunk of `T` keys. -/
theorem Rows.step {S : Fin 1024 → ℕ → ℝ} {V : ℕ → Fin 64 → ℝ} {n : ℕ} {c : Fin 2} {M L : S2x1024x128.Idx → EReal} {A : S2x1024x64.Idx → EReal}
    (h : Rows S V n c M L A) {T : ℕ} (hT : 0 < T) (sc : Fin 1024 → Fin T → EReal) (hs : ∀ r (j : Fin T), sc r j = (S r (n + j) : EReal))
    (vc : Fin T → Fin 64 → EReal) (hv : ∀ (j : Fin T) e, vc j e = (V (n + j) e : EReal)) (M' L' : S2x1024x128.Idx → EReal) (A' : S2x1024x64.Idx → EReal)
    (hM : ∀ r mm, (∀ e : Fin 128, M (ix3 c r e) = mm) → ∀ e : Fin 128, M' (ix3 c r e) = mx mm (sc r))
    (hL : ∀ r mm, (∀ e : Fin 128, M (ix3 c r e) = mm) → ∀ e : Fin 128, L' (ix3 c r e)
      = Ideal.exp2 (mm - mx mm (sc r)) * L (ix3 c r e) + ∑ j, Ideal.exp2 (sc r j - mx mm (sc r)))
    (hA : ∀ r mm, (∀ e : Fin 128, M (ix3 c r e) = mm) → ∀ e : Fin 64, A' (ix3 c r e)
      = A (ix3 c r e) * Ideal.exp2 (mm - mx mm (sc r)) + ∑ j, Ideal.exp2 (sc r j - mx mm (sc r)) * vc j e) :
    Rows S V (n + T) c M' L' A' := by
  intro r
  obtain ⟨m, l, h, ha⟩ := h r
  have hm : ∀ e : Fin 128, M (ix3 c r e) = m := fun e => (h e).1
  refine ⟨_, _, fun e => ⟨hM r m hm e, (hL r m hm e).trans (by rw [(h e).2])⟩, fun e => ?_⟩
  rw [hA r m hm e]
  exact Softmax.step (S r) (fun k => V k e) n T hT m l _ (ha e) (sc r) (fun j => vc j e) (hs r) (fun j => hv j e) _ rfl

/-- The rows only read the head's own rows. -/
theorem Rows.congr {S : Fin 1024 → ℕ → ℝ} {V : ℕ → Fin 64 → ℝ} {n : ℕ} {c : Fin 2} {M L M' L' : S2x1024x128.Idx → EReal} {A A' : S2x1024x64.Idx → EReal}
    (h : Rows S V n c M L A) (hM : ∀ r (e : Fin 128), M' (ix3 c r e) = M (ix3 c r e)) (hL : ∀ r (e : Fin 128), L' (ix3 c r e) = L (ix3 c r e))
    (hA : ∀ r (e : Fin 64), A' (ix3 c r e) = A (ix3 c r e)) : Rows S V n c M' L' A' := fun r => by
  obtain ⟨m, l, h, ha⟩ := h r
  exact ⟨m, l, fun e => by rw [hM, hL]; exact h e, fun e => by rw [hA]; exact ha e⟩

section Reads

/-- A scratch buffer of two heads' rows, `w` lanes wide, and one head's rows of it. -/
abbrev SB (w : ℕ) : Shape := ⟨3, ![2, 1024, w]⟩
abbrev SR (w : ℕ) : Shape := ⟨3, ![1, 1024, w]⟩

variable {w : ℕ} (v : View sig .tc .vmem (SB w) .f32) (f : BufTy.Contents (Elt Ideal) v.ty) (L : List (View.Piece (Elt Ideal) (SB w) .f32))

theorem rd_hit0 (inb) (x : (SR w).Idx → EReal) (r : Fin 1024) (e : Fin w) :
    v.read (Elt Ideal) (v.writes (Elt Ideal) f (⟨Rect.unit ![0, 0, 0] (SR w).size inb, x⟩ :: L)) (ix3 0 r e) = x (ix3 0 r e) :=
  View.read_writes_cons_unit_of_mem v f inb x L (ix3 0 r e) (ix3 0 r e) rfl (by
    intro a; fin_cases a <;> simp [ix3])

theorem rd_hit1 (inb) (x : (SR w).Idx → EReal) (r : Fin 1024) (e : Fin w) :
    v.read (Elt Ideal) (v.writes (Elt Ideal) f (⟨Rect.unit ![1, 0, 0] (SR w).size inb, x⟩ :: L)) (ix3 1 r e) = x (ix3 0 r e) :=
  View.read_writes_cons_unit_of_mem v f inb x L (ix3 1 r e) (ix3 0 r e) rfl (by
    intro a; fin_cases a <;> simp [ix3])

theorem rd_miss0 (inb) (x : (SR w).Idx → EReal) (r : Fin 1024) (e : Fin w) :
    v.read (Elt Ideal) (v.writes (Elt Ideal) f (⟨Rect.unit ![0, 0, 0] (SR w).size inb, x⟩ :: L)) (ix3 1 r e)
      = v.read (Elt Ideal) (v.writes (Elt Ideal) f L) (ix3 1 r e) :=
  View.read_writes_cons_unit_of_not_mem v f inb x L (ix3 1 r e) rfl 0 (Or.inr (by simp [ix3]; exact le_refl 1))

theorem rd_miss1 (inb) (x : (SR w).Idx → EReal) (r : Fin 1024) (e : Fin w) :
    v.read (Elt Ideal) (v.writes (Elt Ideal) f (⟨Rect.unit ![1, 0, 0] (SR w).size inb, x⟩ :: L)) (ix3 0 r e)
      = v.read (Elt Ideal) (v.writes (Elt Ideal) f L) (ix3 0 r e) :=
  View.read_writes_cons_unit_of_not_mem v f inb x L (ix3 0 r e) rfl 0 (Or.inl (by simp [ix3]; rfl))

theorem ld_row0 (inb) (r : Fin 1024) (e : Fin w) :
    View.readAt (Elt Ideal) v (Rect.unit (s := SB w) ![0, 0, 0] (SR w).size inb).toLoadRect f (ix3 0 r e : (SR w).Idx) = v.read (Elt Ideal) f (ix3 0 r e) :=
  congrArg (v.read (Elt Ideal) f) (funext fun a => Fin.ext (by fin_cases a <;> simp [ix3, LoadRect.idx, Rect.toLoadRect, Rect.unit]))

theorem ld_row1 (inb) (r : Fin 1024) (e : Fin w) :
    View.readAt (Elt Ideal) v (Rect.unit (s := SB w) ![1, 0, 0] (SR w).size inb).toLoadRect f (ix3 0 r e : (SR w).Idx) = v.read (Elt Ideal) f (ix3 1 r e) :=
  congrArg (v.read (Elt Ideal) f) (funext fun a => Fin.ext (by fin_cases a <;> simp [ix3, LoadRect.idx, Rect.toLoadRect, Rect.unit]))

/-- A buffer filled with one array. -/
theorem rd_fill (inb) (x : (SB w).Idx → EReal) (c : Fin 2) (r : Fin 1024) (e : Fin w) :
    v.read (Elt Ideal) (v.writes (Elt Ideal) f [⟨Rect.unit ![0, 0, 0] (SB w).size inb, x⟩]) (ix3 c r e) = x (ix3 c r e) :=
  View.read_writes_cons_unit_of_mem v f inb x [] (ix3 c r e) (ix3 c r e) rfl (by
    intro a; fin_cases a <;> simp [ix3])

end Reads

theorem trips_eq : k0_t1_loop.trips = 8 := by decide +kernel
theorem off1 : ∀ k : Fin k0_t1_loop.trips, k0_off1 k = ![0, 0, k.val, 0, 0] := by decide +kernel
theorem off2 : ∀ k : Fin k0_t1_loop.trips, k0_off2 k = ![0, 0, 2048 * k.val, 0] := by decide +kernel

theorem ld_k (v : View sig .tc .vmem S1x1x8x64x2048 .bf16) (f : BufTy.Contents (Elt Ideal) v.ty) (k : Fin k0_t1_loop.trips) (inb)
    (k' : Fin 8) (hk : k'.val = k.val) (d : Fin 64) (j : Fin 2048) :
    View.readAt (Elt Ideal) v (Rect.unit (s := S1x1x8x64x2048) (k0_off1 k) S1x1x1x64x2048.size inb).toLoadRect f (ix5 0 0 0 d j : S1x1x1x64x2048.Idx)
      = v.read (Elt Ideal) f (ix5 0 0 k' d j) :=
  congrArg (v.read (Elt Ideal) f) (funext fun a => Fin.ext (by
    refine (congrArg (fun z => z + 1 * _) (congrFun (off1 k) a)).trans ?_
    fin_cases a <;> simp [ix5, hk]))

theorem ld_v (v : View sig .tc .vmem S1x1x16384x64 .bf16) (f : BufTy.Contents (Elt Ideal) v.ty) (k : Fin k0_t1_loop.trips) (inb)
    (j : Fin 2048) (j' : Fin 16384) (hj : j'.val = 2048 * k.val + j.val) (e : Fin 64) :
    View.readAt (Elt Ideal) v (Rect.unit (s := S1x1x16384x64) (k0_off2 k) S1x1x2048x64.size inb).toLoadRect f (ix4 0 0 j e : S1x1x2048x64.Idx)
      = v.read (Elt Ideal) f (ix4 0 0 j' e) :=
  congrArg (v.read (Elt Ideal) f) (funext fun a => Fin.ext (by
    refine (congrArg (fun z => z + 1 * _) (congrFun (off2 k) a)).trans ?_
    fin_cases a <;> simp [ix4, hj]))

end Cert.GqaIdeal.Gen

end
-- ==== Proof.GqaPays0.lean ====
/-
  The grouped-query kernel's stored values of one chunk step, first head of a pair, at one row and lane.
-/
module

public import proofs.«01_k».proof.Proof.Gen.GqaIdeal.Value
public import Idealize.ShloMosaic.Lib.Pointwise
public import Idealize.ShloMosaic.Lib.Pipeline.ValueKit
public import proofs.«01_k».proof.Proof.GqaScore

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

theorem sc_L0 (q : FVec Ideal S1024x64 .bf16) (k : Vec Ideal S1x1x1x64x2048 .bf16) (r : Fin 1024) (j : Fin 2048) :
    k0_pay7 q k (ix2 r j) = scL q k r j := by
  pointwise [k0_pay7]; rfl

theorem mn_L0 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay9 q k m (ix2 r e) = mx mm (scL q k r) := by
  pointwise [k0_pay9, k0_pay8]
  rw [hm, bot_word]; simp only [sc_L0]; rfl

theorem al_L0 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay10 q k m (ix2 r e) = Ideal.exp2 (mm - mx mm (scL q k r)) := by
  have h1 : k0_pay8 m (ix2 r e) = mm := by rw [← hm e]; pointwise [k0_pay8]
  rw [← mn_L0 q k m r mm hm e, ← h1]; rfl

theorem p_L0 (q : FVec Ideal S1024x64 .bf16) (k : Vec Ideal S1x1x1x64x2048 .bf16) (m : Vec Ideal S1x1024x128 .f32) (r : Fin 1024) (mm : EReal)
    (hm : ∀ e : Fin 128, m (ix3 0 r e) = mm) (j : Fin 2048) : k0_pay11 q k m (ix2 r j) = Ideal.exp2 (scL q k r j - mx mm (scL q k r)) := by
  unfold k0_pay11
  show Ideal.exp2 (k0_pay7 q k (ix2 r j) - concatenate S1024x2048 1 _ _ (ix2 r j)) = _
  rw [sc_L0, tiled16 _ _ r j _ (mn_L0 q k m r mm hm)]

theorem lst_L0 (q : FVec Ideal S1024x64 .bf16) (k : Vec Ideal S1x1x1x64x2048 .bf16) (m l : Vec Ideal S1x1024x128 .f32) (r : Fin 1024) (mm : EReal)
    (hm : ∀ e : Fin 128, m (ix3 0 r e) = mm) (e : Fin 128) :
    k0_pay12 q k m l (ix3 0 r e) = Ideal.exp2 (mm - mx mm (scL q k r)) * l (ix3 0 r e) + ∑ j, Ideal.exp2 (scL q k r j - mx mm (scL q k r)) := by
  pointwise [k0_pay12]
  simp only [al_L0 q k m r mm hm, p_L0 q k m r mm hm]

theorem ast_L0 (q : FVec Ideal S1024x64 .bf16) (k : Vec Ideal S1x1x1x64x2048 .bf16) (m : Vec Ideal S1x1024x128 .f32) (a : Vec Ideal S1x1024x64 .f32) (v : Vec Ideal S1x1x2048x64 .bf16) (r : Fin 1024) (mm : EReal)
    (hm : ∀ e : Fin 128, m (ix3 0 r e) = mm) (e : Fin 64) :
    k0_pay15 (k0_pay6 v) (k0_pay13 q k m a) (k0_pay14 q k m) (ix3 0 r e) = a (ix3 0 r e) * Ideal.exp2 (mm - mx mm (scL q k r)) + ∑ j, Ideal.exp2 (scL q k r j - mx mm (scL q k r)) * v (ix4 0 0 j e) := by
  pointwise [k0_pay15, k0_pay6, k0_pay13, k0_pay14]
  simp only [al_L0 q k m r mm hm, p_L0 q k m r mm hm]

theorem mst_L0 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay16 (k0_pay9 q k m) (ix3 0 r e) = mx mm (scL q k r) := by
  rw [← mn_L0 q k m r mm hm e]; pointwise [k0_pay16]

end Cert.GqaIdeal.Gen

end
-- ==== Proof.GqaPays1.lean ====
/-
  The same for the second head of a pair.
-/
module

public import proofs.«01_k».proof.Proof.Gen.GqaIdeal.Value
public import Idealize.ShloMosaic.Lib.Pointwise
public import Idealize.ShloMosaic.Lib.Pipeline.ValueKit
public import proofs.«01_k».proof.Proof.GqaScore

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

theorem sc_L1 (q : FVec Ideal S1024x64 .bf16) (k : Vec Ideal S1x1x1x64x2048 .bf16) (r : Fin 1024) (j : Fin 2048) :
    k0_pay18 q k (ix2 r j) = scL q k r j := by
  pointwise [k0_pay18]; rfl

theorem mn_L1 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay20 q k m (ix2 r e) = mx mm (scL q k r) := by
  pointwise [k0_pay20, k0_pay19]
  rw [hm, bot_word]; simp only [sc_L1]; rfl

theorem al_L1 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay21 q k m (ix2 r e) = Ideal.exp2 (mm - mx mm (scL q k r)) := by
  have h1 : k0_pay19 m (ix2 r e) = mm := by rw [← hm e]; pointwise [k0_pay19]
  rw [← mn_L1 q k m r mm hm e, ← h1]; rfl

theorem p_L1 (q : FVec Ideal S1024x64 .bf16) (k : Vec Ideal S1x1x1x64x2048 .bf16) (m : Vec Ideal S1x1024x128 .f32) (r : Fin 1024) (mm : EReal)
    (hm : ∀ e : Fin 128, m (ix3 0 r e) = mm) (j : Fin 2048) : k0_pay22 q k m (ix2 r j) = Ideal.exp2 (scL q k r j - mx mm (scL q k r)) := by
  unfold k0_pay22
  show Ideal.exp2 (k0_pay18 q k (ix2 r j) - concatenate S1024x2048 1 _ _ (ix2 r j)) = _
  rw [sc_L1, tiled16 _ _ r j _ (mn_L1 q k m r mm hm)]

theorem lst_L1 (q : FVec Ideal S1024x64 .bf16) (k : Vec Ideal S1x1x1x64x2048 .bf16) (m l : Vec Ideal S1x1024x128 .f32) (r : Fin 1024) (mm : EReal)
    (hm : ∀ e : Fin 128, m (ix3 0 r e) = mm) (e : Fin 128) :
    k0_pay2 (k0_pay23 q k m l) (k0_pay24 q k m) (ix3 0 r e) = Ideal.exp2 (mm - mx mm (scL q k r)) * l (ix3 0 r e) + ∑ j, Ideal.exp2 (scL q k r j - mx mm (scL q k r)) := by
  pointwise [k0_pay2, k0_pay23, k0_pay24]
  simp only [al_L1 q k m r mm hm, p_L1 q k m r mm hm]

theorem ast_L1 (q : FVec Ideal S1024x64 .bf16) (k : Vec Ideal S1x1x1x64x2048 .bf16) (m : Vec Ideal S1x1024x128 .f32) (a : Vec Ideal S1x1024x64 .f32) (v : Vec Ideal S1x1x2048x64 .bf16) (r : Fin 1024) (mm : EReal)
    (hm : ∀ e : Fin 128, m (ix3 0 r e) = mm) (e : Fin 64) :
    k0_pay3 (k0_pay17 v) (k0_pay21 q k m) (k0_pay22 q k m) a (ix3 0 r e) = a (ix3 0 r e) * Ideal.exp2 (mm - mx mm (scL q k r)) + ∑ j, Ideal.exp2 (scL q k r j - mx mm (scL q k r)) * v (ix4 0 0 j e) := by
  pointwise [k0_pay3, k0_pay17]
  simp only [al_L1 q k m r mm hm, p_L1 q k m r mm hm]

theorem mst_L1 (q : FVec Ideal S1024x64 .bf16) (k : Vec Ideal S1x1x1x64x2048 .bf16) (m : Vec Ideal S1x1024x128 .f32) (r : Fin 1024) (mm : EReal)
    (hm : ∀ e : Fin 128, m (ix3 0 r e) = mm) (e : Fin 128) : k0_pay4 (k0_pay20 q k m) (ix3 0 r e) = mx mm (scL q k r) := by
  rw [← mn_L1 q k m r mm hm e]; pointwise [k0_pay4]

end Cert.GqaIdeal.Gen

end
-- ==== Proof.GqaTrip.lean ====
/-
  One trip of the grouped-query kernel's loop over the latent keys, and all eight.
-/
module

public import proofs.«01_k».proof.Proof.Gen.GqaIdeal.Value
public import Idealize.ShloMosaic.Lib.Pointwise
public import Idealize.ShloMosaic.Lib.Pipeline.ValueKit
public import proofs.«01_k».proof.Proof.GqaRows
public import proofs.«01_k».proof.Proof.GqaPays0
public import proofs.«01_k».proof.Proof.GqaPays1

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

open Cert.Softmax

/-- The keys and the values of trip `k`, as the trip loads them. -/
abbrev kk {arg6 : Memref sig .tc .vmem S1x1x8x64x2048 .bf16} (X_arg6 : BufTy.Contents (Elt Ideal) arg6.view.ty) (k : Fin k0_t1_loop.trips) : Vec Ideal S1x1x1x64x2048 .bf16 :=
  View.readAt (Elt Ideal) arg6.view (Rect.unit (s := S1x1x8x64x2048) (k0_off1 k) S1x1x1x64x2048.size (k0_off1_inb k)).toLoadRect X_arg6
abbrev vv {arg7 : Memref sig .tc .vmem S1x1x16384x64 .bf16} (X_arg7 : BufTy.Contents (Elt Ideal) arg7.view.ty) (k : Fin k0_t1_loop.trips) : Vec Ideal S1x1x2048x64 .bf16 :=
  View.readAt (Elt Ideal) arg7.view (Rect.unit (s := S1x1x16384x64) (k0_off2 k) S1x1x2048x64.size (k0_off2_inb k)).toLoadRect X_arg7
/-- The first and the second head's rows of a scratch buffer, as loaded: maximum or weight sum, then the values' sum. -/
abbrev ld0 {b : Memref sig .tc .vmem S2x1024x128 .f32} (f : BufTy.Contents (Elt Ideal) b.view.ty) : Vec Ideal S1x1024x128 .f32 :=
  View.readAt (Elt Ideal) b.view (Rect.unit (s := S2x1024x128) ![0, 0, 0] S1x1024x128.size inb_S2x1024x128_S1x1024x128_0_0_0).toLoadRect f
abbrev ld1 {b : Memref sig .tc .vmem S2x1024x128 .f32} (f : BufTy.Contents (Elt Ideal) b.view.ty) : Vec Ideal S1x1024x128 .f32 :=
  View.readAt (Elt Ideal) b.view (Rect.unit (s := S2x1024x128) ![1, 0, 0] S1x1024x128.size inb_S2x1024x128_S1x1024x128_1_0_0).toLoadRect f
abbrev la0 {b : Memref sig .tc .vmem S2x1024x64 .f32} (f : BufTy.Contents (Elt Ideal) b.view.ty) : Vec Ideal S1x1024x64 .f32 :=
  View.readAt (Elt Ideal) b.view (Rect.unit (s := S2x1024x64) ![0, 0, 0] S1x1024x64.size inb_S2x1024x64_S1x1024x64_0_0_0).toLoadRect f
abbrev la1 {b : Memref sig .tc .vmem S2x1024x64 .f32} (f : BufTy.Contents (Elt Ideal) b.view.ty) : Vec Ideal S1x1024x64 .f32 :=
  View.readAt (Elt Ideal) b.view (Rect.unit (s := S2x1024x64) ![1, 0, 0] S1x1024x64.size inb_S2x1024x64_S1x1024x64_1_0_0).toLoadRect f

section Trip

variable (𝒱 : Variants) (c : Dev nD) (bd : Option 𝒱.V) (i : grid0.Coords) (arg3 : Memref sig .tc .vmem S1x1024x128 .f32) (harg3 : arg3.IsWhole) (arg4 : Memref sig .tc .vmem S1x1x1x64x256 .bf16) (harg4 : arg4.IsWhole) (arg5 : Memref sig .tc .vmem S1x1x256x64 .bf16) (harg5 : arg5.IsWhole) (arg6 : Memref sig .tc .vmem S1x1x8x64x2048 .bf16) (harg6 : arg6.IsWhole) (arg7 : Memref sig .tc .vmem S1x1x16384x64 .bf16) (harg7 : arg7.IsWhole) (arg8 : Memref sig .tc .vmem S1x1024x128 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x64 .f32) (harg11 : arg11.IsWhole)
variable (v17 : FVec Ideal S1024x64 .bf16) (v18 : FVec Ideal S1024x64 .bf16) (X_arg6 : BufTy.Contents (Elt Ideal) arg6.view.ty) (X_arg7 : BufTy.Contents (Elt Ideal) arg7.view.ty)

section One

variable (k : Fin k0_t1_loop.trips) (f_arg9 : BufTy.Contents (Elt Ideal) arg9.view.ty) (f_arg10 : BufTy.Contents (Elt Ideal) arg10.view.ty) (f_arg11 : BufTy.Contents (Elt Ideal) arg11.view.ty)

theorem trip_m : (trip_k0_t1 (F := Ideal) 𝒱 c bd i arg3 harg3 arg4 harg4 arg5 harg5 arg6 harg6 arg7 harg7 arg8 harg8 arg9 harg9 arg10 harg10 arg11 harg11 v17 v18 X_arg6 X_arg7 k).1 f_arg9 f_arg10 f_arg11
    = [⟨Rect.unit (s := S2x1024x128) ![1, 0, 0] S1x1024x128.size inb_S2x1024x128_S1x1024x128_1_0_0, k0_pay4 (k0_pay20 v18 (kk X_arg6 k) (ld1 f_arg9))⟩,
       ⟨Rect.unit (s := S2x1024x128) ![0, 0, 0] S1x1024x128.size inb_S2x1024x128_S1x1024x128_0_0_0, k0_pay16 (k0_pay9 v17 (kk X_arg6 k) (ld0 f_arg9))⟩] := by
  unfold trip_k0_t1; rfl

theorem trip_l : (trip_k0_t1 (F := Ideal) 𝒱 c bd i arg3 harg3 arg4 harg4 arg5 harg5 arg6 harg6 arg7 harg7 arg8 harg8 arg9 harg9 arg10 harg10 arg11 harg11 v17 v18 X_arg6 X_arg7 k).2.1 f_arg9 f_arg10 f_arg11
    = [⟨Rect.unit (s := S2x1024x128) ![1, 0, 0] S1x1024x128.size inb_S2x1024x128_S1x1024x128_1_0_0, k0_pay2 (k0_pay23 v18 (kk X_arg6 k) (ld1 f_arg9) (ld1 f_arg10)) (k0_pay24 v18 (kk X_arg6 k) (ld1 f_arg9))⟩,
       ⟨Rect.unit (s := S2x1024x128) ![0, 0, 0] S1x1024x128.size inb_S2x1024x128_S1x1024x128_0_0_0, k0_pay12 v17 (kk X_arg6 k) (ld0 f_arg9) (ld0 f_arg10)⟩] := by
  unfold trip_k0_t1; rfl

theorem trip_a : (trip_k0_t1 (F := Ideal) 𝒱 c bd i arg3 harg3 arg4 harg4 arg5 harg5 arg6 harg6 arg7 harg7 arg8 harg8 arg9 harg9 arg10 harg10 arg11 harg11 v17 v18 X_arg6 X_arg7 k).2.2.1 f_arg9 f_arg10 f_arg11
    = [⟨Rect.unit (s := S2x1024x64) ![1, 0, 0] S1x1024x64.size inb_S2x1024x64_S1x1024x64_1_0_0, k0_pay3 (k0_pay17 (vv X_arg7 k)) (k0_pay21 v18 (kk X_arg6 k) (ld1 f_arg9)) (k0_pay22 v18 (kk X_arg6 k) (ld1 f_arg9)) (la1 f_arg11)⟩,
       ⟨Rect.unit (s := S2x1024x64) ![0, 0, 0] S1x1024x64.size inb_S2x1024x64_S1x1024x64_0_0_0, k0_pay15 (k0_pay6 (vv X_arg7 k)) (k0_pay13 v17 (kk X_arg6 k) (ld0 f_arg9) (la0 f_arg11)) (k0_pay14 v17 (kk X_arg6 k) (ld0 f_arg9))⟩] := by
  unfold trip_k0_t1; rfl

end One

variable (S : Fin 2 → Fin 1024 → ℕ → ℝ) (V : ℕ → Fin 64 → ℝ)
  (hS0 : ∀ (kk : Fin 8) (r : Fin 1024) (j : Fin 2048), ∑ d : Fin 64, v17 (ix2 r d) * arg6.view.read (Elt Ideal) X_arg6 (ix5 0 0 kk d j) = (S 0 r (256 + 2048 * kk.val + j.val) : EReal))
  (hS1 : ∀ (kk : Fin 8) (r : Fin 1024) (j : Fin 2048), ∑ d : Fin 64, v18 (ix2 r d) * arg6.view.read (Elt Ideal) X_arg6 (ix5 0 0 kk d j) = (S 1 r (256 + 2048 * kk.val + j.val) : EReal))
  (hV : ∀ (j : Fin 16384) (e : Fin 64), arg7.view.read (Elt Ideal) X_arg7 (ix4 0 0 j e) = (V (256 + j.val) e : EReal))

include hS0 hS1 hV

theorem trip_rows (k : Fin k0_t1_loop.trips) (f_arg9 : BufTy.Contents (Elt Ideal) arg9.view.ty) (f_arg10 : BufTy.Contents (Elt Ideal) arg10.view.ty) (f_arg11 : BufTy.Contents (Elt Ideal) arg11.view.ty)
    (h : ∀ mp : Fin 2, Rows (S mp) V (256 + 2048 * k.val) mp (arg9.view.read (Elt Ideal) f_arg9) (arg10.view.read (Elt Ideal) f_arg10) (arg11.view.read (Elt Ideal) f_arg11)) (mp : Fin 2) :
    Rows (S mp) V (256 + 2048 * k.val + 2048) mp
      (arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 v17 v18 X_arg6 X_arg7 k).1 f_arg9 f_arg10 f_arg11)))
      (arg10.view.read (Elt Ideal) (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 v17 v18 X_arg6 X_arg7 k).2.1 f_arg9 f_arg10 f_arg11)))
      (arg11.view.read (Elt Ideal) (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 v17 v18 X_arg6 X_arg7 k).2.2.1 f_arg9 f_arg10 f_arg11))) := by
  rw [trip_m, trip_l, trip_a]
  have hk8 : k.val < 8 := lt_of_lt_of_eq k.isLt trips_eq
  have hvv : ∀ (j : Fin 2048) (e : Fin 64), vv X_arg7 k (ix4 0 0 j e) = (V (256 + 2048 * k.val + j.val) e : EReal) := fun j e => by
    refine (ld_v arg7.view X_arg7 k _ j ⟨2048 * k.val + j.val, by have := j.isLt; omega⟩ rfl e).trans ?_
    rw [hV, Nat.add_assoc]
  match mp with
  | 0 =>
    refine (h 0).step (by norm_num) (scL v17 (kk X_arg6 k)) (fun r j => ?_) (fun j e => vv X_arg7 k (ix4 0 0 j e)) hvv _ _ _ ?_ ?_ ?_
    · rw [← hS0 ⟨k.val, hk8⟩]
      exact Finset.sum_congr rfl fun d _ => congrArg _ (ld_k arg6.view X_arg6 k _ ⟨k.val, hk8⟩ rfl d j)
    · intro r mm hm e
      rw [rd_miss1, rd_hit0]
      exact mst_L0 _ _ _ r mm (fun e => (ld_row0 _ _ _ r e).trans (hm e)) e
    · intro r mm hm e
      rw [rd_miss1, rd_hit0, ← ld_row0 arg10.view f_arg10 inb_S2x1024x128_S1x1024x128_0_0_0 r e]
      exact lst_L0 _ _ _ _ r mm (fun e => (ld_row0 _ _ _ r e).trans (hm e)) e
    · intro r mm hm e
      rw [rd_miss1, rd_hit0, ← ld_row0 arg11.view f_arg11 inb_S2x1024x64_S1x1024x64_0_0_0 r e]
      exact ast_L0 _ _ _ _ _ r mm (fun e => (ld_row0 _ _ _ r e).trans (hm e)) e
  | 1 =>
    refine (h 1).step (by norm_num) (scL v18 (kk X_arg6 k)) (fun r j => ?_) (fun j e => vv X_arg7 k (ix4 0 0 j e)) hvv _ _ _ ?_ ?_ ?_
    · rw [← hS1 ⟨k.val, hk8⟩]
      exact Finset.sum_congr rfl fun d _ => congrArg _ (ld_k arg6.view X_arg6 k _ ⟨k.val, hk8⟩ rfl d j)
    · intro r mm hm e
      rw [rd_hit1]
      exact mst_L1 _ _ _ r mm (fun e => (ld_row1 _ _ _ r e).trans (hm e)) e
    · intro r mm hm e
      rw [rd_hit1, ← ld_row1 arg10.view f_arg10 inb_S2x1024x128_S1x1024x128_1_0_0 r e]
      exact lst_L1 _ _ _ _ r mm (fun e => (ld_row1 _ _ _ r e).trans (hm e)) e
    · intro r mm hm e
      rw [rd_hit1, ← ld_row1 arg11.view f_arg11 inb_S2x1024x64_S1x1024x64_1_0_0 r e]
      exact ast_L1 _ _ _ _ _ r mm (fun e => (ld_row1 _ _ _ r e).trans (hm e)) e

/-- After `j` trips, from rows holding the first 256 keys. -/
theorem loop_rows (G_arg9 : BufTy.Contents (Elt Ideal) arg9.view.ty) (G_arg10 : BufTy.Contents (Elt Ideal) arg10.view.ty) (G_arg11 : BufTy.Contents (Elt Ideal) arg11.view.ty)
    (h : ∀ mp : Fin 2, Rows (S mp) V 256 mp (arg9.view.read (Elt Ideal) G_arg9) (arg10.view.read (Elt Ideal) G_arg10) (arg11.view.read (Elt Ideal) G_arg11)) (j : ℕ) (hj : j ≤ 8) (mp : Fin 2) :
    Rows (S mp) V (256 + 2048 * j) mp
      (arg9.view.read (Elt Ideal) (arg9.view.writes (Elt Ideal) G_arg9 (pb_k0_t1 (F := Ideal) 𝒱 c bd i arg3 harg3 arg4 harg4 arg5 harg5 arg6 harg6 arg7 harg7 arg8 harg8 arg9 harg9 arg10 harg10 arg11 harg11 v17 v18 X_arg6 X_arg7 G_arg9 G_arg10 G_arg11 j).1))
      (arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 arg11 harg11 v17 v18 X_arg6 X_arg7 G_arg9 G_arg10 G_arg11 j).2.1))
      (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 v17 v18 X_arg6 X_arg7 G_arg9 G_arg10 G_arg11 j).2.2)) := by
  induction j generalizing mp with
  | zero => exact h mp
  | succ j ih =>
    have hk : j < k0_t1_loop.trips := by rw [trips_eq]; omega
    have e := pb_k0_t1_succ (F := Ideal) 𝒱 c bd i arg3 harg3 arg4 harg4 arg5 harg5 arg6 harg6 arg7 harg7 arg8 harg8 arg9 harg9 arg10 harg10 arg11 harg11 v17 v18 X_arg6 X_arg7 G_arg9 G_arg10 G_arg11 ⟨j, hk⟩
    dsimp only at e
    rw [e]
    dsimp only
    rw [View.writes_append, View.writes_append, View.writes_append]
    exact trip_rows 𝒱 c bd i arg3 harg3 arg4 harg4 arg5 harg5 arg6 harg6 arg7 harg7 arg8 harg8 arg9 harg9 arg10 harg10 arg11 harg11 v17 v18 X_arg6 X_arg7 S V hS0 hS1 hV ⟨j, hk⟩ _ _ _ (fun mp => ih (by omega) mp) mp

end Trip

end Cert.GqaIdeal.Gen

end
-- ==== Proof.GqaPaysC.lean ====
/-
  The same for the chunk of 256 context keys, both heads of a pair.
-/
module

public import proofs.«01_k».proof.Proof.Gen.GqaIdeal.Value
public import Idealize.ShloMosaic.Lib.Pointwise
public import Idealize.ShloMosaic.Lib.Pipeline.ValueKit
public import proofs.«01_k».proof.Proof.GqaScore

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word tiled16 tiled2)

theorem sc_C0 (x : Vec Ideal S1x1024x128 .f32) (k : Vec Ideal S1x1x1x64x256 .bf16) (r : Fin 1024) (j : Fin 256) :
    k0_pay32 x k (ix2 r j) = scC (k0_pay29 x) k r j := by
  pointwise [k0_pay32]; rfl

theorem mn_C0 (x : Vec Ideal S1x1024x128 .f32) (k : Vec Ideal S1x1x1x64x256 .bf16) (m : Vec Ideal S1x1024x128 .f32) (r : Fin 1024) (mm : EReal)
    (hm : ∀ e : Fin 128, m (ix3 0 r e) = mm) (e : Fin 128) : k0_pay34 (k0_pay32 x k) m (ix2 r e) = mx mm (scC (k0_pay29 x) k r) := by
  pointwise [k0_pay34, k0_pay33]
  rw [hm, bot_word]; simp only [sc_C0]; rfl

theorem al_C0 (x : Vec Ideal S1x1024x128 .f32) (k : Vec Ideal S1x1x1x64x256 .bf16) (m : Vec Ideal S1x1024x128 .f32) (r : Fin 1024) (mm : EReal)
    (hm : ∀ e : Fin 128, m (ix3 0 r e) = mm) (e : Fin 128) : k0_pay35 (k0_pay32 x k) m (ix2 r e) = Ideal.exp2 (mm - mx mm (scC (k0_pay29 x) k r)) := by
  have h1 : k0_pay33 m (ix2 r e) = mm := by rw [← hm e]; pointwise [k0_pay33]
  rw [← mn_C0 x k m r mm hm e, ← h1]; rfl

theorem p_C0 (x : Vec Ideal S1x1024x128 .f32) (k : Vec Ideal S1x1x1x64x256 .bf16) (m : Vec Ideal S1x1024x128 .f32) (r : Fin 1024) (mm : EReal)
    (hm : ∀ e : Fin 128, m (ix3 0 r e) = mm) (j : Fin 256) : k0_pay36 (k0_pay32 x k) m (ix2 r j) = Ideal.exp2 (scC (k0_pay29 x) k r j - mx mm (scC (k0_pay29 x) k r)) := by
  unfold k0_pay36
  show Ideal.exp2 (k0_pay32 x k (ix2 r j) - concatenate S1024x256 1 _ _ (ix2 r j)) = _
  rw [sc_C0, tiled2 _ _ r j _ (mn_C0 x k m r mm hm)]

theorem lst_C0 (x : Vec Ideal S1x1024x128 .f32) (k : Vec Ideal S1x1x1x64x256 .bf16) (m l : Vec Ideal S1x1024x128 .f32) (r : Fin 1024) (mm : EReal)
    (hm : ∀ e : Fin 128, m (ix3 0 r e) = mm) (e : Fin 128) :
    k0_pay37 (k0_pay32 x k) m l (ix3 0 r e) = Ideal.exp2 (mm - mx mm (scC (k0_pay29 x) k r)) * l (ix3 0 r e) + ∑ j, Ideal.exp2 (scC (k0_pay29 x) k r j - mx mm (scC (k0_pay29 x) k r)) := by
  pointwise [k0_pay37]
  simp only [al_C0 x k m r mm hm, p_C0 x k m r mm hm]

theorem ast_C0 (x : Vec Ideal S1x1024x128 .f32) (k : Vec Ideal S1x1x1x64x256 .bf16) (m : Vec Ideal S1x1024x128 .f32) (a : Vec Ideal S1x1024x64 .f32) (v : Vec Ideal S1x1x256x64 .bf16) (r : Fin 1024) (mm : EReal)
    (hm : ∀ e : Fin 128, m (ix3 0 r e) = mm) (e : Fin 64) :
    k0_pay38 (k0_pay31 v) (k0_pay32 x k) m a (ix3 0 r e) = a (ix3 0 r e) * Ideal.exp2 (mm - mx mm (scC (k0_pay29 x) k r)) + ∑ j, Ideal.exp2 (scC (k0_pay29 x) k r j - mx mm (scC (k0_pay29 x) k r)) * v (ix4 0 0 j e) := by
  pointwise [k0_pay38, k0_pay31]
  simp only [al_C0 x k m r mm hm, p_C0 x k m r mm hm]

theorem mst_C0 (x : Vec Ideal S1x1024x128 .f32) (k : Vec Ideal S1x1x1x64x256 .bf16) (m : Vec Ideal S1x1024x128 .f32) (r : Fin 1024) (mm : EReal)
    (hm : ∀ e : Fin 128, m (ix3 0 r e) = mm) (e : Fin 128) : k0_pay39 (k0_pay32 x k) m (ix3 0 r e) = mx mm (scC (k0_pay29 x) k r) := by
  rw [← mn_C0 x k m r mm hm e]; pointwise [k0_pay39]

theorem sc_C1 (q : FVec Ideal S1024x64 .bf16) (k : Vec Ideal S1x1x1x64x256 .bf16) (r : Fin 1024) (j : Fin 256) :
    k0_pay40 q k (ix2 r j) = scC q k r j := by
  pointwise [k0_pay40]; rfl

theorem mn_C1 (q : FVec Ideal S1024x64 .bf16) (k : Vec Ideal S1x1x1x64x256 .bf16) (m : Vec Ideal S1x1024x128 .f32) (r : Fin 1024) (mm : EReal)
    (hm : ∀ e : Fin 128, m (ix3 0 r e) = mm) (e : Fin 128) : k0_pay42 q k m (ix2 r e) = mx mm (scC q k r) := by
  pointwise [k0_pay42, k0_pay41]
  rw [hm, bot_word]; simp only [sc_C1]; rfl

theorem al_C1 (q : FVec Ideal S1024x64 .bf16) (k : Vec Ideal S1x1x1x64x256 .bf16) (m : Vec Ideal S1x1024x128 .f32) (r : Fin 1024) (mm : EReal)
    (hm : ∀ e : Fin 128, m (ix3 0 r e) = mm) (e : Fin 128) : k0_pay43 q k m (ix2 r e) = Ideal.exp2 (mm - mx mm (scC q k r)) := by
  have h1 : k0_pay41 m (ix2 r e) = mm := by rw [← hm e]; pointwise [k0_pay41]
  rw [← mn_C1 q k m r mm hm e, ← h1]; rfl

theorem p_C1 (q : FVec Ideal S1024x64 .bf16) (k : Vec Ideal S1x1x1x64x256 .bf16) (m : Vec Ideal S1x1024x128 .f32) (r : Fin 1024) (mm : EReal)
    (hm : ∀ e : Fin 128, m (ix3 0 r e) = mm) (j : Fin 256) : k0_pay44 q k m (ix2 r j) = Ideal.exp2 (scC q k r j - mx mm (scC q k r)) := by
  unfold k0_pay44
  show Ideal.exp2 (k0_pay40 q k (ix2 r j) - concatenate S1024x256 1 _ _ (ix2 r j)) = _
  rw [sc_C1, tiled2 _ _ r j _ (mn_C1 q k m r mm hm)]

theorem lst_C1 (q : FVec Ideal S1024x64 .bf16) (k : Vec Ideal S1x1x1x64x256 .bf16) (m l : Vec Ideal S1x1024x128 .f32) (r : Fin 1024) (mm : EReal)
    (hm : ∀ e : Fin 128, m (ix3 0 r e) = mm) (e : Fin 128) :
    k0_pay45 q k m l (ix3 0 r e) = Ideal.exp2 (mm - mx mm (scC q k r)) * l (ix3 0 r e) + ∑ j, Ideal.exp2 (scC q k r j - mx mm (scC q k r)) := by
  pointwise [k0_pay45]
  simp only [al_C1 q k m r mm hm, p_C1 q k m r mm hm]

theorem ast_C1 (q : FVec Ideal S1024x64 .bf16) (k : Vec Ideal S1x1x1x64x256 .bf16) (m : Vec Ideal S1x1024x128 .f32) (a : Vec Ideal S1x1024x64 .f32) (v : Vec Ideal S1x1x256x64 .bf16) (r : Fin 1024) (mm : EReal)
    (hm : ∀ e : Fin 128, m (ix3 0 r e) = mm) (e : Fin 64) :
    k0_pay46 q k v m a (ix3 0 r e) = a (ix3 0 r e) * Ideal.exp2 (mm - mx mm (scC q k r)) + ∑ j, Ideal.exp2 (scC q k r j - mx mm (scC q k r)) * v (ix4 0 0 j e) := by
  pointwise [k0_pay46]
  simp only [al_C1 q k m r mm hm, p_C1 q k m r mm hm]

theorem mst_C1 (q : FVec Ideal S1024x64 .bf16) (k : Vec Ideal S1x1x1x64x256 .bf16) (m : Vec Ideal S1x1024x128 .f32) (r : Fin 1024) (mm : EReal)
    (hm : ∀ e : Fin 128, m (ix3 0 r e) = mm) (e : Fin 128) : k0_pay1 (k0_pay42 q k m) (ix3 0 r e) = mx mm (scC q k r) := by
  rw [← mn_C1 q k m r mm hm e]; pointwise [k0_pay1]

end Cert.GqaIdeal.Gen

end
-- ==== Proof.GqaBlock.lean ====
/-
  One program of the grouped-query kernel's grid: its q block of two heads against all keys, from the scratch's fill to the
  output block.
-/
module

public import proofs.«01_k».proof.Proof.Gen.GqaIdeal.Value
public import Idealize.ShloMosaic.Lib.Pointwise
public import Idealize.ShloMosaic.Lib.Pipeline.ValueKit
public import Idealize.ShloMosaic.Lib.WholeRead
public import proofs.«01_k».proof.Proof.GqaTrip
public import proofs.«01_k».proof.Proof.GqaPaysC
public import proofs.«01_k».proof.Proof.Block

@[expose] public section

set_option maxRecDepth 16384

noncomputable section

namespace Cert.GqaIdeal.Gen

open Idealize.ShloMosaic Idealize.ShloMosaic.TcCoe Idealize.SL.Sem
open Idealize.ShloMosaic.Pipeline (Dat)
open Cert.KernelIdeal.Gen (mx bot_word qs)

open Cert.Softmax

theorem ini_m (c : Fin 2) (r : Fin 1024) (e : Fin 128) : k0_pay25 (F := Ideal) (ix3 c r e) = ⊥ := by
  rw [← bot_word]; pointwise [k0_pay25]
theorem ini_l (c : Fin 2) (r : Fin 1024) (e : Fin 128) : k0_pay26 (F := Ideal) (ix3 c r e) = 0 := by
  pointwise [k0_pay26]
theorem ini_a (c : Fin 2) (r : Fin 1024) (e : Fin 64) : k0_pay27 (F := Ideal) (ix3 c r e) = 0 := by
  pointwise [k0_pay27]
theorem q0_val (x : Vec Ideal S1x1024x128 .f32) (r : Fin 1024) (d : Fin 64) : k0_pay29 x (ix2 r d) = x (ix3 0 r ⟨d.val, by omega⟩) * qs := by
  pointwise [k0_pay29, k0_pay28]; rfl
theorem q1_val (x : Vec Ideal S1x1024x128 .f32) (r : Fin 1024) (d : Fin 64) : k0_pay30 x (ix2 r d) = x (ix3 0 r ⟨64 + d.val, by omega⟩) * qs := by
  pointwise [k0_pay30, k0_pay28]; rfl
theorem fin0 (a0 : Vec Ideal S1x1024x64 .f32) (l0 : Vec Ideal S1x1024x128 .f32) (a1 : Vec Ideal S1x1024x64 .f32) (l1 : Vec Ideal S1x1024x128 .f32) (r : Fin 1024) (e : Fin 64) :
    k0_pay5 a0 l0 a1 l1 (ix3 0 r ⟨e.val, by omega⟩) = Ideal.div (a0 (ix3 0 r e)) (l0 (ix3 0 r ⟨e.val, by omega⟩)) := by
  pointwise [k0_pay5]
theorem fin1 (a0 : Vec Ideal S1x1024x64 .f32) (l0 : Vec Ideal S1x1024x128 .f32) (a1 : Vec Ideal S1x1024x64 .f32) (l1 : Vec Ideal S1x1024x128 .f32) (r : Fin 1024) (e : Fin 64) :
    k0_pay5 a0 l0 a1 l1 (ix3 0 r ⟨64 + e.val, by omega⟩) = Ideal.div (a1 (ix3 0 r e)) (l1 (ix3 0 r ⟨e.val, by omega⟩)) := by
  pointwise [k0_pay5]

section Apps

variable (b : Memref sig .tc .vmem S2x1024x128 .f32) (f : BufTy.Contents (Elt Ideal) b.view.ty) (L L' : List (View.Piece (Elt Ideal) S2x1024x128 .f32))
variable (b' : Memref sig .tc .vmem S2x1024x64 .f32) (f' : BufTy.Contents (Elt Ideal) b'.view.ty) (M M' : List (View.Piece (Elt Ideal) S2x1024x64 .f32))

theorem ld_app0 (r : Fin 1024) (e : Fin 128) :
    ld0 (b := b) (b.view.writes (Elt Ideal) f (L ++ L')) (ix3 0 r e) = b.view.read (Elt Ideal) (b.view.writes (Elt Ideal) (b.view.writes (Elt Ideal) f L') L) (ix3 0 r e) := by
  rw [View.writes_append]; exact ld_row0 _ _ _ r e
theorem ld_app1 (r : Fin 1024) (e : Fin 128) :
    ld1 (b := b) (b.view.writes (Elt Ideal) f (L ++ L')) (ix3 0 r e) = b.view.read (Elt Ideal) (b.view.writes (Elt Ideal) (b.view.writes (Elt Ideal) f L') L) (ix3 1 r e) := by
  rw [View.writes_append]; exact ld_row1 _ _ _ r e
theorem la_app0 (r : Fin 1024) (e : Fin 64) :
    la0 (b := b') (b'.view.writes (Elt Ideal) f' (M ++ M')) (ix3 0 r e) = b'.view.read (Elt Ideal) (b'.view.writes (Elt Ideal) (b'.view.writes (Elt Ideal) f' M') M) (ix3 0 r e) := by
  rw [View.writes_append]; exact ld_row0 _ _ _ r e
theorem la_app1 (r : Fin 1024) (e : Fin 64) :
    la1 (b := b') (b'.view.writes (Elt Ideal) f' (M ++ M')) (ix3 0 r e) = b'.view.read (Elt Ideal) (b'.view.writes (Elt Ideal) (b'.view.writes (Elt Ideal) f' M') M) (ix3 1 r e) := by
  rw [View.writes_append]; exact ld_row1 _ _ _ r e

end Apps

section Block

variable (c : Dev nD) (i : grid0.Coords) (arg3 : Memref sig .tc .vmem S1x1024x128 .f32) (harg3 : arg3.IsWhole) (arg4 : Memref sig .tc .vmem S1x1x1x64x256 .bf16) (harg4 : arg4.IsWhole) (arg5 : Memref sig .tc .vmem S1x1x256x64 .bf16) (harg5 : arg5.IsWhole) (arg6 : Memref sig .tc .vmem S1x1x8x64x2048 .bf16) (harg6 : arg6.IsWhole) (arg7 : Memref sig .tc .vmem S1x1x16384x64 .bf16) (harg7 : arg7.IsWhole) (arg8 : Memref sig .tc .vmem S1x1024x128 .bf16) (harg8 : arg8.IsWhole) (arg9 : Memref sig .tc .vmem S2x1024x128 .f32) (harg9 : arg9.IsWhole) (arg10 : Memref sig .tc .vmem S2x1024x128 .f32) (harg10 : arg10.IsWhole) (arg11 : Memref sig .tc .vmem S2x1024x64 .f32) (harg11 : arg11.IsWhole)
variable (lq : Vec Ideal S1x1024x128 .f32) (k0 : Vec Ideal S1x1x1x64x256 .bf16) (vc : Vec Ideal S1x1x256x64 .bf16)

/-- The pieces written to the three scratch buffers: the fill, the context's keys for the first head, then the second. -/
def m1 : List (View.Piece (Elt Ideal) S2x1024x128 .f32) := [⟨Rect.unit ![0, 0, 0] S2x1024x128.size inb_S2x1024x128_S2x1024x128_0_0_0, k0_pay25 (F := Ideal)⟩]
def l1 : List (View.Piece (Elt Ideal) S2x1024x128 .f32) := [⟨Rect.unit ![0, 0, 0] S2x1024x128.size inb_S2x1024x128_S2x1024x128_0_0_0, k0_pay26 (F := Ideal)⟩]
def a1 : List (View.Piece (Elt Ideal) S2x1024x64 .f32) := [⟨Rect.unit ![0, 0, 0] S2x1024x64.size inb_S2x1024x64_S2x1024x64_0_0_0, k0_pay27 (F := Ideal)⟩]
def m2 : List (View.Piece (Elt Ideal) S2x1024x128 .f32) :=
  ⟨Rect.unit (s := S2x1024x128) ![0, 0, 0] S1x1024x128.size inb_S2x1024x128_S1x1024x128_0_0_0, k0_pay39 (k0_pay32 lq k0) (ld0 (b := arg9) (arg9.view.writes (Elt Ideal) (arg9.view.junk) m1))⟩ :: m1
def l2 : List (View.Piece (Elt Ideal) S2x1024x128 .f32) :=
  ⟨Rect.unit (s := S2x1024x128) ![0, 0, 0] S1x1024x128.size inb_S2x1024x128_S1x1024x128_0_0_0, k0_pay37 (k0_pay32 lq k0) (ld0 (b := arg9) (arg9.view.writes (Elt Ideal) (arg9.view.junk) m1)) (ld0 (b := arg10) (arg10.view.writes (Elt Ideal) (arg10.view.junk) l1))⟩ :: l1
def a2 : List (View.Piece (Elt Ideal) S2x1024x64 .f32) :=
  ⟨Rect.unit (s := S2x1024x64) ![0, 0, 0] S1x1024x64.size inb_S2x1024x64_S1x1024x64_0_0_0, k0_pay38 (k0_pay31 vc) (k0_pay32 lq k0) (ld0 (b := arg9) (arg9.view.writes (Elt Ideal) (arg9.view.junk) m1)) (la0 (b := arg11) (arg11.view.writes (Elt Ideal) (arg11.view.junk) a1))⟩ :: a1
def m3 : List (View.Piece (Elt Ideal) S2x1024x128 .f32) :=
  ⟨Rect.unit (s := S2x1024x128) ![1, 0, 0] S1x1024x128.size inb_S2x1024x128_S1x1024x128_1_0_0, k0_pay1 (k0_pay42 (k0_pay30 lq) k0 (ld1 (b := arg9) (arg9.view.writes (Elt Ideal) (arg9.view.junk) (m2 arg9 lq k0))))⟩ :: m2 arg9 lq k0
def l3 : List (View.Piece (Elt Ideal) S2x1024x128 .f32) :=
  ⟨Rect.unit (s := S2x1024x128) ![1, 0, 0] S1x1024x128.size inb_S2x1024x128_S1x1024x128_1_0_0, k0_pay45 (k0_pay30 lq) k0 (ld1 (b := arg9) (arg9.view.writes (Elt Ideal) (arg9.view.junk) (m2 arg9 lq k0))) (ld1 (b := arg10) (arg10.view.writes (Elt Ideal) (arg10.view.junk) (l2 arg9 arg10 lq k0)))⟩ :: l2 arg9 arg10 lq k0
def a3 : List (View.Piece (Elt Ideal) S2x1024x64 .f32) :=
  ⟨Rect.unit (s := S2x1024x64) ![1, 0, 0] S1x1024x64.size inb_S2x1024x64_S1x1024x64_1_0_0, k0_pay46 (k0_pay30 lq) k0 vc (ld1 (b := arg9) (arg9.view.writes (Elt Ideal) (arg9.view.junk) (m2 arg9 lq k0))) (la1 (b := arg11) (arg11.view.writes (Elt Ideal) (arg11.view.junk) (a2 arg9 arg11 lq k0 vc)))⟩ :: a2 arg9 arg11 lq k0 vc

variable (S : Fin 2 → Fin 1024 → ℕ → ℝ) (V : ℕ → Fin 64 → ℝ)

/-- After the context's keys. -/
theorem ctx_rows (h0 : ∀ (r : Fin 1024) (j : Fin 256), ∑ d : Fin 64, k0_pay29 lq (ix2 r d) * k0 (ix5 0 0 0 d j) = (S 0 r j.val : EReal))
    (h1 : ∀ (r : Fin 1024) (j : Fin 256), ∑ d : Fin 64, k0_pay30 lq (ix2 r d) * k0 (ix5 0 0 0 d j) = (S 1 r j.val : EReal))
    (hV : ∀ (j : Fin 256) (e : Fin 64), vc (ix4 0 0 j e) = (V j.val e : EReal)) (mp : Fin 2) :
    Rows (S mp) V 256 mp (arg9.view.read (Elt Ideal) (arg9.view.writes (Elt Ideal) (arg9.view.junk) (m3 arg9 lq k0)))
      (arg10.view.read (Elt Ideal) (arg10.view.writes (Elt Ideal) (arg10.view.junk) (l3 arg9 arg10 lq k0)))
      (arg11.view.read (Elt Ideal) (arg11.view.writes (Elt Ideal) (arg11.view.junk) (a3 arg9 arg11 lq k0 vc))) := by
  have ini : ∀ mp : Fin 2, Rows (S mp) V 0 mp (arg9.view.read (Elt Ideal) (arg9.view.writes (Elt Ideal) (arg9.view.junk) m1))
      (arg10.view.read (Elt Ideal) (arg10.view.writes (Elt Ideal) (arg10.view.junk) l1))
      (arg11.view.read (Elt Ideal) (arg11.view.writes (Elt Ideal) (arg11.view.junk) a1)) := fun mp r => by
    refine ⟨⊥, 0, fun e => ⟨?_, ?_⟩, fun e => Or.inl ⟨rfl, rfl, rfl, ?_⟩⟩
    · unfold m1; rw [rd_fill, ini_m]
    · unfold l1; rw [rd_fill, ini_l]
    · unfold a1; rw [rd_fill, ini_a]
  match mp with
  | 0 =>
    have s := (ini 0).step (T := 256) (by norm_num) (scC (k0_pay29 lq) k0) (fun r j => by rw [Nat.zero_add, ← h0]; rfl)
      (fun j e => vc (ix4 0 0 j e)) (fun j e => by rw [Nat.zero_add]; exact hV j e)
      (arg9.view.read (Elt Ideal) (arg9.view.writes (Elt Ideal) (arg9.view.junk) (m2 arg9 lq k0)))
      (arg10.view.read (Elt Ideal) (arg10.view.writes (Elt Ideal) (arg10.view.junk) (l2 arg9 arg10 lq k0)))
      (arg11.view.read (Elt Ideal) (arg11.view.writes (Elt Ideal) (arg11.view.junk) (a2 arg9 arg11 lq k0 vc)))
      (fun r mm hm e => by
        unfold m2; rw [rd_hit0]
        exact mst_C0 _ _ _ r mm (fun e => (ld_row0 _ _ _ r e).trans (hm e)) e)
      (fun r mm hm e => by
        unfold l2; rw [rd_hit0, ← ld_row0 arg10.view _ inb_S2x1024x128_S1x1024x128_0_0_0 r e]
        exact lst_C0 _ _ _ _ r mm (fun e => (ld_row0 _ _ _ r e).trans (hm e)) e)
      (fun r mm hm e => by
        unfold a2; rw [rd_hit0, ← ld_row0 arg11.view _ inb_S2x1024x64_S1x1024x64_0_0_0 r e]
        exact ast_C0 _ _ _ _ _ r mm (fun e => (ld_row0 _ _ _ r e).trans (hm e)) e)
    refine Rows.congr s (fun r e => ?_) (fun r e => ?_) (fun r e => ?_)
    · unfold m3; rw [rd_miss1]
    · unfold l3; rw [rd_miss1]
    · unfold a3; rw [rd_miss1]
  | 1 =>
    have h := (ini 1).congr (M' := arg9.view.read (Elt Ideal) (arg9.view.writes (Elt Ideal) (arg9.view.junk) (m2 arg9 lq k0)))
      (L' := arg10.view.read (Elt Ideal) (arg10.view.writes (Elt Ideal) (arg10.view.junk) (l2 arg9 arg10 lq k0)))
      (A' := arg11.view.read (Elt Ideal) (arg11.view.writes (Elt Ideal) (arg11.view.junk) (a2 arg9 arg11 lq k0 vc)))
      (fun r e => by unfold m2; rw [rd_miss0]) (fun r e => by unfold l2; rw [rd_miss0]) (fun r e => by unfold a2; rw [rd_miss0])
    exact h.step (T := 256) (by norm_num) (scC (k0_pay30 lq) k0) (fun r j => by rw [Nat.zero_add, ← h1]; rfl)
      (fun j e => vc (ix4 0 0 j e)) (fun j e => by rw [Nat.zero_add]; exact hV j e) _ _ _
      (fun r mm hm e => by
        unfold m3; rw [rd_hit1]
        exact mst_C1 _ _ _ r mm (fun e => (ld_row1 _ _ _ r e).trans (hm e)) e)
      (fun r mm hm e => by
        unfold l3; rw [rd_hit1, ← ld_row1 arg10.view _ inb_S2x1024x128_S1x1024x128_1_0_0 r e]
        exact lst_C1 _ _ _ _ r mm (fun e => (ld_row1 _ _ _ r e).trans (hm e)) e)
      (fun r mm hm e => by
        unfold a3; rw [rd_hit1, ← ld_row1 arg11.view _ inb_S2x1024x64_S1x1024x64_1_0_0 r e]
        exact ast_C1 _ _ _ _ _ r mm (fun e => (ld_row1 _ _ _ r e).trans (hm e)) e)

variable (x0 : Vec Ideal S1x1024x128 .f32) (x1 : Vec Ideal S1x1x1x64x256 .bf16) (x2 : Vec Ideal S1x1x256x64 .bf16) (x3 : Vec Ideal S1x1x8x64x2048 .bf16) (x4 : Vec Ideal S1x1x16384x64 .bf16)

/-- The blocks as the body loads them. -/
abbrev qL : Vec Ideal S1x1024x128 .f32 := View.readAt (Elt Ideal) arg3.view (Rect.unit (s := S1x1024x128) ![0, 0, 0] S1x1024x128.size inb_S1x1024x128_S1x1024x128_0_0_0).toLoadRect (harg3.unread x0)
abbrev kL : Vec Ideal S1x1x1x64x256 .bf16 := View.readAt (Elt Ideal) arg4.view (Rect.unit (s := S1x1x1x64x256) ![0, 0, 0, 0, 0] S1x1x1x64x256.size inb_S1x1x1x64x256_S1x1x1x64x256_0_0_0_0_0).toLoadRect (harg4.unread x1)
abbrev vL : Vec Ideal S1x1x256x64 .bf16 := View.readAt (Elt Ideal) arg5.view (Rect.unit (s := S1x1x256x64) ![0, 0, 0, 0] S1x1x256x64.size inb_S1x1x256x64_S1x1x256x64_0_0_0_0).toLoadRect (harg5.unread x2)

theorem qL_val (r : Fin 1024) (e : Fin 128) : qL arg3 harg3 x0 (ix3 0 r e) = x0 (ix3 0 r e) :=
  (harg3.readAt_unread x0 _ _).trans (congrArg x0 (funext fun a => Fin.ext (by fin_cases a <;> simp [ix3, LoadRect.idx, Rect.toLoadRect, Rect.unit])))
theorem kL_val (d : Fin 64) (j : Fin 256) : kL arg4 harg4 x1 (ix5 0 0 0 d j) = x1 (ix5 0 0 0 d j) :=
  (harg4.readAt_unread x1 _ _).trans (congrArg x1 (funext fun a => Fin.ext (by fin_cases a <;> simp [ix5, LoadRect.idx, Rect.toLoadRect, Rect.unit])))
theorem vL_val (j : Fin 256) (e : Fin 64) : vL arg5 harg5 x2 (ix4 0 0 j e) = x2 (ix4 0 0 j e) :=
  (harg5.readAt_unread x2 _ _).trans (congrArg x2 (funext fun a => Fin.ext (by fin_cases a <;> simp [ix4, LoadRect.idx, Rect.toLoadRect, Rect.unit])))

/-- The pieces all eight trips write. -/
abbrev pbL := pb_k0_t1 (F := Ideal) Variants.none c none i arg3 harg3 arg4 harg4 arg5 harg5 arg6 harg6 arg7 harg7 arg8 harg8 arg9 harg9 arg10 harg10 arg11 harg11 (k0_pay29 (qL arg3 harg3 x0)) (k0_pay30 (qL arg3 harg3 x0))
    (harg6.unread x3) (harg7.unread x4)
    (arg9.view.writes (Elt Ideal) (arg9.view.junk) (m3 arg9 (qL arg3 harg3 x0) (kL arg4 harg4 x1)))
    (arg10.view.writes (Elt Ideal) (arg10.view.junk) (l3 arg9 arg10 (qL arg3 harg3 x0) (kL arg4 harg4 x1)))
    (arg11.view.writes (Elt Ideal) (arg11.view.junk) (a3 arg9 arg11 (qL arg3 harg3 x0) (kL arg4 harg4 x1) (vL arg5 harg5 x2)))
    (Scf.trips k0_t1_loop.lb k0_t1_loop.ub k0_t1_loop.st)

set_option maxHeartbeats 2000000 in
/-- The one piece the body writes to the output block. -/
theorem run_eq : (kernelRun0_A (F := Ideal) c i arg3 harg3 arg4 harg4 arg5 harg5 arg6 harg6 arg7 harg7 arg8 harg8 arg9 harg9 arg10 harg10 arg11 harg11 x0 x1 x2 x3 x4).1 =
    [⟨Rect.unit ![0, 0, 0] ![1, 1024, 128] inb_S1x1024x128_S1x1024x128_0_0_0, k0_pay5
      (la0 (b := arg11) (arg11.view.writes (Elt Ideal) (arg11.view.junk) ((pbL c i arg3 harg3 arg4 harg4 arg5 harg5 arg6 harg6 arg7 harg7 arg8 harg8 arg9 harg9 arg10 harg10 arg11 harg11 x0 x1 x2 x3 x4).2.2 ++ a3 arg9 arg11 (qL arg3 harg3 x0) (kL arg4 harg4 x1) (vL arg5 harg5 x2))))
      (ld0 (b := arg10) (arg10.view.writes (Elt Ideal) (arg10.view.junk) ((pbL c i arg3 harg3 arg4 harg4 arg5 harg5 arg6 harg6 arg7 harg7 arg8 harg8 arg9 harg9 arg10 harg10 arg11 harg11 x0 x1 x2 x3 x4).2.1 ++ l3 arg9 arg10 (qL arg3 harg3 x0) (kL arg4 harg4 x1))))
      (la1 (b := arg11) (arg11.view.writes (Elt Ideal) (arg11.view.junk) ((pbL c i arg3 harg3 arg4 harg4 arg5 harg5 arg6 harg6 arg7 harg7 arg8 harg8 arg9 harg9 arg10 harg10 arg11 harg11 x0 x1 x2 x3 x4).2.2 ++ a3 arg9 arg11 (qL arg3 harg3 x0) (kL arg4 harg4 x1) (vL arg5 harg5 x2))))
      (ld1 (b := arg10) (arg10.view.writes (Elt Ideal) (arg10.view.junk) ((pbL c i arg3 harg3 arg4 harg4 arg5 harg5 arg6 harg6 arg7 harg7 arg8 harg8 arg9 harg9 arg10 harg10 arg11 harg11 x0 x1 x2 x3 x4).2.1 ++ l3 arg9 arg10 (qL arg3 harg3 x0) (kL arg4 harg4 x1))))⟩] := by
  unfold kernelRun0_A
  rfl

/-- THE BLOCK'S VALUE, from the scores and the values its inputs hold: the attention of each of the two heads. -/
theorem block_val
    (hC0 : ∀ (r : Fin 1024) (j : Fin 256), ∑ d : Fin 64, x0 (ix3 0 r ⟨d.val, by omega⟩) * qs * x1 (ix5 0 0 0 d j) = (S 0 r j.val : EReal))
    (hC1 : ∀ (r : Fin 1024) (j : Fin 256), ∑ d : Fin 64, x0 (ix3 0 r ⟨64 + d.val, by omega⟩) * qs * x1 (ix5 0 0 0 d j) = (S 1 r j.val : EReal))
    (hVc : ∀ (j : Fin 256) (e : Fin 64), x2 (ix4 0 0 j e) = (V j.val e : EReal))
    (hL0 : ∀ (kk : Fin 8) (r : Fin 1024) (j : Fin 2048), ∑ d : Fin 64, x0 (ix3 0 r ⟨d.val, by omega⟩) * qs * x3 (ix5 0 0 kk d j) = (S 0 r (256 + 2048 * kk.val + j.val) : EReal))
    (hL1 : ∀ (kk : Fin 8) (r : Fin 1024) (j : Fin 2048), ∑ d : Fin 64, x0 (ix3 0 r ⟨64 + d.val, by omega⟩) * qs * x3 (ix5 0 0 kk d j) = (S 1 r (256 + 2048 * kk.val + j.val) : EReal))
    (hVl : ∀ (j : Fin 16384) (e : Fin 64), x4 (ix4 0 0 j e) = (V (256 + j.val) e : EReal))
    (mp : Fin 2) (r : Fin 1024) (e : Fin 64) :
    out0_A_5 (F := Ideal) c i arg3 harg3 arg4 harg4 arg5 harg5 arg6 harg6 arg7 harg7 arg8 harg8 arg9 harg9 arg10 harg10 arg11 harg11 x0 x1 x2 x3 x4 (ix3 0 r ⟨64 * mp.val + e.val, by omega⟩) = (att (S mp r) (fun n => V n e) NK : EReal) := by
  unfold out0_A_5
  rw [run_eq]
  refine (View.read_writes_cons_unit_of_mem VO0_5 _ inb_S1x1024x128_S1x1024x128_0_0_0 _ [] (ix3 0 r ⟨64 * mp.val + e.val, by omega⟩ : S1x1024x128.Idx) (ix3 0 r ⟨64 * mp.val + e.val, by omega⟩ : S1x1024x128.Idx) rfl (by
    intro a; fin_cases a <;> simp [ix3])).trans ?_
  have ctx := ctx_rows arg9 arg10 arg11 (qL arg3 harg3 x0) (kL arg4 harg4 x1) (vL arg5 harg5 x2) S V
    (fun r j => by rw [← hC0 r j]; exact Finset.sum_congr rfl fun d _ => by rw [q0_val, qL_val, kL_val])
    (fun r j => by rw [← hC1 r j]; exact Finset.sum_congr rfl fun d _ => by rw [q1_val, qL_val, kL_val])
    (fun j e => by rw [vL_val, hVc])
  have lp := loop_rows Variants.none c none i arg3 harg3 arg4 harg4 arg5 harg5 arg6 harg6 arg7 harg7 arg8 harg8 arg9 harg9 arg10 harg10 arg11 harg11 (k0_pay29 (qL arg3 harg3 x0)) (k0_pay30 (qL arg3 harg3 x0))
    (harg6.unread x3) (harg7.unread x4) S V
    (fun kk r j => by rw [← hL0 kk r j, harg6.read_unread]; exact Finset.sum_congr rfl fun d _ => by rw [q0_val, qL_val])
    (fun kk r j => by rw [← hL1 kk r j, harg6.read_unread]; exact Finset.sum_congr rfl fun d _ => by rw [q1_val, qL_val])
    (fun j e => by rw [harg7.read_unread, hVl]) _ _ _ ctx 8 le_rfl
  have ht : Scf.trips k0_t1_loop.lb k0_t1_loop.ub k0_t1_loop.st = 8 := trips_eq
  obtain ⟨m, l, hl, ha⟩ := lp mp r
  have d0 := (ha e).div (by norm_num)
  rw [← (hl ⟨e.val, by omega⟩).2] at d0
  unfold pbL
  rw [ht]
  match mp with
  | 0 =>
    rw [show (⟨64 * (0 : Fin 2).val + e.val, by omega⟩ : Fin 128) = ⟨e.val, by omega⟩ from Fin.ext (by simp)]
    exact (fin0 _ _ _ _ r e).trans ((congrArg₂ Ideal.div (la_app0 arg11 _ _ _ r e) (ld_app0 arg10 _ _ _ r _)).trans d0)
  | 1 =>
    rw [show (⟨64 * (1 : Fin 2).val + e.val, by omega⟩ : Fin 128) = ⟨64 + e.val, by omega⟩ from Fin.ext (by simp)]
    exact (fin1 _ _ _ _ r e).trans ((congrArg₂ Ideal.div (la_app1 arg11 _ _ _ r e) (ld_app1 arg10 _ _ _ r _)).trans d0)

end Block

end Cert.GqaIdeal.Gen

end
-- ==== Proof.GqaHostVal.lean ====
/-
  What the arrays the grouped-query call reads hold: the queries, the keys turned by chunk and the values, each at
  coordinates; and each grid point's blocks of them.
-/
module

public import proofs.«01_k».proof.Proof.Gen.GqaIdeal.Value
public import Idealize.ShloMosaic.Lib.Pointwise
public import Idealize.ShloMosaic.Lib.Claim
public import Idealize.ShloMosaic.Lib.Pipeline.ValueKit

@[expose] public section

set_option maxRecDepth 16384

noncomputable section

namespace Cert.GqaIdeal.Gen

open Idealize.ShloMosaic Idealize.ShloMosaic.TcCoe Idealize.SL.Sem
open Idealize.ShloMosaic.Pipeline (Dat)

section Operands

variable (m : (ℓ : Loc nD τ sig) → Buf (Elt Ideal) ℓ) (c : Dev nD)

abbrev A0 : FVec Ideal S2x16384x2x4x64 .f32 := m ((c.tc : Thread nD τ).loc main_arg0)
abbrev A1 : FVec Ideal S2x256x2x64 .f32 := m ((c.tc : Thread nD τ).loc main_arg1)
abbrev A2 : FVec Ideal S2x16384x2x64 .f32 := m ((c.tc : Thread nD τ).loc main_arg2)
abbrev A3 : FVec Ideal S2x256x2x64 .f32 := m ((c.tc : Thread nD τ).loc main_arg3)
abbrev A4 : FVec Ideal S2x16384x2x64 .f32 := m ((c.tc : Thread nD τ).loc main_arg4)

theorem op_q (b : Fin 2) (n : Fin 16384) (g : Fin 2) (h : Fin 4) (d : Fin 64) :
    (V m c main_v0 : FVec Ideal S2x16384x512 .f32) (ix3 b n ⟨256 * g.val + (64 * h.val + d.val), by omega⟩) = A0 m c (ix5 b n g h d) := by
  entry_read
  pointwise

theorem op_kc (b : Fin 2) (g : Fin 2) (d : Fin 64) (j : Fin 256) :
    (V m c main_v3 : FVec Ideal S2x2x1x64x256 .bf16) (ix5 b g 0 d j) = A1 m c (ix4 b j g d) := by
  entry_read
  pointwise

theorem op_vc (b : Fin 2) (g : Fin 2) (j : Fin 256) (d : Fin 64) :
    (V m c main_v5 : FVec Ideal S2x2x256x64 .bf16) (ix4 b g j d) = A3 m c (ix4 b j g d) := by
  entry_read
  pointwise

theorem op_kl (b : Fin 2) (g : Fin 2) (kk : Fin 8) (d : Fin 64) (j : Fin 2048) :
    (V m c main_v8 : FVec Ideal S2x2x8x64x2048 .bf16) (ix5 b g kk d j) = A2 m c (ix4 b ⟨2048 * kk.val + j.val, by omega⟩ g d) := by
  rw [show (⟨2048 * kk.val + j.val, by omega⟩ : Fin 16384) = ⟨kk.val * 2048 + j.val, by omega⟩ from Fin.ext (by dsimp only; omega)]
  entry_read
  pointwise

theorem op_vl (b : Fin 2) (g : Fin 2) (j : Fin 16384) (d : Fin 64) :
    (V m c main_v10 : FVec Ideal S2x2x16384x64 .bf16) (ix4 b g j d) = A4 m c (ix4 b j g d) := by
  entry_read
  pointwise

/-- Where each grid point's blocks lie. -/
theorem idx : ∀ t : Fin cfg0.N, win0_0.index t = ![t.val / 64, t.val % 16, t.val / 16 % 4] ∧ win0_1.index t = ![t.val / 64, t.val / 16 % 4 / 2, 0, 0, 0]
    ∧ win0_2.index t = ![t.val / 64, t.val / 16 % 4 / 2, 0, 0] ∧ win0_3.index t = ![t.val / 64, t.val / 16 % 4 / 2, 0, 0, 0]
    ∧ win0_4.index t = ![t.val / 64, t.val / 16 % 4 / 2, 0, 0]
    ∧ win0_5.index t = ![t.val / 64, t.val % 16, t.val / 16 % 4] ∧ t.val / 64 < 2 :=
  (by decide +kernel : ∀ t : Fin grid0.N, _)

variable (t : Fin cfg0.N) (b : Fin 2) (g s : Fin 2) (j : Fin 16)
  (hb : t.val / 64 = b.val)

theorem blk_q (hb : t.val / 64 = b.val) (hh : t.val / 16 % 4 = 2 * g.val + s.val) (hj : t.val % 16 = j.val) (r : Fin 1024) (mp : Fin 2) (d : Fin 64) :
    (iblk m c 0 t : FVec Ideal S1x1024x128 .f32) (ix3 0 r ⟨64 * mp.val + d.val, by omega⟩)
      = A0 m c (ix5 b ⟨1024 * j.val + r.val, by omega⟩ g ⟨2 * s.val + mp.val, by omega⟩ d) := by
  rw [← op_q]
  blk_ext [iblk, idx t, hb, hh, hj]

variable (hg : t.val / 16 % 4 / 2 = g.val)
include hb hg

theorem blk_kc (d : Fin 64) (n : Fin 256) :
    (iblk m c 1 t : FVec Ideal S1x1x1x64x256 .bf16) (ix5 0 0 0 d n) = A1 m c (ix4 b n g d) := by
  rw [← op_kc]
  blk_ext [iblk, idx t, hb, hg]

theorem blk_vc (n : Fin 256) (e : Fin 64) :
    (iblk m c 2 t : FVec Ideal S1x1x256x64 .bf16) (ix4 0 0 n e) = A3 m c (ix4 b n g e) := by
  rw [← op_vc]
  blk_ext [iblk, idx t, hb, hg]

theorem blk_kl (kk : Fin 8) (d : Fin 64) (n : Fin 2048) :
    (iblk m c 3 t : FVec Ideal S1x1x8x64x2048 .bf16) (ix5 0 0 kk d n) = A2 m c (ix4 b ⟨2048 * kk.val + n.val, by omega⟩ g d) := by
  rw [← op_kl]
  blk_ext [iblk, idx t, hb, hg]

theorem blk_vl (n : Fin 16384) (e : Fin 64) :
    (iblk m c 4 t : FVec Ideal S1x1x16384x64 .bf16) (ix4 0 0 n e) = A4 m c (ix4 b n g e) := by
  rw [← op_vl]
  blk_ext [iblk, idx t, hb, hg]

end Operands

end Cert.GqaIdeal.Gen

end
-- ==== Proof.GqaRefVal.lean ====
/-
  The grouped-query reference's stages as functions of its argument arrays, each stage's value at an index, and the
  attention they make as a plain formula over the arrays' values.
-/
module

public import proofs.«01_k».proof.Proof.Gen.GqaRefIdeal.Run
public import Idealize.ShloMosaic.Lib.Pointwise
public import proofs.«01_k».proof.Proof.Model
public import proofs.«01_k».proof.Proof.RefVal

@[expose] public section

set_option maxRecDepth 16384

noncomputable section

namespace Cert.GqaRefIdeal.Value

open Cert.GqaRefIdeal Cert.GqaRefIdeal.Gen Idealize.ShloMosaic Idealize.ShloMosaic.TcCoe Idealize.SL.Sem Idealize.ShloMosaic.StableHlo
open Cert.Softmax

/-- Row `n` of head `g`'s keys or values, in lane `d`: the context's 256, then the latent's. -/
def rowAt (a1 : S2x256x2x64.Idx → EReal) (a2 : S2x16384x2x64.Idx → EReal) (b : Fin 2) (g : Fin 2) (d : Fin 64) (n : ℕ) : ℝ :=
  if hn : n < 256 then (a1 (ix4 b ⟨n, hn⟩ g d)).toReal
  else if hn : n - 256 < 16384 then (a2 (ix4 b ⟨n - 256, hn⟩ g d)).toReal else 0

/-- A row's scores, for query head `r` of group `g`, in units in which the softmax is over powers of two. -/
def gscore (a0 : S2x16384x2x4x64.Idx → EReal) (a1 : S2x256x2x64.Idx → EReal) (a2 : S2x16384x2x64.Idx → EReal) (b : Fin 2) (g : Fin 2) (r : Fin 4)
    (q : Fin 16384) (n : ℕ) : ℝ :=
  (∑ d : Fin 64, (a0 (ix5 b q g r d)).toReal * rowAt a1 a2 b g d n) * (1 / 8 * (1 / Real.log 2))

section Stages

/-- The context's rows, then the latent's. -/
def rC (a1 : FVec Ideal S2x256x2x64 .f32) (a2 : FVec Ideal S2x16384x2x64 .f32) : FVec Ideal S2x16640x2x64 .f32 :=
  concatenate S2x16640x2x64 1 [⟨S2x256x2x64, a1⟩, ⟨S2x16384x2x64, a2⟩] concatenates_S2x256x2x64_S2x16384x2x64_S2x16640x2x64_d1
/-- The scaled scores. -/
def rS (a0 : FVec Ideal S2x16384x2x4x64 .f32) (k : FVec Ideal S2x16640x2x64 .f32) : FVec Ideal S2x2x4x16384x16640 .f32 :=
  mulf (transpose S2x2x4x16384x16640 [0, 1, 4, 3, 2] (Host.dotGeneral dot_S2x16640x2x64_S2x16384x2x4x64_S2x2x16640x16384x4_3_4_1_13_02_02 none k a0) transposes_S2x2x16640x16384x4_S2x2x4x16384x16640_0_1_4_3_2) (broadcastInDim S2x2x4x16384x16640 ![] bcast_S_S2x2x4x16384x16640 (constant S_ .f32 0x3E000000#32))
/-- Each row's maximum. -/
def rM (s : FVec Ideal S2x2x4x16384x16640 .f32) : FVec Ideal S2x2x4x16384 .f32 :=
  maximumf (broadcastInDim S2x2x4x16384 ![] bcast_S_S2x2x4x16384 (constant S_ .f32 0xFF800000#32)) (Host.reduce FloatOps.maximumf s (constant S_ .f32 0xFF800000#32) reducesTo_S2x2x4x16384x16640_S2x2x4x16384_d4 h_S_)
/-- The exponentials, each row's maximum subtracted. -/
def rE (s : FVec Ideal S2x2x4x16384x16640 .f32) (mx : FVec Ideal S2x2x4x16384 .f32) : FVec Ideal S2x2x4x16384x16640 .f32 :=
  Host.exp (subf s (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 mx)))
/-- The softmax of the exponentials. -/
def rP (p : FVec Ideal S2x2x4x16384x16640 .f32) : FVec Ideal S2x2x4x16384x16640 .f32 :=
  Host.divf p (broadcastInDim S2x2x4x16384x16640 ![0, 1, 2, 3, 4] bcast_S2x2x4x16384x1_S2x2x4x16384x16640_0_1_2_3_4 (broadcastInDim S2x2x4x16384x1 ![0, 1, 2, 3] bcast_S2x2x4x16384_S2x2x4x16384x1_0_1_2_3 (Host.reduceAdd p (constant S_ .f32 0x00000000#32) reducesTo_S2x2x4x16384x16640_S2x2x4x16384_d4 h_S_)))
/-- The values summed with the softmax's weights. -/
def rO (p : FVec Ideal S2x2x4x16384x16640 .f32) (v : FVec Ideal S2x16640x2x64 .f32) : FVec Ideal S2x16384x512 .bf16 :=
  truncf .bf16 (shapeCast _ (transpose S2x16384x2x4x64 [0, 4, 1, 3, 2] (Host.dotGeneral dot_S2x16640x2x64_S2x2x4x16384x16640_S2x2x64x4x16384_1_4_3_23_02_01 none v p) transposes_S2x2x64x4x16384_S2x16384x2x4x64_0_4_1_3_2) shapeCasts_S2x16384x2x4x64_S2x16384x512) bitsLt_bf16_f32

variable (a0 : FVec Ideal S2x16384x2x4x64 .f32) (a1 : FVec Ideal S2x256x2x64 .f32) (a2 : FVec Ideal S2x16384x2x64 .f32) (a3 : FVec Ideal S2x256x2x64 .f32) (a4 : FVec Ideal S2x16384x2x64 .f32)

theorem rM_real (s : FVec Ideal S2x2x4x16384x16640 .f32) (hs : ∀ i, ∃ r : ℝ, s i = r) (j : S2x2x4x16384.Idx) : ∃ r : ℝ, rM s j = r := by
  have hb : Ideal.ofBits FTy.f32 0xFF800000#32 = ⊥ := by simp [Ideal.ofBits, Ideal.ieee]
  have key : ∀ w : FVec Ideal S2x2x4x16384 .f32, maximumf (broadcastInDim S2x2x4x16384 ![] bcast_S_S2x2x4x16384 (constant (F := Ideal) S_ .f32 0xFF800000#32)) w j
      = max (Ideal.ofBits FTy.f32 0xFF800000#32) (w j) := fun w => rfl
  obtain ⟨r, hr⟩ := max_real (by norm_num) s (constant (F := Ideal) S_ .f32 0xFF800000#32) reducesTo_S2x2x4x16384x16640_S2x2x4x16384_d4 h_S_ hs (fun _ => hb) j
    (FloatOps.maximumf (F := Ideal) (φ := .f32)) rfl
  refine ⟨r, (key _).trans ?_⟩
  rw [hr, hb]; exact max_eq_right bot_le

set_option maxHeartbeats 2000000

theorem rC_ctx (b : Fin 2) (k : Fin 256) (g : Fin 2) (d : Fin 64) : rC a1 a2 (ix4 b ⟨k.val, by omega⟩ g d) = a1 (ix4 b k g d) := by
  pointwise [rC]
theorem rC_lat (b : Fin 2) (k : Fin 16384) (g : Fin 2) (d : Fin 64) : rC a1 a2 (ix4 b ⟨256 + k.val, by omega⟩ g d) = a2 (ix4 b k g d) := by
  pointwise [rC]

theorem rC_eq (h1 : Fin' a1) (h2 : Fin' a2) (b : Fin 2) (k : Fin 16640) (g : Fin 2) (d : Fin 64) :
    rC a1 a2 (ix4 b k g d) = (rowAt a1 a2 b g d k.val : EReal) := by
  unfold rowAt
  by_cases hk : k.val < 256
  · rw [dif_pos hk]; exact (rC_ctx a1 a2 b ⟨k.val, hk⟩ g d).trans (h1 _).symm
  · have hk' : k.val - 256 < 16384 := by omega
    rw [dif_neg hk, dif_pos hk']
    have e : k = ⟨256 + (k.val - 256), by omega⟩ := Fin.ext (by show k.val = 256 + (k.val - 256); omega)
    conv_lhs => rw [e]
    exact (rC_lat a1 a2 b ⟨k.val - 256, hk'⟩ g d).trans (h2 _).symm

theorem rS_val (kk : FVec Ideal S2x16640x2x64 .f32) (b : Fin 2) (q : Fin 16384) (k : Fin 16640) (g : Fin 2) (r : Fin 4) :
    rS a0 kk (ix5 b g r q k) = (∑ x, kk (ix4 b k g x) * a0 (ix5 b q g r x)) * Ideal.ofBits FTy.f32 1040187392#32 := by
  pointwise [rS]

theorem rS_eq (h0 : Fin' a0) (h1 : Fin' a1) (h2 : Fin' a2) (b : Fin 2) (q : Fin 16384) (k : Fin 16640) (g : Fin 2) (r : Fin 4) :
    rS a0 (rC a1 a2) (ix5 b g r q k) = ((gscore a0 a1 a2 b g r q k.val * Real.log 2 : ℝ) : EReal) := by
  rw [rS_val, Cert.ReferenceIdeal.Value.eighth]
  have e : ∀ x : Fin 64, rC a1 a2 (ix4 b k g x) * a0 (ix5 b q g r x)
      = (((a0 (ix5 b q g r x)).toReal * rowAt a1 a2 b g x k.val : ℝ) : EReal) := fun x => by
    rw [rC_eq a1 a2 h1 h2, mul_comm, EReal.coe_mul, h0]
  rw [Finset.sum_congr rfl fun x _ => e x, ← coe_sum, ← EReal.coe_mul]
  congr 1
  unfold gscore
  have h2 : Real.log 2 ≠ 0 := (Real.log_pos (by norm_num)).ne'
  field_simp

theorem rE_val (s : FVec Ideal S2x2x4x16384x16640 .f32) (mx : FVec Ideal S2x2x4x16384 .f32) (b : Fin 2) (q : Fin 16384) (k : Fin 16640) (g : Fin 2) (r : Fin 4) :
    rE s mx (ix5 b g r q k) = Ideal.exp (s (ix5 b g r q k) - mx (ix4 b g r q)) := by
  pointwise [rE]

theorem rP_val (s : FVec Ideal S2x2x4x16384x16640 .f32) (b : Fin 2) (q : Fin 16384) (k : Fin 16640) (g : Fin 2) (r : Fin 4) :
    rP s (ix5 b g r q k) = Ideal.div (s (ix5 b g r q k)) (∑ x, s (ix5 b g r q x)) := by
  pointwise [rP]

theorem rO_val (p : FVec Ideal S2x2x4x16384x16640 .f32) (v : FVec Ideal S2x16640x2x64 .f32) (b : Fin 2) (q : Fin 16384) (g : Fin 2) (r : Fin 4) (d : Fin 64) :
    rO p v (ix3 b q ⟨256 * g.val + (64 * r.val + d.val), by omega⟩) = ∑ x, v (ix4 b x g d) * p (ix5 b g r q x) := by
  pointwise [rO]

/-- THE REFERENCE'S VALUE. -/
theorem ref_val (h0 : Fin' a0) (h1 : Fin' a1) (h2 : Fin' a2) (h3 : Fin' a3) (h4 : Fin' a4)
    (b : Fin 2) (q : Fin 16384) (g : Fin 2) (r : Fin 4) (d : Fin 64) :
    rO (rP (rE (rS a0 (rC a1 a2)) (rM (rS a0 (rC a1 a2))))) (rC a3 a4) (ix3 b q ⟨256 * g.val + (64 * r.val + d.val), by omega⟩)
      = (att (gscore a0 a1 a2 b g r q) (fun n => rowAt a3 a4 b g d n) NK : EReal) := by
  have hM := rM_real (rS a0 (rC a1 a2)) fun i => by
    refine ⟨_, (congrArg (rS a0 (rC a1 a2)) ?_).trans (rS_eq a0 a1 a2 h0 h1 h2 (i 0) (i 3) (i 4) (i 1) (i 2))⟩
    exact eq_ix5 i
  rw [rO_val]
  have e : ∀ x : Fin 16640, rC a3 a4 (ix4 b x g d) * rP (rE (rS a0 (rC a1 a2)) (rM (rS a0 (rC a1 a2)))) (ix5 b g r q x)
      = ((rowAt a3 a4 b g d x.val * (p2 (gscore a0 a1 a2 b g r q x.val - 0) / wsum (gscore a0 a1 a2 b g r q) NK 0) : ℝ) : EReal) := fun x => by
    rw [EReal.coe_mul, rC_eq a3 a4 h3 h4, rP_val]
    refine congrArg _ ?_
    simp only [rE_val]
    exact soft_row (by norm_num) _ _ (fun k => rS_eq a0 a1 a2 h0 h1 h2 b q k g r) _ (hM _) x
  rw [Finset.sum_congr rfl fun x _ => e x, ← coe_sum]
  exact congrArg _ (soft_sum (N := NK) (gscore a0 a1 a2 b g r q) (fun n => rowAt a3 a4 b g d n))

end Stages

end Cert.GqaRefIdeal.Value

end
-- ==== Proof.GqaArrVal.lean ====
/-
  The grouped-query kernel's output array is the reference's: at each grid point the block is the attention of its two
  heads' rows, and the blocks cover the array.
-/
module

public import proofs.«01_k».proof.Proof.GqaBlock
public import proofs.«01_k».proof.Proof.GqaHostVal
public import proofs.«01_k».proof.Proof.GqaRefVal
public import proofs.«01_k».proof.Proof.ArrVal

@[expose] public section

set_option maxRecDepth 16384

noncomputable section

namespace Cert.GqaIdeal.Gen

open Idealize.ShloMosaic Idealize.ShloMosaic.TcCoe Idealize.SL.Sem
open Idealize.ShloMosaic.Pipeline (Dat)
open Cert.Softmax Cert.GqaRefIdeal.Value
open Cert.KernelIdeal.Gen (dot_real)

theorem rowAt_ctx (a1 : S2x256x2x64.Idx → EReal) (a2 : S2x16384x2x64.Idx → EReal) (f1 : Fin' a1) (b : Fin 2) (g : Fin 2) (d : Fin 64) (n : Fin 256) :
    a1 (ix4 b n g d) = (rowAt a1 a2 b g d n.val : EReal) := by
  unfold rowAt
  rw [dif_pos n.isLt]
  exact (f1 _).symm

theorem rowAt_lat (a1 : S2x256x2x64.Idx → EReal) (a2 : S2x16384x2x64.Idx → EReal) (f2 : Fin' a2) (b : Fin 2) (g : Fin 2) (d : Fin 64) (n : Fin 16384) (k : ℕ) (hk : k = 256 + n.val) :
    a2 (ix4 b n g d) = (rowAt a1 a2 b g d k : EReal) := by
  subst hk
  unfold rowAt
  rw [dif_neg (by omega), dif_pos (by rw [Nat.add_sub_cancel_left]; exact n.isLt)]
  rw [show (⟨256 + n.val - 256, by rw [Nat.add_sub_cancel_left]; exact n.isLt⟩ : Fin 16384) = n from Fin.ext (Nat.add_sub_cancel_left ..)]
  exact (f2 _).symm

section Arr

variable (m : (ℓ : Loc nD τ sig) → Buf (Elt Ideal) ℓ) (c : Dev nD)
  (f0 : Fin' (A0 m c)) (f1 : Fin' (A1 m c)) (f2 : Fin' (A2 m c)) (f3 : Fin' (A3 m c)) (f4 : Fin' (A4 m c))

include f0 f1 f2 f3 f4

/-- What the body leaves in the output block at a grid point. -/
theorem point_val (t : Fin cfg0.N) (b : Fin 2) (g s : Fin 2) (j : Fin 16)
    (hb : t.val / 64 = b.val) (hh : t.val / 16 % 4 = 2 * g.val + s.val) (hj : t.val % 16 = j.val) (mp : Fin 2) (r : Fin 1024) (e : Fin 64) :
    (outsAt0 m c t : FVec Ideal S1x1024x128 .bf16) (ix3 0 r ⟨64 * mp.val + e.val, by omega⟩)
      = (att (gscore (A0 m c) (A1 m c) (A2 m c) b g ⟨2 * s.val + mp.val, by omega⟩ ⟨1024 * j.val + r.val, by omega⟩)
          (fun n => rowAt (A3 m c) (A4 m c) b g e n) NK : EReal) := by
  unfold outsAt0
  have hg : t.val / 16 % 4 / 2 = g.val := by omega
  have q0 : ∀ (r : Fin 1024) (d : Fin 64), (iblk m c 0 t : FVec Ideal S1x1024x128 .f32) (ix3 0 r ⟨d.val, by omega⟩)
      = A0 m c (ix5 b ⟨1024 * j.val + r.val, by omega⟩ g ⟨2 * s.val + (0 : Fin 2).val, by omega⟩ d) := fun r d => by
    rw [← blk_q m c t b g s j hb hh hj r 0 d]
    exact congrArg (fun x => (iblk m c 0 t : FVec Ideal S1x1024x128 .f32) (ix3 0 r x)) (Fin.ext (by simp))
  have q1 : ∀ (r : Fin 1024) (d : Fin 64), (iblk m c 0 t : FVec Ideal S1x1024x128 .f32) (ix3 0 r ⟨64 + d.val, by omega⟩)
      = A0 m c (ix5 b ⟨1024 * j.val + r.val, by omega⟩ g ⟨2 * s.val + (1 : Fin 2).val, by omega⟩ d) := fun r d => by
    rw [← blk_q m c t b g s j hb hh hj r 1 d]
    exact congrArg (fun x => (iblk m c 0 t : FVec Ideal S1x1024x128 .f32) (ix3 0 r x)) (Fin.ext (by simp))
  refine block_val (S := fun mp r => gscore (A0 m c) (A1 m c) (A2 m c) b g ⟨2 * s.val + mp.val, by omega⟩ ⟨1024 * j.val + r.val, by omega⟩)
    (V := fun n e => rowAt (A3 m c) (A4 m c) b g e n)
    (hC0 := fun r n => ?_) (hC1 := fun r n => ?_) (hVc := fun n e => ?_) (hL0 := fun kk r n => ?_) (hL1 := fun kk r n => ?_) (hVl := fun n e => ?_)
    (mp := mp) (r := r) (e := e) ..
  · exact dot_real _ _ (fun d => rowAt (A1 m c) (A2 m c) b g d n.val) (fun d => by rw [q0]; exact f0 _)
      (fun d => (blk_kc m c t b g hb hg d n).trans (rowAt_ctx _ _ f1 b g d n)) |>.trans (by simp only [q0]; rfl)
  · exact dot_real _ _ (fun d => rowAt (A1 m c) (A2 m c) b g d n.val) (fun d => by rw [q1]; exact f0 _)
      (fun d => (blk_kc m c t b g hb hg d n).trans (rowAt_ctx _ _ f1 b g d n)) |>.trans (by simp only [q1]; rfl)
  · exact (blk_vc m c t b g hb hg n e).trans (rowAt_ctx _ _ f3 b g e n)
  · exact dot_real _ _ (fun d => rowAt (A1 m c) (A2 m c) b g d (256 + 2048 * kk.val + n.val)) (fun d => by rw [q0]; exact f0 _)
      (fun d => (blk_kl m c t b g hb hg kk d n).trans (rowAt_lat _ _ f2 b g d _ _ (by dsimp only; omega))) |>.trans (by simp only [q0]; rfl)
  · exact dot_real _ _ (fun d => rowAt (A1 m c) (A2 m c) b g d (256 + 2048 * kk.val + n.val)) (fun d => by rw [q1]; exact f0 _)
      (fun d => (blk_kl m c t b g hb hg kk d n).trans (rowAt_lat _ _ f2 b g d _ _ (by dsimp only; omega))) |>.trans (by simp only [q1]; rfl)
  · exact (blk_vl m c t b g hb hg n e).trans (rowAt_lat _ _ f4 b g e n _ rfl)

/-- THE OUTPUT ARRAY. -/
theorem final : (dats m 0 c).arrAt 5 cfg0.N
    = rO (rP (rE (rS (A0 m c) (rC (A1 m c) (A2 m c))) (rM (rS (A0 m c) (rC (A1 m c) (A2 m c)))))) (rC (A3 m c) (A4 m c)) := by
  refine (dats m 0 c).arrAt_eq_of_covers 5 _ (by decide +kernel) fun t _ y => ?_
  blk_simp
  rw [after0_5]
  have e2 : t.val / 64 < 2 := (idx t).2.2.2.2.2.2
  have h1 : (y 1).val < 1024 := (y 1).isLt
  have h2 : (y 2).val < 128 := (y 2).isLt
  have h4 : t.val / 16 % 4 < 4 := Nat.mod_lt _ (by norm_num)
  have hp : t.val / 16 % 4 = 2 * (t.val / 16 % 4 / 2) + t.val / 16 % 4 % 2 := (Nat.div_add_mod _ 2).symm
  have hy : (y 2).val = 64 * ((y 2).val / 64) + (y 2).val % 64 := (Nat.div_add_mod _ 64).symm
  have pv := (point_val m c f0 f1 f2 f3 f4 t ⟨t.val / 64, e2⟩ ⟨t.val / 16 % 4 / 2, by omega⟩ ⟨t.val / 16 % 4 % 2, by omega⟩ ⟨t.val % 16, Nat.mod_lt _ (by norm_num)⟩
      rfl hp rfl ⟨(y 2).val / 64, by omega⟩ ⟨(y 1).val, h1⟩ ⟨(y 2).val % 64, by omega⟩).trans
    (ref_val (A0 m c) (A1 m c) (A2 m c) (A3 m c) (A4 m c) f0 f1 f2 f3 f4 ⟨t.val / 64, e2⟩ ⟨1024 * (t.val % 16) + (y 1).val, by omega⟩
      ⟨t.val / 16 % 4 / 2, by omega⟩ ⟨2 * (t.val / 16 % 4 % 2) + (y 2).val / 64, by omega⟩ ⟨(y 2).val % 64, by omega⟩).symm
  refine Eq.trans (congrArg _ ?_) (pv.trans (congrArg _ ?_))
  · blk_ext [idx t]
  · blk_ext [idx t]

end Arr

end Cert.GqaIdeal.Gen

end
-- ==== Proof.GqaFinite.lean ====
/-
  What the grouped-query precondition gives: every entry of the queries, keys and values is a real number.
-/
module

public import proofs.«01_k».proof.Pre_gqa_finite
public import Idealize.ShloMosaic.Lib.ReduceAll
public import proofs.«01_k».proof.Proof.Finite

@[expose] public section

set_option maxRecDepth 16384

noncomputable section

namespace Cert.Pre_gqa_finite

open Idealize.ShloMosaic Cert.Softmax
open Cert.Pre_finite (and_one fin_of)

instance facts : Facts where
  bcast_S_S2x16384x2x4x64 := by decide
  reducesTo_S2x16384x2x4x64_S_d0_1_2_3_4 := by decide
  h_S_ := by decide
  bcast_S_S2x256x2x64 := by decide
  reducesTo_S2x256x2x64_S_d0_1_2_3 := by decide
  bcast_S_S2x16384x2x64 := by decide
  reducesTo_S2x16384x2x64_S_d0_1_2_3 := by decide

theorem finite_args (a0 a1 a2 a3 a4) (h : fn (F := Ideal) a0 a1 a2 a3 a4 = fun _ => 1#1) :
    Fin' a0 ∧ Fin' a1 ∧ Fin' a2 ∧ Fin' a3 ∧ Fin' a4 := by
  unfold fn fn_part1 at h
  dsimp only at h
  obtain ⟨h, h4⟩ := and_one h
  obtain ⟨h, h3⟩ := and_one h
  obtain ⟨h, h2⟩ := and_one h
  obtain ⟨h0, h1⟩ := and_one h
  exact ⟨fin_of _ _ _ _ h0, fin_of _ _ _ _ h1, fin_of _ _ _ _ h2, fin_of _ _ _ _ h3, fin_of _ _ _ _ h4⟩

end Cert.Pre_gqa_finite

end
-- ==== Proof.FinalVal.lean ====
/-
  The last norm: a row of the output is the row over its root mean square, times the gain; the call's shift and scale are
  zero, so its modulation leaves the row as it is.
-/
module

public import proofs.«01_k».proof.Proof.Gen.FinalIdeal.Value
public import proofs.«01_k».proof.Proof.Gen.FinalRefIdeal.Run
public import Idealize.ShloMosaic.Lib.Pointwise
public import Idealize.ShloMosaic.Lib.Claim
public import Idealize.ShloMosaic.Lib.Pipeline.ValueKit

@[expose] public section

set_option maxRecDepth 16384

noncomputable section

namespace Cert.FinalRefIdeal.Value

open Cert.FinalRefIdeal Cert.FinalRefIdeal.Gen Idealize.ShloMosaic Idealize.ShloMosaic.TcCoe Idealize.SL.Sem Idealize.ShloMosaic.StableHlo

/-- A row of 1024 values over its root mean square, at one of them. -/
def nrm (f : Fin 1024 → EReal) (d : Fin 1024) : EReal :=
  f d * Ideal.rsqrt (Ideal.div (∑ e : Fin 1024, f e * f e) (Ideal.ofBits .f32 0x44800000#32) + Ideal.ofBits .f32 0x358637BD#32)

/-- The reference's result as a function of its arguments. -/
def rNorm (a0 : FVec Ideal S2x16384x1024 .f32) (a1 : FVec Ideal S1024 .f32) : FVec Ideal S2x16384x1024 .f32 :=
  mulf (mulf a0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf a0 a0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 a1))

theorem rNorm_val (a0 : FVec Ideal S2x16384x1024 .f32) (a1 : FVec Ideal S1024 .f32) (b : Fin 2) (q : Fin 16384) (d : Fin 1024) :
    rNorm a0 a1 (ix3 b q d) = nrm (fun e => a0 (ix3 b q e)) d * a1 (ix1 d) := by
  unfold nrm
  pointwise [rNorm]

end Cert.FinalRefIdeal.Value

namespace Cert.FinalIdeal.Gen

open Idealize.ShloMosaic Idealize.ShloMosaic.TcCoe Idealize.SL.Sem
open Idealize.ShloMosaic.Pipeline (Dat)
open Cert.FinalRefIdeal.Value (nrm rNorm rNorm_val)

/-- What the body stores, at an index. -/
theorem pay_val (x : FVec Ideal S1x512x1024 .f32) (g : FVec Ideal S1x1024 .f32) (sc sh : FVec Ideal S1x1x1024 .f32) (r : Fin 512) (d : Fin 1024) :
    k0_pay1 (F := Ideal) x g sc sh (ix3 0 r d)
      = nrm (fun e => x (ix3 0 r e)) d * g (ix2 0 d) * (Ideal.ofBits .f32 0x3F800000#32 + sc (ix3 0 0 d)) + sh (ix3 0 0 d) := by
  unfold nrm
  pointwise [k0_pay1]

/-- What the body leaves in the output block, at an index. -/
theorem out_val (x : FVec Ideal S1x512x1024 .f32) (g : FVec Ideal S1x1024 .f32) (sh sc : FVec Ideal S1x1x1024 .f32) (r : Fin 512) (d : Fin 1024) :
    out0_4 (F := Ideal) x g sh sc (ix3 0 r d)
      = nrm (fun e => x (ix3 0 r e)) d * g (ix2 0 d) * (Ideal.ofBits .f32 0x3F800000#32 + sc (ix3 0 0 d)) + sh (ix3 0 0 d) := by
  have l0 : ∀ s : FVec Ideal S1x512x1024 .f32, View.ld (Val := Elt Ideal) (e' := .f32) s r0_0 = s := fun s =>
    funext fun y => congrArg s (funext fun a => Fin.ext ((Rect.idx_unit_val _ _ inb_S1x512x1024_S1x512x1024_0_0_0 y a).trans (by fin_cases a <;> simp)))
  have l1 : View.ld (Val := Elt Ideal) (e' := .f32) g r0_1 = g :=
    funext fun y => congrArg g (funext fun a => Fin.ext ((Rect.idx_unit_val _ _ inb_S1x1024_S1x1024_0_0 y a).trans (by fin_cases a <;> simp)))
  have l2 : ∀ s : FVec Ideal S1x1x1024 .f32, View.ld (Val := Elt Ideal) (e' := .f32) s r0_2 = s := fun s =>
    funext fun y => congrArg s (funext fun a => Fin.ext ((Rect.idx_unit_val _ _ inb_S1x1x1024_S1x1x1024_0_0_0 y a).trans (by fin_cases a <;> simp)))
  have ey : ∀ y : S1x512x1024.Idx, r0_0.idx y = y := fun y =>
    funext fun a => Fin.ext ((Rect.idx_unit_val _ _ inb_S1x512x1024_S1x512x1024_0_0_0 y a).trans (by fin_cases a <;> simp))
  unfold out0_4
  rw [l0, l1, l2, l2]
  refine (Cert.FinalIdeal.Value.canon4_eq (F := Ideal) _ _ _ _ _).trans ?_
  exact (congrArg _ (ey (ix3 0 r d)).symm).trans ((Cert.FinalIdeal.Value.piece4_0 (F := Ideal) _ _ _ _ _).symm.trans (pay_val _ _ _ _ r d))

section Operands

variable (m : (ℓ : Loc nD τ sig) → Buf (Elt Ideal) ℓ) (c : Dev nD)

abbrev A0 : FVec Ideal S2x16384x1024 .f32 := m ((c.tc : Thread nD τ).loc main_arg0)
abbrev A1 : FVec Ideal S1024 .f32 := m ((c.tc : Thread nD τ).loc main_arg1)

theorem op_x (b : Fin 2) (q : Fin 16384) (d : Fin 1024) :
    (V m c main_arg0 : FVec Ideal S2x16384x1024 .f32) (ix3 b q d) = A0 m c (ix3 b q d) := by
  rw [V_main_arg0]

theorem op_g (d : Fin 1024) : (V m c main_v1 : FVec Ideal S1x1024 .f32) (ix2 0 d) = A1 m c (ix1 d) := by
  entry_read
  pointwise

theorem op_sh (b : Fin 2) (d : Fin 1024) : (V m c main_v2 : FVec Ideal S2x1x1024 .f32) (ix3 b 0 d) = (0 : EReal) := by
  entry_read
  pointwise

theorem op_sc (b : Fin 2) (d : Fin 1024) : (V m c main_v3 : FVec Ideal S2x1x1024 .f32) (ix3 b 0 d) = (0 : EReal) := by
  entry_read
  pointwise

/-- Where each grid point's blocks lie. -/
theorem idx : ∀ t : Fin cfg0.N, win0_0.index t = ![t.val / 32, t.val % 32, 0] ∧ win0_1.index t = ![0, 0]
    ∧ win0_2.index t = ![t.val / 32, 0, 0] ∧ win0_3.index t = ![t.val / 32, 0, 0]
    ∧ win0_4.index t = ![t.val / 32, t.val % 32, 0] ∧ t.val / 32 < 2 :=
  (by decide +kernel : ∀ t : Fin grid0.N, _)

variable (t : Fin cfg0.N) (b : Fin 2) (j : Fin 32) (hb : t.val / 32 = b.val) (hj : t.val % 32 = j.val)

include hb hj in
theorem blk_x (r : Fin 512) (d : Fin 1024) :
    (iblk m c 0 t : FVec Ideal S1x512x1024 .f32) (ix3 0 r d) = A0 m c (ix3 b ⟨512 * j.val + r.val, by omega⟩ d) := by
  rw [← op_x]
  blk_ext [iblk, idx t, hb, hj]

theorem blk_g (d : Fin 1024) : (iblk m c 1 t : FVec Ideal S1x1024 .f32) (ix2 0 d) = A1 m c (ix1 d) := by
  rw [← op_g]
  blk_ext [iblk, idx t]

include hb in
theorem blk_sh (d : Fin 1024) : (iblk m c 2 t : FVec Ideal S1x1x1024 .f32) (ix3 0 0 d) = (0 : EReal) := by
  rw [← op_sh m c b d]
  blk_ext [iblk, idx t, hb]

include hb in
theorem blk_sc (d : Fin 1024) : (iblk m c 3 t : FVec Ideal S1x1x1024 .f32) (ix3 0 0 d) = (0 : EReal) := by
  rw [← op_sc m c b d]
  blk_ext [iblk, idx t, hb]

theorem one_bits : Ideal.ofBits .f32 0x3F800000#32 = (1 : EReal) := by
  simp [Ideal.ofBits, Ideal.ieee]
  rw [← EReal.coe_mul, ← EReal.coe_one]
  norm_num

/-- THE OUTPUT ARRAY. -/
theorem final : (dats m 0 c).arrAt 4 cfg0.N = rNorm (A0 m c) (A1 m c) := by
  refine (dats m 0 c).arrAt_eq_of_covers 4 _ (by decide +kernel) fun t _ y => ?_
  blk_simp
  rw [after0_4]
  have e2 : t.val / 32 < 2 := (idx t).2.2.2.2.2
  have h1 : (y 1).val < 512 := (y 1).isLt
  have h2 : (y 2).val < 1024 := (y 2).isLt
  have pv := out_val (iblk m c 0 t) (iblk m c 1 t) (iblk m c 2 t) (iblk m c 3 t) ⟨(y 1).val, h1⟩ ⟨(y 2).val, h2⟩
  rw [blk_g m c t, blk_sh m c t ⟨t.val / 32, e2⟩ rfl, blk_sc m c t ⟨t.val / 32, e2⟩ rfl, one_bits, add_zero, add_zero, mul_one] at pv
  simp only [blk_x m c t ⟨t.val / 32, e2⟩ ⟨t.val % 32, Nat.mod_lt _ (by norm_num)⟩ rfl rfl] at pv
  have rv := (rNorm_val (A0 m c) (A1 m c) ⟨t.val / 32, e2⟩ ⟨512 * (t.val % 32) + (y 1).val, by omega⟩ ⟨(y 2).val, h2⟩).symm
  refine Eq.trans (congrArg _ ?_) ((pv.trans rv).trans (congrArg _ ?_))
  · blk_ext [idx t]
  · blk_ext [idx t]

end Operands

end Cert.FinalIdeal.Gen

end
-- ==== Proof.ProjRefVal.lean ====
/-
  The projection's reference: its rows, normalised and modulated, times the weights, and the product's columns in the
  order in which the call writes them.
-/
module

public import proofs.«01_k».proof.Proof.Gen.ProjRefIdeal.Run
public import Idealize.ShloMosaic.Lib.Pointwise
public import proofs.«01_k».proof.Proof.FinalVal

@[expose] public section

set_option maxRecDepth 16384

noncomputable section

namespace Cert.ProjRefIdeal.Value

open Cert.ProjRefIdeal Cert.ProjRefIdeal.Gen Idealize.ShloMosaic Idealize.ShloMosaic.TcCoe Idealize.SL.Sem Idealize.ShloMosaic.StableHlo
open Cert.FinalRefIdeal.Value (nrm)

/-- A row, normalised and modulated, at one of its values. -/
def modRow (f g sh sc : Fin 1024 → EReal) (d : Fin 1024) : EReal :=
  nrm f d * g d * (Ideal.ofBits .f32 0x3F800000#32 + sc d) + sh d

/-- The normalised and modulated rows. -/
def rH (a0 : FVec Ideal S2x16384x1024 .f32) (a1 : FVec Ideal S1024 .f32) (a2 a3 : FVec Ideal S2x1024 .f32) : FVec Ideal S2x16384x1024 .f32 :=
  addf (mulf (mulf (mulf a0 (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf a0 a0) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 a1))) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 a3)))) (broadcastInDim S2x16384x1024 ![0, 1, 2] bcast_S2x1x1024_S2x16384x1024_0_1_2 (broadcastInDim S2x1x1024 ![0, 2] bcast_S2x1024_S2x1x1024_0_2 a2))
/-- The rows times the weights. -/
def rP (h : FVec Ideal S2x16384x1024 .f32) (w : FVec Ideal S1024x10000 .f32) : FVec Ideal S2x16384x10000 .f32 :=
  Host.dotGeneral dot_S2x16384x1024_S1024x10000_S2x16384x10000_2_0_01_1_n_n none h w
/-- The product's columns in the call's order. -/
def rCat (p : FVec Ideal S2x16384x10000 .f32) : FVec Ideal S2x16384x10240 .bf16 :=
  truncf .bf16 ((concatenate S2x16384x10240 2 [⟨S2x16384x4096, ((extractStridedSlice S2x16384x4096 ![0, 0, 5904] p slices_S2x16384x10000_S2x16384x4096_0_0_5904) : (⟨S2x16384x4096, .f32⟩ : BufTy).Contents (Elt Ideal))⟩, ⟨S2x16384x512, ((extractStridedSlice S2x16384x512 ![0, 0, 0] p slices_S2x16384x10000_S2x16384x512_0_0_0) : (⟨S2x16384x512, .f32⟩ : BufTy).Contents (Elt Ideal))⟩, ⟨S2x16384x512, ((extractStridedSlice S2x16384x512 ![0, 0, 512] p slices_S2x16384x10000_S2x16384x512_0_0_512) : (⟨S2x16384x512, .f32⟩ : BufTy).Contents (Elt Ideal))⟩, ⟨S2x16384x512, ((extractStridedSlice S2x16384x512 ![0, 0, 1024] p slices_S2x16384x10000_S2x16384x512_0_0_1024) : (⟨S2x16384x512, .f32⟩ : BufTy).Contents (Elt Ideal))⟩, ⟨S2x16384x1536, ((extractStridedSlice S2x16384x1536 ![0, 0, 1536] p slices_S2x16384x10000_S2x16384x1536_0_0_1536) : (⟨S2x16384x1536, .f32⟩ : BufTy).Contents (Elt Ideal))⟩, ⟨S2x16384x512, ((extractStridedSlice S2x16384x512 ![0, 0, 3072] p slices_S2x16384x10000_S2x16384x512_0_0_3072) : (⟨S2x16384x512, .f32⟩ : BufTy).Contents (Elt Ideal))⟩, ⟨S2x16384x512, ((extractStridedSlice S2x16384x512 ![0, 0, 3600] p slices_S2x16384x10000_S2x16384x512_0_0_3600) : (⟨S2x16384x512, .f32⟩ : BufTy).Contents (Elt Ideal))⟩, ⟨S2x16384x1536, ((extractStridedSlice S2x16384x1536 ![0, 0, 4368] p slices_S2x16384x10000_S2x16384x1536_0_0_4368) : (⟨S2x16384x1536, .f32⟩ : BufTy).Contents (Elt Ideal))⟩, ⟨S2x16384x256, ((extractStridedSlice S2x16384x256 ![0, 0, 4112] p slices_S2x16384x10000_S2x16384x256_0_0_4112) : (⟨S2x16384x256, .f32⟩ : BufTy).Contents (Elt Ideal))⟩, ⟨S2x16384x16, ((extractStridedSlice S2x16384x16 ![0, 0, 3584] p slices_S2x16384x10000_S2x16384x16_0_0_3584) : (⟨S2x16384x16, .f32⟩ : BufTy).Contents (Elt Ideal))⟩, ⟨S2x16384x240, ((broadcastInDim S2x16384x240 ![] bcast_S_S2x16384x240 (constant (F := Ideal) S_ .f32 0x00000000#32)) : (⟨S2x16384x240, .f32⟩ : BufTy).Contents (Elt Ideal))⟩] concatenates_S2x16384x4096_S2x16384x512_S2x16384x512_S2x16384x512_S2x16384x1536_S2x16384x512_S2x16384x512_S2x16384x1536_S2x16384x256_S2x16384x16_S2x16384x240_S2x16384x10240_d2 : (⟨S2x16384x10240, .f32⟩ : BufTy).Contents (Elt Ideal))) bitsLt_bf16_f32

theorem res_eq (m : (ℓ : Loc nD τ sig) → Buf (Elt Ideal) ℓ) (c : Dev nD) :
    res_main_v34 m c = rCat (rP (rH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := rfl

theorem rH_val (a0 : FVec Ideal S2x16384x1024 .f32) (a1 : FVec Ideal S1024 .f32) (a2 a3 : FVec Ideal S2x1024 .f32) (b : Fin 2) (q : Fin 16384) (d : Fin 1024) :
    rH a0 a1 a2 a3 (ix3 b q d) = modRow (fun e => a0 (ix3 b q e)) (fun e => a1 (ix1 e)) (fun e => a2 (ix2 b e)) (fun e => a3 (ix2 b e)) d := by
  unfold modRow nrm
  pointwise [rH]

theorem rP_val (h : FVec Ideal S2x16384x1024 .f32) (w : FVec Ideal S1024x10000 .f32) (b : Fin 2) (q : Fin 16384) (k : Fin 10000) :
    rP h w (ix3 b q k) = ∑ d : Fin 1024, h (ix3 b q d) * w (ix2 d k) := by
  pointwise [rP]

section Columns

variable (p : FVec Ideal S2x16384x10000 .f32) (b : Fin 2) (q : Fin 16384)

theorem cat_val (k : Fin 10240) : rCat p (ix3 b q k) = (if h : k.val < 4096 then p (ix3 b q ⟨5904 + k.val, by omega⟩) else if h : k.val - 4096 < 512 then p (ix3 b q ⟨k.val - 4096, by omega⟩) else if h : k.val - 4096 - 512 < 512 then p (ix3 b q ⟨512 + (k.val - 4096 - 512), by omega⟩) else if h : k.val - 4096 - 512 - 512 < 512 then p (ix3 b q ⟨1024 + (k.val - 4096 - 512 - 512), by omega⟩) else if h : k.val - 4096 - 512 - 512 - 512 < 1536 then p (ix3 b q ⟨1536 + (k.val - 4096 - 512 - 512 - 512), by omega⟩) else if h : k.val - 4096 - 512 - 512 - 512 - 1536 < 512 then p (ix3 b q ⟨3072 + (k.val - 4096 - 512 - 512 - 512 - 1536), by omega⟩) else if h : k.val - 4096 - 512 - 512 - 512 - 1536 - 512 < 512 then p (ix3 b q ⟨3600 + (k.val - 4096 - 512 - 512 - 512 - 1536 - 512), by omega⟩) else if h : k.val - 4096 - 512 - 512 - 512 - 1536 - 512 - 512 < 1536 then p (ix3 b q ⟨4368 + (k.val - 4096 - 512 - 512 - 512 - 1536 - 512 - 512), by omega⟩) else if h : k.val - 4096 - 512 - 512 - 512 - 1536 - 512 - 512 - 1536 < 256 then p (ix3 b q ⟨4112 + (k.val - 4096 - 512 - 512 - 512 - 1536 - 512 - 512 - 1536), by omega⟩) else if h : k.val - 4096 - 512 - 512 - 512 - 1536 - 512 - 512 - 1536 - 256 < 16 then p (ix3 b q ⟨3584 + (k.val - 4096 - 512 - 512 - 512 - 1536 - 512 - 512 - 1536 - 256), by omega⟩) else 0 : EReal) := by
  pointwise [rCat]

end Columns

end Cert.ProjRefIdeal.Value

end
-- ==== Proof.ProjBlock.lean ====
/-
  One run of the projection's body: what it leaves in the rows it keeps and in the output block, from its blocks.
-/
module

public import proofs.«01_k».proof.Proof.Gen.ProjIdeal.Value
public import Idealize.ShloMosaic.Lib.Pointwise
public import Idealize.ShloMosaic.Lib.Claim
public import Idealize.ShloMosaic.Lib.Pipeline.ValueKit
public import Idealize.ShloMosaic.Lib.WholeRead
public import Idealize.ShloMosaic.Lib.WritesUnit
public import proofs.«01_k».proof.Proof.ProjRefVal

@[expose] public section

set_option maxRecDepth 16384

noncomputable section

namespace Cert.ProjIdeal.Gen

open Idealize.ShloMosaic Idealize.ShloMosaic.TcCoe Idealize.SL.Sem
open Cert.FinalRefIdeal.Value (nrm)
open Cert.ProjRefIdeal.Value (modRow)

/-- What the body keeps, at an index. -/
theorem keep_val (x : FVec Ideal S1x1024x1024 .f32) (g : FVec Ideal S1x1024 .f32) (sc sh : FVec Ideal S1x1x1024 .f32) (r d : Fin 1024) :
    k0_pay1 (F := Ideal) x g sc sh (ix2 r d)
      = modRow (fun e => x (ix3 0 r e)) (fun e => g (ix2 0 e)) (fun e => sh (ix3 0 0 e)) (fun e => sc (ix3 0 0 e)) d := by
  unfold modRow nrm
  pointwise [k0_pay1]

/-- What the body stores, at an index. -/
theorem dot_val (h w : FVec Ideal S1024x1024 .bf16) (r n : Fin 1024) :
    k0_pay2 (F := Ideal) h w (ix3 0 r n) = ∑ d : Fin 1024, h (ix2 r d) * w (ix2 d n) := by
  pointwise [k0_pay2]

section Body

variable (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1024x1024 .bf16) (harg9 : arg9.IsWhole)
  (x0 : Vec Ideal S1x1024x1024 .f32) (x1 : Vec Ideal S1x1024 .f32) (x2 : Vec Ideal S1x1x1024 .f32) (x3 : Vec Ideal S1x1x1024 .f32) (x4 : Vec Ideal S1024x1024 .bf16) (xs0 : Vec Ideal S1024x1024 .bf16)

/-- The blocks as the body loads them. -/
abbrev xL : Vec Ideal S1x1024x1024 .f32 := View.readAt (Elt Ideal) arg3.view (Rect.unit (s := S1x1024x1024) ![0, 0, 0] S1x1024x1024.size inb_S1x1024x1024_S1x1024x1024_0_0_0).toLoadRect (harg3.unread x0)
abbrev gL : Vec Ideal S1x1024 .f32 := View.readAt (Elt Ideal) arg4.view (Rect.unit (s := S1x1024) ![0, 0] S1x1024.size inb_S1x1024_S1x1024_0_0).toLoadRect (harg4.unread x1)
abbrev mL (arg5 : Memref sig .tc .vmem S1x1x1024 .f32) (harg5 : arg5.IsWhole) (x2 : Vec Ideal S1x1x1024 .f32) : Vec Ideal S1x1x1024 .f32 := View.readAt (Elt Ideal) arg5.view (Rect.unit (s := S1x1x1024) ![0, 0, 0] S1x1x1024.size inb_S1x1x1024_S1x1x1024_0_0_0).toLoadRect (harg5.unread x2)
abbrev wL (arg7 : Memref sig .tc .vmem S1024x1024 .bf16) (harg7 : arg7.IsWhole) (x4 : Vec Ideal S1024x1024 .bf16) : Vec Ideal S1024x1024 .bf16 := View.readAt (Elt Ideal) arg7.view (Rect.unit (s := S1024x1024) ![0, 0] S1024x1024.size inb_S1024x1024_S1024x1024_0_0).toLoadRect (harg7.unread x4)

theorem xL_val (r e : Fin 1024) : xL arg3 harg3 x0 (ix3 0 r e) = x0 (ix3 0 r e) :=
  (harg3.readAt_unread x0 _ _).trans (congrArg x0 (funext fun a => Fin.ext (by fin_cases a <;> simp [ix3, LoadRect.idx, Rect.toLoadRect, Rect.unit])))
theorem gL_val (e : Fin 1024) : gL arg4 harg4 x1 (ix2 0 e) = x1 (ix2 0 e) :=
  (harg4.readAt_unread x1 _ _).trans (congrArg x1 (funext fun a => Fin.ext (by fin_cases a <;> simp [ix2, LoadRect.idx, Rect.toLoadRect, Rect.unit])))
theorem mL_val (e : Fin 1024) : mL arg5 harg5 x2 (ix3 0 0 e) = x2 (ix3 0 0 e) :=
  (harg5.readAt_unread x2 _ _).trans (congrArg x2 (funext fun a => Fin.ext (by fin_cases a <;> simp [ix3, LoadRect.idx, Rect.toLoadRect, Rect.unit])))
theorem wL_val (r e : Fin 1024) : wL arg7 harg7 x4 (ix2 r e) = x4 (ix2 r e) :=
  (harg7.readAt_unread x4 _ _).trans (congrArg x4 (funext fun a => Fin.ext (by fin_cases a <;> simp [ix2, LoadRect.idx, Rect.toLoadRect, Rect.unit])))

/-- The rows the body keeps. -/
abbrev kept : List (View.Piece (Elt Ideal) S1024x1024 .bf16) :=
  [⟨Rect.unit (s := S1024x1024) ![0, 0] S1024x1024.size inb_S1024x1024_S1024x1024_0_0, k0_pay1 (F := Ideal) (xL arg3 harg3 x0) (gL arg4 harg4 x1) (mL arg6 harg6 x3) (mL arg5 harg5 x2)⟩]

theorem runA_kept (hc0 : cond0_0 i) : (kernelRun0_A (F := Ideal) c i arg3 harg3 arg4 harg4 arg5 harg5 arg6 harg6 arg7 harg7 arg8 harg8 arg9 harg9 hc0 x0 x1 x2 x3 x4).2.1
    = kept arg3 harg3 arg4 harg4 arg5 harg5 arg6 harg6 x0 x1 x2 x3 := by
  unfold kernelRun0_A
  rfl

theorem runA_out (hc0 : cond0_0 i) : (kernelRun0_A (F := Ideal) c i arg3 harg3 arg4 harg4 arg5 harg5 arg6 harg6 arg7 harg7 arg8 harg8 arg9 harg9 hc0 x0 x1 x2 x3 x4).1
    = [⟨Rect.unit (s := S1x1024x1024) ![0, 0, 0] S1x1024x1024.size inb_S1x1024x1024_S1x1024x1024_0_0_0, k0_pay2 (F := Ideal)
        (View.readAt (Elt Ideal) arg9.view (Rect.unit (s := S1024x1024) ![0, 0] S1024x1024.size inb_S1024x1024_S1024x1024_0_0).toLoadRect
          (arg9.view.writes (Elt Ideal) arg9.view.junk (kept arg3 harg3 arg4 harg4 arg5 harg5 arg6 harg6 x0 x1 x2 x3)))
        (wL arg7 harg7 x4)⟩] := by
  unfold kernelRun0_A
  rfl

theorem runB_out (hc0 : ¬cond0_0 i) : (kernelRun0_B (F := Ideal) c i arg3 harg3 arg4 harg4 arg5 harg5 arg6 harg6 arg7 harg7 arg8 harg8 arg9 harg9 hc0 x0 x1 x2 x3 x4 xs0).1
    = [⟨Rect.unit (s := S1x1024x1024) ![0, 0, 0] S1x1024x1024.size inb_S1x1024x1024_S1x1024x1024_0_0_0, k0_pay2 (F := Ideal)
        (wL arg9 harg9 xs0) (wL arg7 harg7 x4)⟩] := by
  unfold kernelRun0_B
  rfl

/-- A row the body keeps, at one of its values. -/
abbrev row (r d : Fin 1024) : EReal :=
  modRow (fun e => x0 (ix3 0 r e)) (fun e => x1 (ix2 0 e)) (fun e => x2 (ix3 0 0 e)) (fun e => x3 (ix3 0 0 e)) d

theorem pay_row (r d : Fin 1024) : k0_pay1 (F := Ideal) (xL arg3 harg3 x0) (gL arg4 harg4 x1) (mL arg6 harg6 x3) (mL arg5 harg5 x2) (ix2 r d) = row x0 x1 x2 x3 r d := by
  rw [keep_val]
  simp only [xL_val, gL_val, mL_val]

theorem souta_val (hc0 : cond0_0 i) (r d : Fin 1024) :
    sout0_A_0 (F := Ideal) c i arg3 harg3 arg4 harg4 arg5 harg5 arg6 harg6 arg7 harg7 arg8 harg8 arg9 harg9 hc0 x0 x1 x2 x3 x4 (ix2 r d) = row x0 x1 x2 x3 r d := by
  unfold sout0_A_0
  rw [runA_kept]
  exact (View.read_writes_cons_unit_of_mem VS0_0 _ inb_S1024x1024_S1024x1024_0_0 _ [] (ix2 r d : S1024x1024.Idx) (ix2 r d : S1024x1024.Idx) rfl (by
    intro a; fin_cases a <;> simp [ix2])).trans (pay_row ..)

theorem kept_read (r d : Fin 1024) :
    View.readAt (Elt Ideal) arg9.view (Rect.unit (s := S1024x1024) ![0, 0] S1024x1024.size inb_S1024x1024_S1024x1024_0_0).toLoadRect
      (arg9.view.writes (Elt Ideal) arg9.view.junk (kept arg3 harg3 arg4 harg4 arg5 harg5 arg6 harg6 x0 x1 x2 x3)) (ix2 r d : S1024x1024.Idx) = row x0 x1 x2 x3 r d :=
  (congrArg (arg9.view.read (Elt Ideal) (arg9.view.writes (Elt Ideal) arg9.view.junk (kept arg3 harg3 arg4 harg4 arg5 harg5 arg6 harg6 x0 x1 x2 x3)))
    (funext fun a => Fin.ext (by fin_cases a <;> simp [ix2, LoadRect.idx, Rect.toLoadRect, Rect.unit]) : _ = (ix2 r d : S1024x1024.Idx))).trans
  ((View.read_writes_cons_unit_of_mem arg9.view _ inb_S1024x1024_S1024x1024_0_0 _ [] (ix2 r d : S1024x1024.Idx) (ix2 r d : S1024x1024.Idx) rfl (by
    intro a; fin_cases a <;> simp [ix2])).trans (pay_row ..))

theorem outa_val (hc0 : cond0_0 i) (r n : Fin 1024) :
    out0_A_5 (F := Ideal) c i arg3 harg3 arg4 harg4 arg5 harg5 arg6 harg6 arg7 harg7 arg8 harg8 arg9 harg9 hc0 x0 x1 x2 x3 x4 (ix3 0 r n)
      = ∑ d : Fin 1024, row x0 x1 x2 x3 r d * x4 (ix2 d n) := by
  unfold out0_A_5
  rw [runA_out]
  refine (View.read_writes_cons_unit_of_mem VO0_5 _ inb_S1x1024x1024_S1x1024x1024_0_0_0 _ [] (ix3 0 r n : S1x1024x1024.Idx) (ix3 0 r n : S1x1024x1024.Idx) rfl (by
    intro a; fin_cases a <;> simp [ix3])).trans ((dot_val _ _ r n).trans (Finset.sum_congr rfl fun d _ => ?_))
  exact congrArg₂ (· * ·) (kept_read ..) (wL_val ..)

theorem outb_val (hc0 : ¬cond0_0 i) (r n : Fin 1024) :
    out0_B_5 (F := Ideal) c i arg3 harg3 arg4 harg4 arg5 harg5 arg6 harg6 arg7 harg7 arg8 harg8 arg9 harg9 hc0 x0 x1 x2 x3 x4 xs0 (ix3 0 r n)
      = ∑ d : Fin 1024, xs0 (ix2 r d) * x4 (ix2 d n) := by
  unfold out0_B_5
  rw [runB_out]
  refine (View.read_writes_cons_unit_of_mem VO0_5 _ inb_S1x1024x1024_S1x1024x1024_0_0_0 _ [] (ix3 0 r n : S1x1024x1024.Idx) (ix3 0 r n : S1x1024x1024.Idx) rfl (by
    intro a; fin_cases a <;> simp [ix3])).trans ((dot_val _ _ r n).trans (Finset.sum_congr rfl fun d _ => ?_))
  exact congrArg₂ (· * ·) (wL_val ..) (wL_val ..)

end Body

end Cert.ProjIdeal.Gen

end
-- ==== Proof.ProjHostVal.lean ====
/-
  What the arrays the projection's call reads hold, each at coordinates: the rows, the gain, the shift, the scale, and the
  weights with their columns in the call's order; and each grid point's blocks of them.
-/
module

public import proofs.«01_k».proof.Proof.Gen.ProjIdeal.Value
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.ProjIdeal.Gen

open Idealize.ShloMosaic Idealize.ShloMosaic.TcCoe Idealize.SL.Sem
open Idealize.ShloMosaic.Pipeline (Dat)

/-- The weights' columns in the call's order. -/
def wCat (w : FVec Ideal S1024x10000 .f32) : FVec Ideal S1024x10240 .bf16 :=
  truncf .bf16 (concatenate S1024x10240 1 [⟨S1024x4096, extractStridedSlice S1024x4096 ![0, 5904] w slices_S1024x10000_S1024x4096_0_5904⟩, ⟨S1024x512, extractStridedSlice S1024x512 ![0, 0] w slices_S1024x10000_S1024x512_0_0⟩, ⟨S1024x512, extractStridedSlice S1024x512 ![0, 512] w slices_S1024x10000_S1024x512_0_512⟩, ⟨S1024x512, extractStridedSlice S1024x512 ![0, 1024] w slices_S1024x10000_S1024x512_0_1024⟩, ⟨S1024x1536, extractStridedSlice S1024x1536 ![0, 1536] w slices_S1024x10000_S1024x1536_0_1536⟩, ⟨S1024x512, extractStridedSlice S1024x512 ![0, 3072] w slices_S1024x10000_S1024x512_0_3072⟩, ⟨S1024x512, extractStridedSlice S1024x512 ![0, 3600] w slices_S1024x10000_S1024x512_0_3600⟩, ⟨S1024x1536, extractStridedSlice S1024x1536 ![0, 4368] w slices_S1024x10000_S1024x1536_0_4368⟩, ⟨S1024x256, extractStridedSlice S1024x256 ![0, 4112] w slices_S1024x10000_S1024x256_0_4112⟩, ⟨S1024x16, extractStridedSlice S1024x16 ![0, 3584] w slices_S1024x10000_S1024x16_0_3584⟩, ⟨S1024x240, broadcastInDim S1024x240 ![] bcast_S_S1024x240 (constant (F := Ideal) S_ .f32 0x00000000#32)⟩] concatenates_S1024x4096_S1024x512_S1024x512_S1024x512_S1024x1536_S1024x512_S1024x512_S1024x1536_S1024x256_S1024x16_S1024x240_S1024x10240_d1) bitsLt_bf16_f32

section Columns

variable (w : FVec Ideal S1024x10000 .f32) (d : Fin 1024)

theorem wcat_val (k : Fin 10240) : wCat w (ix2 d k) = (if h : k.val < 4096 then w (ix2 d ⟨5904 + k.val, by omega⟩) else if h : k.val - 4096 < 512 then w (ix2 d ⟨k.val - 4096, by omega⟩) else if h : k.val - 4096 - 512 < 512 then w (ix2 d ⟨512 + (k.val - 4096 - 512), by omega⟩) else if h : k.val - 4096 - 512 - 512 < 512 then w (ix2 d ⟨1024 + (k.val - 4096 - 512 - 512), by omega⟩) else if h : k.val - 4096 - 512 - 512 - 512 < 1536 then w (ix2 d ⟨1536 + (k.val - 4096 - 512 - 512 - 512), by omega⟩) else if h : k.val - 4096 - 512 - 512 - 512 - 1536 < 512 then w (ix2 d ⟨3072 + (k.val - 4096 - 512 - 512 - 512 - 1536), by omega⟩) else if h : k.val - 4096 - 512 - 512 - 512 - 1536 - 512 < 512 then w (ix2 d ⟨3600 + (k.val - 4096 - 512 - 512 - 512 - 1536 - 512), by omega⟩) else if h : k.val - 4096 - 512 - 512 - 512 - 1536 - 512 - 512 < 1536 then w (ix2 d ⟨4368 + (k.val - 4096 - 512 - 512 - 512 - 1536 - 512 - 512), by omega⟩) else if h : k.val - 4096 - 512 - 512 - 512 - 1536 - 512 - 512 - 1536 < 256 then w (ix2 d ⟨4112 + (k.val - 4096 - 512 - 512 - 512 - 1536 - 512 - 512 - 1536), by omega⟩) else if h : k.val - 4096 - 512 - 512 - 512 - 1536 - 512 - 512 - 1536 - 256 < 16 then w (ix2 d ⟨3584 + (k.val - 4096 - 512 - 512 - 512 - 1536 - 512 - 512 - 1536 - 256), by omega⟩) else 0 : EReal) := by
  pointwise [wCat]

end Columns

section Operands

variable (m : (ℓ : Loc nD τ sig) → Buf (Elt Ideal) ℓ) (c : Dev nD)

abbrev A0 : FVec Ideal S2x16384x1024 .f32 := m ((c.tc : Thread nD τ).loc main_arg0)
abbrev A1 : FVec Ideal S1024 .f32 := m ((c.tc : Thread nD τ).loc main_arg1)
abbrev A2 : FVec Ideal S2x1024 .f32 := m ((c.tc : Thread nD τ).loc main_arg2)
abbrev A3 : FVec Ideal S2x1024 .f32 := m ((c.tc : Thread nD τ).loc main_arg3)
abbrev A4 : FVec Ideal S1024x10000 .f32 := m ((c.tc : Thread nD τ).loc main_arg4)

theorem op_x (b : Fin 2) (q : Fin 16384) (d : Fin 1024) :
    (V m c main_arg0 : FVec Ideal S2x16384x1024 .f32) (ix3 b q d) = A0 m c (ix3 b q d) := by
  rw [V_main_arg0]

theorem op_g (d : Fin 1024) : (V m c main_v13 : FVec Ideal S1x1024 .f32) (ix2 0 d) = A1 m c (ix1 d) := by
  entry_read
  pointwise

theorem op_sh (b : Fin 2) (d : Fin 1024) : (V m c main_v14 : FVec Ideal S2x1x1024 .f32) (ix3 b 0 d) = A2 m c (ix2 b d) := by
  entry_read
  pointwise

theorem op_sc (b : Fin 2) (d : Fin 1024) : (V m c main_v15 : FVec Ideal S2x1x1024 .f32) (ix3 b 0 d) = A3 m c (ix2 b d) := by
  entry_read
  pointwise

theorem op_w : (V m c main_v12 : FVec Ideal S1024x10240 .bf16) = wCat (A4 m c) := by
  unfold wCat
  after_reads_simp
  rfl

/-- Where each grid point's blocks lie. -/
theorem idx : ∀ t : Fin cfg0.N, win0_0.index t = ![t.val / 160, t.val / 10 % 16, 0] ∧ win0_1.index t = ![0, 0]
    ∧ win0_2.index t = ![t.val / 160, 0, 0] ∧ win0_3.index t = ![t.val / 160, 0, 0] ∧ win0_4.index t = ![0, t.val % 10]
    ∧ win0_5.index t = ![t.val / 160, t.val / 10 % 16, t.val % 10] ∧ t.val / 160 < 2 :=
  (by decide +kernel : ∀ t : Fin grid0.N, _)

variable (t : Fin cfg0.N)

theorem blk_x (b : Fin 2) (j : Fin 16) (hb : t.val / 160 = b.val) (hj : t.val / 10 % 16 = j.val) (r : Fin 1024) (d : Fin 1024) :
    (iblk m c 0 t : FVec Ideal S1x1024x1024 .f32) (ix3 0 r d) = A0 m c (ix3 b ⟨1024 * j.val + r.val, by omega⟩ d) := by
  rw [← op_x]
  blk_ext [iblk, idx t, hb, hj]

theorem blk_g (d : Fin 1024) : (iblk m c 1 t : FVec Ideal S1x1024 .f32) (ix2 0 d) = A1 m c (ix1 d) := by
  rw [← op_g]
  blk_ext [iblk, idx t]

theorem blk_sh (b : Fin 2) (hb : t.val / 160 = b.val) (d : Fin 1024) : (iblk m c 2 t : FVec Ideal S1x1x1024 .f32) (ix3 0 0 d) = A2 m c (ix2 b d) := by
  rw [← op_sh m c b d]
  blk_ext [iblk, idx t, hb]

theorem blk_sc (b : Fin 2) (hb : t.val / 160 = b.val) (d : Fin 1024) : (iblk m c 3 t : FVec Ideal S1x1x1024 .f32) (ix3 0 0 d) = A3 m c (ix2 b d) := by
  rw [← op_sc m c b d]
  blk_ext [iblk, idx t, hb]

theorem blk_w (k : Fin 10) (hk : t.val % 10 = k.val) (d n : Fin 1024) :
    (iblk m c 4 t : FVec Ideal S1024x1024 .bf16) (ix2 d n) = wCat (A4 m c) (ix2 d ⟨1024 * k.val + n.val, by omega⟩) := by
  rw [← op_w]
  blk_ext [iblk, idx t, hk]

end Operands

end Cert.ProjIdeal.Gen

end
-- ==== Proof.ProjArrVal.lean ====
/-
  The projection's output array is the reference's: the rows the body keeps are its batch's and row tile's at every grid
  point, each block is their product with the weights' columns, and the blocks cover the array.
-/
module

public import proofs.«01_k».proof.Proof.ProjBlock
public import proofs.«01_k».proof.Proof.ProjHostVal
public import proofs.«01_k».proof.Proof.ProjRefVal

@[expose] public section

set_option maxRecDepth 16384

noncomputable section

namespace Cert.ProjIdeal.Gen

open Idealize.ShloMosaic Idealize.ShloMosaic.TcCoe Idealize.SL.Sem
open Idealize.ShloMosaic.Pipeline (Dat)
open Cert.ProjRefIdeal.Value

/-- A sum of products with a choice is the choice of the sums. -/
theorem sum_choice (p : Prop) [Decidable p] (x : Fin 1024 → EReal) (f : p → Fin 1024 → EReal) (g : Fin 1024 → EReal) :
    (∑ d, x d * (if hp : p then f hp d else g d)) = if hp : p then ∑ d, x d * f hp d else ∑ d, x d * g d := by
  split_ifs <;> rfl

/-- The reference's columns are the rows' products with the weights' columns, both in the call's order. -/
theorem cols (h : FVec Ideal S2x16384x1024 .f32) (w : FVec Ideal S1024x10000 .f32) (b : Fin 2) (q : Fin 16384) (k : Fin 10240) :
    (rCat (rP h w) (ix3 b q k) : EReal) = ∑ d : Fin 1024, h (ix3 b q d) * wCat w (ix2 d k) := by
  rw [cat_val]
  simp only [wcat_val, rP_val, sum_choice, mul_zero, Finset.sum_const_zero]

section Arr

variable (m : (ℓ : Loc nD τ sig) → Buf (Elt Ideal) ℓ) (c : Dev nD)

/-- The normalised and modulated rows. -/
abbrev hA : FVec Ideal S2x16384x1024 .f32 := rH (A0 m c) (A1 m c) (A2 m c) (A3 m c)

/-- The rows a grid point's blocks make. -/
theorem row_val (t : Fin cfg0.N) (b : Fin 2) (j : Fin 16) (hb : t.val / 160 = b.val) (hj : t.val / 10 % 16 = j.val) (r d : Fin 1024) :
    row (iblk m c 0 t) (iblk m c 1 t) (iblk m c 2 t) (iblk m c 3 t) r d = hA m c (ix3 b ⟨1024 * j.val + r.val, by omega⟩ d) := by
  refine Eq.trans ?_ (rH_val (A0 m c) (A1 m c) (A2 m c) (A3 m c) b ⟨1024 * j.val + r.val, by omega⟩ d).symm
  unfold row
  simp only [blk_x m c t b j hb hj, blk_g m c t, blk_sh m c t b hb, blk_sc m c t b hb]

/-- What the body keeps at a row tile's first point: the rows of its blocks. -/
theorem kept_first (t : Fin cfg0.N) (h0 : t.val % 10 = 0) (r d : Fin 1024) :
    ((outsAt0 m c t.val t.isLt).2 : FVec Ideal S1024x1024 .bf16) (ix2 r d) = row (iblk m c 0 t) (iblk m c 1 t) (iblk m c 2 t) (iblk m c 3 t) r d := by
  rw [outsAt0_A m c t h0]
  dsimp only
  rw [souta_val]

/-- What the body keeps at a later point: what the point before kept. -/
theorem kept_later (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]
  rfl

/-- The output block at a row tile's first point. -/
theorem block_first (t : Fin cfg0.N) (h0 : t.val % 10 = 0) (r n : Fin 1024) :
    ((outsAt0 m c t.val t.isLt).1 : FVec Ideal S1x1024x1024 .bf16) (ix3 0 r n)
      = ∑ d : Fin 1024, row (iblk m c 0 t) (iblk m c 1 t) (iblk m c 2 t) (iblk m c 3 t) r d * (iblk m c 4 t : FVec Ideal S1024x1024 .bf16) (ix2 d n) := by
  rw [outsAt0_A m c t h0]
  dsimp only
  rw [outa_val]

/-- The output block at a later point. -/
theorem block_later (t : Fin cfg0.N) (h0 : ¬t.val % 10 = 0) (r n : Fin 1024) :
    ((outsAt0 m c t.val t.isLt).1 : FVec Ideal S1x1024x1024 .bf16) (ix3 0 r n)
      = ∑ d : Fin 1024, ((outsAt0 m c (t.val - 1) (Nat.lt_of_le_of_lt (Nat.sub_le _ _) t.isLt)).2 : FVec Ideal S1024x1024 .bf16) (ix2 r d) * (iblk m c 4 t : FVec Ideal S1024x1024 .bf16) (ix2 d n) := by
  rw [outsAt0_B m c t h0]
  dsimp only
  rw [outb_val]

/-- What the body keeps after a grid point: its batch's and row tile's rows. -/
theorem kept_val : ∀ (n : ℕ) (hn : n < cfg0.N) (b : Fin 2) (j : Fin 16) (hb : n / 160 = b.val) (hj : n / 10 % 16 = j.val) (r d : Fin 1024),
    ((outsAt0 m c n hn).2 : FVec Ideal S1024x1024 .bf16) (ix2 r d) = hA m c (ix3 b ⟨1024 * j.val + r.val, by omega⟩ d) := by
  intro n
  induction n with
  | zero =>
    intro hn b j hb hj r d
    exact (kept_first m c ⟨0, hn⟩ (Nat.zero_mod _) r d).trans (row_val m c ⟨0, hn⟩ b j hb hj r d)
  | succ n ih =>
    intro hn b j hb hj r d
    by_cases h0 : (n + 1) % 10 = 0
    · exact (kept_first m c ⟨n + 1, hn⟩ h0 r d).trans (row_val m c ⟨n + 1, hn⟩ b j hb hj r d)
    · exact (congrFun (kept_later m c ⟨n + 1, hn⟩ h0) (ix2 r d)).trans (ih (Nat.lt_of_succ_lt hn) b j (by omega) (by omega) r d)

/-- What the body leaves in the output block at a grid point. -/
theorem point_val (t : Fin cfg0.N) (b : Fin 2) (j : Fin 16) (k : Fin 10) (hb : t.val / 160 = b.val) (hj : t.val / 10 % 16 = j.val) (hk : t.val % 10 = k.val) (r n : Fin 1024) :
    ((outsAt0 m c t.val t.isLt).1 : FVec Ideal S1x1024x1024 .bf16) (ix3 0 r n)
      = ∑ d : Fin 1024, hA m c (ix3 b ⟨1024 * j.val + r.val, by omega⟩ d) * wCat (A4 m c) (ix2 d ⟨1024 * k.val + n.val, by omega⟩) := by
  by_cases h0 : t.val % 10 = 0
  · refine (block_first m c t h0 r n).trans (Finset.sum_congr rfl fun d _ => ?_)
    rw [row_val m c t b j hb hj r d, blk_w m c t k hk d n]
  · refine (block_later m c t h0 r n).trans (Finset.sum_congr rfl fun d _ => ?_)
    rw [kept_val m c (t.val - 1) _ b j (by omega) (by omega) r d, blk_w m c t k hk d n]

/-- THE OUTPUT ARRAY. -/
theorem final : (dats m 0 c).arrAt 5 cfg0.N = rCat (rP (hA m c) (A4 m c)) := by
  refine (dats m 0 c).arrAt_eq_of_covers 5 _ (by decide +kernel) fun t _ y => ?_
  blk_simp
  rw [after0_5]
  have e2 : t.val / 160 < 2 := (idx t).2.2.2.2.2.2
  have h1 : (y 1).val < 1024 := (y 1).isLt
  have h2 : (y 2).val < 1024 := (y 2).isLt
  have h3 : t.val / 10 % 16 < 16 := Nat.mod_lt _ (by norm_num)
  have h4 : t.val % 10 < 10 := Nat.mod_lt _ (by norm_num)
  have pv := (point_val m c t ⟨t.val / 160, e2⟩ ⟨t.val / 10 % 16, h3⟩ ⟨t.val % 10, h4⟩ rfl rfl rfl ⟨(y 1).val, h1⟩ ⟨(y 2).val, h2⟩).trans
    (cols (hA m c) (A4 m c) ⟨t.val / 160, e2⟩ ⟨1024 * (t.val / 10 % 16) + (y 1).val, by omega⟩ ⟨1024 * (t.val % 10) + (y 2).val, by omega⟩).symm
  refine Eq.trans (congrArg _ ?_) (pv.trans (congrArg _ ?_))
  · blk_ext [idx t]
  · blk_ext [idx t]

end Arr

end Cert.ProjIdeal.Gen

end
-- ==== Proof.MergeRefVal.lean ====
/-
  The merge's reference: a row's output is the row plus the gate times its merged branches through the output weights.
-/
module

public import proofs.«01_k».proof.Proof.Gen.MergeRefIdeal.Run
public import Idealize.ShloMosaic.Lib.Pointwise
public import Idealize.ShloMosaic.Lib.Claim
public import proofs.«01_k».proof.Proof.FinalVal

@[expose] public section

set_option maxRecDepth 16384

noncomputable section

namespace Cert.MergeRefIdeal.Value

open Cert.MergeRefIdeal Cert.MergeRefIdeal.Gen Idealize.ShloMosaic Idealize.ShloMosaic.TcCoe Idealize.SL.Sem Idealize.ShloMosaic.StableHlo

/-- A head's 128 values over their root mean square, at one of them. -/
def hnrm (f : Fin 128 → EReal) (e : Fin 128) : EReal :=
  f e * Ideal.rsqrt (Ideal.div (∑ k : Fin 128, f k * f k) (Ideal.ofBits .f32 0x43000000#32) + Ideal.ofBits .f32 0x358637BD#32)

/-- The sigmoid as one over one plus an exponential. -/
theorem sig_val (x : EReal) : Ideal.div (Ideal.ofBits .f32 0x3F800000#32) (Ideal.ofBits .f32 0x3F800000#32 + Ideal.exp (-x)) = Ideal.logistic x := by
  rw [Cert.FinalIdeal.Gen.one_bits]
  rfl

/-- The second branch: the heads' norms, gained and gated. -/
def rB (a1 a2 : FVec Ideal S2x16384x4x128 .f32) (a5 : FVec Ideal S2x16384x512 .f32) (a7 : FVec Ideal S128 .f32) : FVec Ideal S2x16384x512 .f32 :=
  shapeCast S2x16384x512 (mulf (mulf (mulf (addf a1 a2) (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf (addf a1 a2) (addf a1 a2)) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 a7))) (shapeCast S2x16384x4x128 (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf a5)))) shapeCasts_S2x16384x512_S2x16384x4x128)) shapeCasts_S2x16384x4x128_S2x16384x512
/-- The four branches. -/
def rY (a0 yb a3 a4 : FVec Ideal S2x16384x512 .f32) : FVec Ideal S2x16384x4x512 .f32 :=
  ((concatenate S2x16384x4x512 2 [⟨S2x16384x1x512, ((broadcastInDim S2x16384x1x512 ![0, 1, 3] bcast_S2x16384x512_S2x16384x1x512_0_1_3 a0) : (⟨S2x16384x1x512, .f32⟩ : BufTy).Contents (Elt Ideal))⟩, ⟨S2x16384x1x512, ((broadcastInDim S2x16384x1x512 ![0, 1, 3] bcast_S2x16384x512_S2x16384x1x512_0_1_3 yb) : (⟨S2x16384x1x512, .f32⟩ : BufTy).Contents (Elt Ideal))⟩, ⟨S2x16384x1x512, ((broadcastInDim S2x16384x1x512 ![0, 1, 3] bcast_S2x16384x512_S2x16384x1x512_0_1_3 a3) : (⟨S2x16384x1x512, .f32⟩ : BufTy).Contents (Elt Ideal))⟩, ⟨S2x16384x1x512, ((broadcastInDim S2x16384x1x512 ![0, 1, 3] bcast_S2x16384x512_S2x16384x1x512_0_1_3 a4) : (⟨S2x16384x1x512, .f32⟩ : BufTy).Contents (Elt Ideal))⟩] concatenates_S2x16384x1x512_S2x16384x1x512_S2x16384x1x512_S2x16384x1x512_S2x16384x4x512_d2 : (⟨S2x16384x4x512, .f32⟩ : BufTy).Contents (Elt Ideal)))
/-- The branches' gated sum. -/
def rZ (y : FVec Ideal S2x16384x4x512 .f32) (a6 : FVec Ideal S2x16384x4096 .f32) (a8 : FVec Ideal S4x512x1024 .f32) : FVec Ideal S2x16384x1024 .f32 :=
  Host.reduceAdd (mulf (Host.divf (broadcastInDim S2x16384x4x1024 ![] bcast_S_S2x16384x4x1024 (constant S_ .f32 0x3F800000#32)) (addf (broadcastInDim S2x16384x4x1024 ![] bcast_S_S2x16384x4x1024 (constant S_ .f32 0x3F800000#32)) (Host.exp (Host.negf (shapeCast S2x16384x4x1024 a6 shapeCasts_S2x16384x4096_S2x16384x4x1024))))) (transpose S2x16384x4x1024 [2, 3, 0, 1] (Host.dotGeneral dot_S4x512x1024_S2x16384x4x512_S4x1024x2x16384_1_3_2_01_0_2 none a8 y) transposes_S4x1024x2x16384_S2x16384x4x1024_2_3_0_1)) (constant S_ .f32 0x00000000#32) reducesTo_S2x16384x4x1024_S2x16384x1024_d2 h_S_
/-- The residual plus the gated projection. -/
def rOut (z : FVec Ideal S2x16384x1024 .f32) (a9 : FVec Ideal S1024x1024 .f32) (a10 : FVec Ideal S2x16384x1024 .f32) (a11 : FVec Ideal S2x1024 .f32) : FVec Ideal S2x16384x1024 .f32 :=
  addf a10 (mulf (broadcastInDim S2x16384x1024 ![0, 1, 2] bcast_S2x1x1024_S2x16384x1024_0_1_2 (broadcastInDim S2x1x1024 ![0, 2] bcast_S2x1024_S2x1x1024_0_2 a11)) (Host.dotGeneral dot_S2x16384x1024_S1024x1024_S2x16384x1024_2_0_01_1_n_n none z a9))

/-- The reference's result as a function of its arguments. -/
def rMerge (a0 : FVec Ideal S2x16384x512 .f32) (a1 a2 : FVec Ideal S2x16384x4x128 .f32) (a3 a4 a5 : FVec Ideal S2x16384x512 .f32) (a6 : FVec Ideal S2x16384x4096 .f32)
    (a7 : FVec Ideal S128 .f32) (a8 : FVec Ideal S4x512x1024 .f32) (a9 : FVec Ideal S1024x1024 .f32) (a10 : FVec Ideal S2x16384x1024 .f32) (a11 : FVec Ideal S2x1024 .f32) :
    FVec Ideal S2x16384x1024 .f32 :=
  rOut (rZ (rY a0 (rB a1 a2 a5 a7) a3 a4) a6 a8) a9 a10 a11

theorem rB_val (a1 a2 : FVec Ideal S2x16384x4x128 .f32) (a5 : FVec Ideal S2x16384x512 .f32) (a7 : FVec Ideal S128 .f32) (b : Fin 2) (q : Fin 16384) (n : Fin 4) (e : Fin 128) (k : Fin 512)
    (hk : k.val = 128 * n.val + e.val) :
    rB a1 a2 a5 a7 (ix3 b q k) = hnrm (fun e => a1 (ix4 b q n e) + a2 (ix4 b q n e)) e * a7 (ix1 e) * Ideal.logistic (a5 (ix3 b q k)) := by
  have h1 : k.val / 128 = n.val := by omega
  have h2 : k.val % 128 = e.val := by omega
  rw [← sig_val]
  unfold hnrm
  pointwise [rB]
  rw [show (⟨k.val / 128, by omega⟩ : Fin 4) = n from Fin.ext h1, show (⟨k.val % 128, by omega⟩ : Fin 128) = e from Fin.ext h2]

theorem rY_val (a0 yb a3 a4 : FVec Ideal S2x16384x512 .f32) (b : Fin 2) (q : Fin 16384) (n : Fin 4) (k : Fin 512) :
    rY a0 yb a3 a4 (ix4 b q n k) = (![a0 (ix3 b q k), yb (ix3 b q k), a3 (ix3 b q k), a4 (ix3 b q k)] : Fin 4 → EReal) n := by
  fin_cases n <;> pointwise [rY]

theorem rZ_val (y : FVec Ideal S2x16384x4x512 .f32) (a6 : FVec Ideal S2x16384x4096 .f32) (a8 : FVec Ideal S4x512x1024 .f32) (b : Fin 2) (q : Fin 16384) (d : Fin 1024) :
    rZ y a6 a8 (ix3 b q d) = ∑ n : Fin 4, Ideal.logistic (a6 (ix3 b q ⟨n.val * 1024 + d.val, by omega⟩)) * ∑ k : Fin 512, y (ix4 b q n k) * a8 (ix3 n k d) := by
  simp only [← sig_val]
  pointwise [rZ]
  simp only [fun (i : S4x512x1024.Idx) (z : EReal) => mul_comm (a8 i) z]

theorem rOut_val (z : FVec Ideal S2x16384x1024 .f32) (a9 : FVec Ideal S1024x1024 .f32) (a10 : FVec Ideal S2x16384x1024 .f32) (a11 : FVec Ideal S2x1024 .f32) (b : Fin 2) (q : Fin 16384) (d : Fin 1024) :
    rOut z a9 a10 a11 (ix3 b q d) = a10 (ix3 b q d) + a11 (ix2 b d) * ∑ e : Fin 1024, z (ix3 b q e) * a9 (ix2 e d) := by
  pointwise [rOut]

end Cert.MergeRefIdeal.Value

end
-- ==== Proof.MergeBlock.lean ====
/-
  The merge's body: what it leaves in the output block, as a function of its input blocks.
-/
module

public import proofs.«01_k».proof.Proof.Gen.MergeIdeal.Value
public import proofs.«01_k».proof.Proof.MergeRefVal
public import Idealize.ShloMosaic.Lib.Pointwise
public import Idealize.ShloMosaic.Lib.Claim
public import Idealize.ShloMosaic.Lib.WholeRead
public import Idealize.ShloMosaic.Lib.WritesUnit

@[expose] public section

set_option maxRecDepth 16384

noncomputable section

namespace Cert.MergeIdeal.Gen

open Idealize.ShloMosaic Idealize.ShloMosaic.TcCoe Idealize.SL.Sem
open Cert.MergeRefIdeal.Value (hnrm)

section Heads

variable (g : FVec Ideal S1x128 .f32) (u v : FVec Ideal S1x512x128 .f32) (o : FVec Ideal S1x512x128 .bf16)

/-- One head's part of a row: the head's norm, gained and gated. -/
abbrev headVal (r : Fin 512) (e : Fin 128) : EReal :=
  hnrm (fun e => u (ix3 0 r e) + v (ix3 0 r e)) e * g (ix2 0 e) * Ideal.logistic (o (ix3 0 r e))

theorem head0 (r : Fin 512) (e : Fin 128) : k0_pay3 (F := Ideal) g u v o (ix2 r e) = headVal g u v o r e := by
  unfold headVal hnrm
  pointwise [k0_pay3, k0_pay2]

theorem head1 (r : Fin 512) (e : Fin 128) :
    k0_pay6 (F := Ideal) (k0_pay2 (F := Ideal) g) (k0_pay4 (F := Ideal) u v) (k0_pay5 (F := Ideal) u v) (Scalar.ofBits .f32 0x358637BD#32) o (ix2 r e) = headVal g u v o r e := by
  unfold headVal hnrm
  pointwise [k0_pay6, k0_pay5, k0_pay4, k0_pay2]

theorem head2 (r : Fin 512) (e : Fin 128) : k0_pay7 (F := Ideal) (k0_pay2 (F := Ideal) g) u v o (ix2 r e) = headVal g u v o r e := by
  unfold headVal hnrm
  pointwise [k0_pay7, k0_pay2]

variable (p0 p1 p2 : FVec Ideal S512x128 .bf16)

theorem heads_val (r : Fin 512) (n : Fin 4) (e : Fin 128) (k : Fin 512) (hk : k.val = 128 * n.val + e.val) :
    k0_pay9 (F := Ideal) (k0_pay2 (F := Ideal) g) p0 p1 p2 (k0_pay8 (F := Ideal) u) v o (ix2 r k)
      = (![p0 (ix2 r e), p1 (ix2 r e), p2 (ix2 r e), headVal g u v o r e] : Fin 4 → EReal) n := by
  unfold headVal hnrm
  pointwise [k0_pay9, k0_pay8, k0_pay2]
  have h128 : e.val < 128 := e.isLt
  fin_cases n
  · have h : k.val = e.val := by simpa using hk
    rw [dif_pos (by omega)]
    exact congrArg (fun j => p0 (ix2 r j)) (Fin.ext h)
  · have h : k.val = 128 + e.val := by simpa using hk
    rw [dif_neg (by omega), dif_pos (by omega)]
    exact congrArg (fun j => p1 (ix2 r j)) (Fin.ext (by simp only []; omega))
  · have h : k.val = 256 + e.val := by simpa using hk
    rw [dif_neg (by omega), dif_neg (by omega), dif_pos (by omega)]
    exact congrArg (fun j => p2 (ix2 r j)) (Fin.ext (by simp only []; omega))
  · have h : k.val = 384 + e.val := by simpa using hk
    rw [dif_neg (by omega), dif_neg (by omega), dif_neg (by omega)]
    rw [show (⟨k.val - 128 - 128 - 128, by omega⟩ : Fin 128) = e from Fin.ext (by simp only []; omega)]
    rfl

end Heads

/-- The first branch, gated. -/
theorem br0_val (y : FVec Ideal S1x512x512 .bf16) (w g : FVec Ideal S1x512x1024 .bf16) (r : Fin 512) (d : Fin 1024) :
    k0_pay12 (F := Ideal) y w g (ix2 r d) = Ideal.logistic (g (ix3 0 r d)) * ∑ k : Fin 512, y (ix3 0 r k) * w (ix3 0 k d) := by
  pointwise [k0_pay12]

/-- The branches' gated sum times the output weights. -/
theorem proj_val (yb : FVec Ideal S512x512 .bf16) (yc yd : FVec Ideal S1x512x512 .bf16) (s : FVec Ideal S512x1024 .f32) (w1 g1 w2 g2 w3 g3 : FVec Ideal S1x512x1024 .bf16)
    (wo : FVec Ideal S1024x1024 .bf16) (r : Fin 512) (d : Fin 1024) :
    k0_pay13 (F := Ideal) yb (k0_pay10 (F := Ideal) yc) (k0_pay11 (F := Ideal) yd) s w1 g1 w2 g2 w3 g3 wo (ix2 r d)
      = ∑ e : Fin 1024, (s (ix2 r e) + Ideal.logistic (g1 (ix3 0 r e)) * (∑ k : Fin 512, yb (ix2 r k) * w1 (ix3 0 k e))
          + Ideal.logistic (g2 (ix3 0 r e)) * (∑ k : Fin 512, yc (ix3 0 r k) * w2 (ix3 0 k e))
          + Ideal.logistic (g3 (ix3 0 r e)) * (∑ k : Fin 512, yd (ix3 0 r k) * w3 (ix3 0 k e))) * wo (ix2 e d) := by
  pointwise [k0_pay13, k0_pay10, k0_pay11]

/-- What the body stores, at an index. -/
theorem res_val (z : FVec Ideal S512x1024 .f32) (x : FVec Ideal S1x512x1024 .f32) (gt : FVec Ideal S1x1x1024 .f32) (r : Fin 512) (d : Fin 1024) :
    k0_pay1 (F := Ideal) z (k0_pay14 (F := Ideal) x) gt (ix3 0 r d) = x (ix3 0 r d) + gt (ix3 0 0 d) * z (ix2 r d) := by
  pointwise [k0_pay1, k0_pay14]

section Loads

variable {φ : EltTy}

/-- The blocks as the body loads them. -/
abbrev hL (a : Memref sig .tc .vmem S1x512x512 φ) (ha : a.IsWhole) (x : Vec Ideal S1x512x512 φ) (o : ℕ) (inb : ∀ a, (![0, 0, o] : Fin 3 → ℕ) a + S1x512x128.size a ≤ S1x512x512.size a) : Vec Ideal S1x512x128 φ :=
  View.readAt (Elt Ideal) a.view (Rect.unit (s := S1x512x512) ![0, 0, o] S1x512x128.size inb).toLoadRect (ha.unread x)
abbrev bL (a : Memref sig .tc .vmem S1x512x512 φ) (ha : a.IsWhole) (x : Vec Ideal S1x512x512 φ) : Vec Ideal S1x512x512 φ :=
  View.readAt (Elt Ideal) a.view (Rect.unit (s := S1x512x512) ![0, 0, 0] S1x512x512.size inb_S1x512x512_S1x512x512_0_0_0).toLoadRect (ha.unread x)
abbrev gL (a : Memref sig .tc .vmem S1x512x4096 φ) (ha : a.IsWhole) (x : Vec Ideal S1x512x4096 φ) (o : ℕ) (inb : ∀ a, (![0, 0, o] : Fin 3 → ℕ) a + S1x512x1024.size a ≤ S1x512x4096.size a) : Vec Ideal S1x512x1024 φ :=
  View.readAt (Elt Ideal) a.view (Rect.unit (s := S1x512x4096) ![0, 0, o] S1x512x1024.size inb).toLoadRect (ha.unread x)
abbrev wL (a : Memref sig .tc .vmem S4x512x1024 φ) (ha : a.IsWhole) (x : Vec Ideal S4x512x1024 φ) (o : ℕ) (inb : ∀ a, (![o, 0, 0] : Fin 3 → ℕ) a + S1x512x1024.size a ≤ S4x512x1024.size a) : Vec Ideal S1x512x1024 φ :=
  View.readAt (Elt Ideal) a.view (Rect.unit (s := S4x512x1024) ![o, 0, 0] S1x512x1024.size inb).toLoadRect (ha.unread x)
abbrev nL (a : Memref sig .tc .vmem S1x128 φ) (ha : a.IsWhole) (x : Vec Ideal S1x128 φ) : Vec Ideal S1x128 φ :=
  View.readAt (Elt Ideal) a.view (Rect.unit (s := S1x128) ![0, 0] S1x128.size inb_S1x128_S1x128_0_0).toLoadRect (ha.unread x)
abbrev oL (a : Memref sig .tc .vmem S1024x1024 φ) (ha : a.IsWhole) (x : Vec Ideal S1024x1024 φ) : Vec Ideal S1024x1024 φ :=
  View.readAt (Elt Ideal) a.view (Rect.unit (s := S1024x1024) ![0, 0] S1024x1024.size inb_S1024x1024_S1024x1024_0_0).toLoadRect (ha.unread x)
abbrev xL (a : Memref sig .tc .vmem S1x512x1024 φ) (ha : a.IsWhole) (x : Vec Ideal S1x512x1024 φ) : Vec Ideal S1x512x1024 φ :=
  View.readAt (Elt Ideal) a.view (Rect.unit (s := S1x512x1024) ![0, 0, 0] S1x512x1024.size inb_S1x512x1024_S1x512x1024_0_0_0).toLoadRect (ha.unread x)
abbrev tL (a : Memref sig .tc .vmem S1x1x1024 φ) (ha : a.IsWhole) (x : Vec Ideal S1x1x1024 φ) : Vec Ideal S1x1x1024 φ :=
  View.readAt (Elt Ideal) a.view (Rect.unit (s := S1x1x1024) ![0, 0, 0] S1x1x1024.size inb_S1x1x1024_S1x1x1024_0_0_0).toLoadRect (ha.unread x)

theorem hL_val (a : Memref sig .tc .vmem S1x512x512 φ) (ha : a.IsWhole) (x : Vec Ideal S1x512x512 φ) (o : ℕ) (inb) (r : Fin 512) (e : Fin 128) (ho : o + e.val < 512) :
    hL a ha x o inb (ix3 0 r e) = x (ix3 0 r ⟨o + e.val, ho⟩) :=
  (ha.readAt_unread x _ _).trans (congrArg x (funext fun a => Fin.ext (by fin_cases a <;> simp [ix3, LoadRect.idx, Rect.toLoadRect, Rect.unit])))
theorem bL_val (a : Memref sig .tc .vmem S1x512x512 φ) (ha : a.IsWhole) (x : Vec Ideal S1x512x512 φ) (r k : Fin 512) :
    bL a ha x (ix3 0 r k) = x (ix3 0 r k) :=
  (ha.readAt_unread x _ _).trans (congrArg x (funext fun a => Fin.ext (by fin_cases a <;> simp [ix3, LoadRect.idx, Rect.toLoadRect, Rect.unit])))
theorem gL_val (a : Memref sig .tc .vmem S1x512x4096 φ) (ha : a.IsWhole) (x : Vec Ideal S1x512x4096 φ) (o : ℕ) (inb) (r : Fin 512) (d : Fin 1024) (ho : o + d.val < 4096) :
    gL a ha x o inb (ix3 0 r d) = x (ix3 0 r ⟨o + d.val, ho⟩) :=
  (ha.readAt_unread x _ _).trans (congrArg x (funext fun a => Fin.ext (by fin_cases a <;> simp [ix3, LoadRect.idx, Rect.toLoadRect, Rect.unit])))
theorem wL_val (a : Memref sig .tc .vmem S4x512x1024 φ) (ha : a.IsWhole) (x : Vec Ideal S4x512x1024 φ) (n : Fin 4) (inb) (k : Fin 512) (d : Fin 1024) :
    wL a ha x n.val inb (ix3 0 k d) = x (ix3 n k d) :=
  (ha.readAt_unread x _ _).trans (congrArg x (funext fun a => Fin.ext (by fin_cases a <;> simp [ix3, LoadRect.idx, Rect.toLoadRect, Rect.unit])))
theorem nL_val (a : Memref sig .tc .vmem S1x128 φ) (ha : a.IsWhole) (x : Vec Ideal S1x128 φ) (e : Fin 128) :
    nL a ha x (ix2 0 e) = x (ix2 0 e) :=
  (ha.readAt_unread x _ _).trans (congrArg x (funext fun a => Fin.ext (by fin_cases a <;> simp [ix2, LoadRect.idx, Rect.toLoadRect, Rect.unit])))
theorem oL_val (a : Memref sig .tc .vmem S1024x1024 φ) (ha : a.IsWhole) (x : Vec Ideal S1024x1024 φ) (r e : Fin 1024) :
    oL a ha x (ix2 r e) = x (ix2 r e) :=
  (ha.readAt_unread x _ _).trans (congrArg x (funext fun a => Fin.ext (by fin_cases a <;> simp [ix2, LoadRect.idx, Rect.toLoadRect, Rect.unit])))
theorem xL_val (a : Memref sig .tc .vmem S1x512x1024 φ) (ha : a.IsWhole) (x : Vec Ideal S1x512x1024 φ) (r : Fin 512) (d : Fin 1024) :
    xL a ha x (ix3 0 r d) = x (ix3 0 r d) :=
  (ha.readAt_unread x _ _).trans (congrArg x (funext fun a => Fin.ext (by fin_cases a <;> simp [ix3, LoadRect.idx, Rect.toLoadRect, Rect.unit])))
theorem tL_val (a : Memref sig .tc .vmem S1x1x1024 φ) (ha : a.IsWhole) (x : Vec Ideal S1x1x1024 φ) (d : Fin 1024) :
    tL a ha x (ix3 0 0 d) = x (ix3 0 0 d) :=
  (ha.readAt_unread x _ _).trans (congrArg x (funext fun a => Fin.ext (by fin_cases a <;> simp [ix3, LoadRect.idx, Rect.toLoadRect, Rect.unit])))

end Loads

section Body

variable (c : Dev nD) (i : grid0.Coords) (arg2 : Memref sig .tc .vmem S1x512x512 .bf16) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .bf16) (harg7 : arg7.IsWhole) (arg8 : Memref sig .tc .vmem S1x512x4096 .bf16) (harg8 : arg8.IsWhole) (arg9 : Memref sig .tc .vmem S1x128 .f32) (harg9 : arg9.IsWhole) (arg10 : Memref sig .tc .vmem S4x512x1024 .bf16) (harg10 : arg10.IsWhole) (arg11 : Memref sig .tc .vmem S1024x1024 .bf16) (harg11 : arg11.IsWhole) (arg12 : Memref sig .tc .vmem S1x512x1024 .f32) (harg12 : arg12.IsWhole) (arg13 : Memref sig .tc .vmem S1x1x1024 .f32) (harg13 : arg13.IsWhole) (arg14 : Memref sig .tc .vmem S1x512x1024 .f32) (harg14 : arg14.IsWhole)
  (x0 : Vec Ideal S1x512x512 .bf16) (x1 : Vec Ideal S1x512x512 .f32) (x2 : Vec Ideal S1x512x512 .f32) (x3 : Vec Ideal S1x512x512 .bf16) (x4 : Vec Ideal S1x512x512 .bf16) (x5 : Vec Ideal S1x512x512 .bf16) (x6 : Vec Ideal S1x512x4096 .bf16) (x7 : Vec Ideal S1x128 .f32) (x8 : Vec Ideal S4x512x1024 .bf16) (x9 : Vec Ideal S1024x1024 .bf16) (x10 : Vec Ideal S1x512x1024 .f32) (x11 : Vec Ideal S1x1x1024 .f32)

/-- The second branch's rows, as the body makes them. -/
abbrev ybK : FVec Ideal S512x512 .bf16 :=
  (k0_pay9 (F := Ideal) (k0_pay2 (F := Ideal) (nL arg9 harg9 x7)) (k0_pay3 (F := Ideal) (nL arg9 harg9 x7) (hL arg3 harg3 x1 0 inb_S1x512x512_S1x512x128_0_0_0) (hL arg4 harg4 x2 0 inb_S1x512x512_S1x512x128_0_0_0) (hL arg7 harg7 x5 0 inb_S1x512x512_S1x512x128_0_0_0))
        (k0_pay6 (F := Ideal) (k0_pay2 (F := Ideal) (nL arg9 harg9 x7)) (k0_pay4 (F := Ideal) (hL arg3 harg3 x1 128 inb_S1x512x512_S1x512x128_0_0_128) (hL arg4 harg4 x2 128 inb_S1x512x512_S1x512x128_0_0_128)) (k0_pay5 (F := Ideal) (hL arg3 harg3 x1 128 inb_S1x512x512_S1x512x128_0_0_128) (hL arg4 harg4 x2 128 inb_S1x512x512_S1x512x128_0_0_128)) (Scalar.ofBits .f32 0x358637BD#32) (hL arg7 harg7 x5 128 inb_S1x512x512_S1x512x128_0_0_128))
        (k0_pay7 (F := Ideal) (k0_pay2 (F := Ideal) (nL arg9 harg9 x7)) (hL arg3 harg3 x1 256 inb_S1x512x512_S1x512x128_0_0_256) (hL arg4 harg4 x2 256 inb_S1x512x512_S1x512x128_0_0_256) (hL arg7 harg7 x5 256 inb_S1x512x512_S1x512x128_0_0_256)) (k0_pay8 (F := Ideal) (hL arg3 harg3 x1 384 inb_S1x512x512_S1x512x128_0_0_384)) (hL arg4 harg4 x2 384 inb_S1x512x512_S1x512x128_0_0_384) (hL arg7 harg7 x5 384 inb_S1x512x512_S1x512x128_0_0_384))

theorem run_out : (kernelRun0_A (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1
    = [⟨Rect.unit (s := S1x512x1024) ![0, 0, 0] S1x512x1024.size inb_S1x512x1024_S1x512x1024_0_0_0,
        k0_pay1 (F := Ideal) (k0_pay13 (F := Ideal) (ybK arg3 harg3 arg4 harg4 arg7 harg7 arg9 harg9 x1 x2 x5 x7) (k0_pay10 (F := Ideal) (bL arg5 harg5 x3)) (k0_pay11 (F := Ideal) (bL arg6 harg6 x4))
          (k0_pay12 (F := Ideal) (bL arg2 harg2 x0) (wL arg10 harg10 x8 0 inb_S4x512x1024_S1x512x1024_0_0_0) (gL arg8 harg8 x6 0 inb_S1x512x4096_S1x512x1024_0_0_0)) (wL arg10 harg10 x8 1 inb_S4x512x1024_S1x512x1024_1_0_0) (gL arg8 harg8 x6 1024 inb_S1x512x4096_S1x512x1024_0_0_1024) (wL arg10 harg10 x8 2 inb_S4x512x1024_S1x512x1024_2_0_0) (gL arg8 harg8 x6 2048 inb_S1x512x4096_S1x512x1024_0_0_2048) (wL arg10 harg10 x8 3 inb_S4x512x1024_S1x512x1024_3_0_0) (gL arg8 harg8 x6 3072 inb_S1x512x4096_S1x512x1024_0_0_3072) (oL arg11 harg11 x9))
          (k0_pay14 (F := Ideal) (xL arg12 harg12 x10)) (tL arg13 harg13 x11)⟩] := by
  unfold kernelRun0_A
  rfl

/-- The second branch at a head's value. -/
theorem yb_val (r : Fin 512) (n : Fin 4) (e : Fin 128) :
    ybK arg3 harg3 arg4 harg4 arg7 harg7 arg9 harg9 x1 x2 x5 x7 (ix2 r ⟨128 * n.val + e.val, by omega⟩)
      = hnrm (fun e => x1 (ix3 0 r ⟨128 * n.val + e.val, by omega⟩) + x2 (ix3 0 r ⟨128 * n.val + e.val, by omega⟩)) e * x7 (ix2 0 e) * Ideal.logistic (x5 (ix3 0 r ⟨128 * n.val + e.val, by omega⟩)) := by
  refine (heads_val _ _ _ _ _ _ _ r n e _ rfl).trans ?_
  have hh : ∀ (o : ℕ) (inb) (ho : ∀ e : Fin 128, o + e.val < 512), headVal (nL arg9 harg9 x7) (hL arg3 harg3 x1 o inb) (hL arg4 harg4 x2 o inb) (hL arg7 harg7 x5 o inb) r e
      = hnrm (fun e => x1 (ix3 0 r ⟨o + e.val, ho e⟩) + x2 (ix3 0 r ⟨o + e.val, ho e⟩)) e * x7 (ix2 0 e) * Ideal.logistic (x5 (ix3 0 r ⟨o + e.val, ho e⟩)) := fun o inb ho => by
    unfold headVal
    rw [nL_val, hL_val _ _ _ _ _ _ _ (ho e)]
    congr 3
    funext e
    rw [hL_val _ _ _ _ _ _ _ (ho e), hL_val _ _ _ _ _ _ _ (ho e)]
  fin_cases n
  · exact (head0 ..).trans (hh 0 _ fun e => by omega)
  · exact (head1 ..).trans (hh 128 _ fun e => by omega)
  · exact (head2 ..).trans (hh 256 _ fun e => by omega)
  · exact hh 384 _ fun e => by omega

/-- What the body leaves in the output block, at an index. -/
theorem out_val (r : Fin 512) (d : Fin 1024) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 (ix3 0 r d)
      = x10 (ix3 0 r d) + x11 (ix3 0 0 d) * ∑ e : Fin 1024, (∑ n : Fin 4, Ideal.logistic (x6 (ix3 0 r ⟨n.val * 1024 + e.val, by omega⟩))
          * ∑ k : Fin 512, (![x0 (ix3 0 r k), ybK arg3 harg3 arg4 harg4 arg7 harg7 arg9 harg9 x1 x2 x5 x7 (ix2 r k), x3 (ix3 0 r k), x4 (ix3 0 r k)] : Fin 4 → EReal) n * x8 (ix3 n k e)) * x9 (ix2 e d) := by
  unfold out0_A_12
  rw [run_out]
  refine (View.read_writes_cons_unit_of_mem VO0_12 _ inb_S1x512x1024_S1x512x1024_0_0_0 _ [] (ix3 0 r d : S1x512x1024.Idx) (ix3 0 r d : S1x512x1024.Idx) rfl (by
    intro a; fin_cases a <;> simp [ix3])).trans ((res_val _ _ _ r d).trans ?_)
  rw [xL_val, tL_val, proj_val]
  refine congrArg (fun z => x10 (ix3 0 r d) + x11 (ix3 0 0 d) * z) (Finset.sum_congr rfl fun e _ => ?_)
  rw [br0_val, oL_val, Fin.sum_univ_four, gL_val _ _ _ _ _ _ _ (by omega : 0 + e.val < 4096), gL_val _ _ _ _ _ _ _ (by omega : 1024 + e.val < 4096),
    gL_val _ _ _ _ _ _ _ (by omega : 2048 + e.val < 4096), gL_val _ _ _ _ _ _ _ (by omega : 3072 + e.val < 4096)]
  refine congrArg (· * x9 (ix2 e d)) (congrArg₂ (· + ·) (congrArg₂ (· + ·) (congrArg₂ (· + ·) ?_ ?_) ?_) ?_)
  · exact congrArg₂ (· * ·) rfl (Finset.sum_congr rfl fun k _ => congrArg₂ (· * ·) (bL_val ..) (wL_val arg10 harg10 x8 0 _ k e))
  · exact congrArg₂ (· * ·) rfl (Finset.sum_congr rfl fun k _ => congrArg₂ (· * ·) rfl (wL_val arg10 harg10 x8 1 _ k e))
  · exact congrArg₂ (· * ·) rfl (Finset.sum_congr rfl fun k _ => congrArg₂ (· * ·) (bL_val ..) (wL_val arg10 harg10 x8 2 _ k e))
  · exact congrArg₂ (· * ·) rfl (Finset.sum_congr rfl fun k _ => congrArg₂ (· * ·) (bL_val ..) (wL_val arg10 harg10 x8 3 _ k e))

end Body

end Cert.MergeIdeal.Gen

end
-- ==== Proof.MergeHostVal.lean ====
/-
  The merge's operands and blocks: what the body reads at each grid point, as entries of the arguments.
-/
module

public import proofs.«01_k».proof.Proof.Gen.MergeIdeal.Value
public import Idealize.ShloMosaic.Lib.Pointwise
public import Idealize.ShloMosaic.Lib.Claim
public import Idealize.ShloMosaic.Lib.StableHlo.RunRead
public import Idealize.ShloMosaic.Lib.Pipeline.ValueKit

@[expose] public section

set_option maxRecDepth 16384

noncomputable section

namespace Cert.MergeIdeal.Gen

open Idealize.ShloMosaic Idealize.ShloMosaic.TcCoe Idealize.SL.Sem
open Idealize.ShloMosaic.Pipeline (Dat)

/-- The projection's columns that the call reads, where it reads them, and zeros elsewhere. -/
def pCat (o : FVec Ideal S2x16384x512 .f32) (g : FVec Ideal S2x16384x4096 .f32) : FVec Ideal S2x16384x10240 .bf16 :=
  concatenate S2x16384x10240 2 [⟨S2x16384x4096, (truncf .bf16 g bitsLt_bf16_f32 : FVec Ideal S2x16384x4096 .bf16)⟩, ⟨S2x16384x3072, (broadcastInDim S2x16384x3072 ![] bcast_S_S2x16384x3072 (constant S_ .bf16 0x0000#16 : FVec Ideal S_ .bf16) : FVec Ideal S2x16384x3072 .bf16)⟩, ⟨S2x16384x512, (truncf .bf16 o bitsLt_bf16_f32 : FVec Ideal S2x16384x512 .bf16)⟩, ⟨S2x16384x2560, (broadcastInDim S2x16384x2560 ![] bcast_S_S2x16384x2560 (constant S_ .bf16 0x0000#16 : FVec Ideal S_ .bf16) : FVec Ideal S2x16384x2560 .bf16)⟩] concatenates_S2x16384x4096_S2x16384x3072_S2x16384x512_S2x16384x2560_S2x16384x10240_d2

section Columns

variable (o : FVec Ideal S2x16384x512 .f32) (g : FVec Ideal S2x16384x4096 .f32) (b : Fin 2) (q : Fin 16384)

theorem cat_val (k : Fin 10240) : pCat o g (ix3 b q k) = (if h : k.val < 4096 then g (ix3 b q ⟨k.val, h⟩) else if h : k.val - 4096 < 3072 then (0 : EReal)
    else if h : k.val - 4096 - 3072 < 512 then o (ix3 b q ⟨k.val - 4096 - 3072, h⟩) else (0 : EReal)) := by
  pointwise [pCat]

theorem cat_gate (k : Fin 4096) : pCat o g (ix3 b q ⟨k.val, by omega⟩) = g (ix3 b q k) := by
  rw [cat_val]
  exact dif_pos k.isLt

theorem cat_o (k : Fin 512) : pCat o g (ix3 b q ⟨7168 + k.val, by omega⟩) = o (ix3 b q k) := by
  rw [cat_val, dif_neg (show ¬7168 + k.val < 4096 by omega), dif_neg (show ¬7168 + k.val - 4096 < 3072 by omega), dif_pos (show 7168 + k.val - 4096 - 3072 < 512 by omega)]
  exact congrArg (fun j => o (ix3 b q j)) (Fin.ext (show 7168 + k.val - 4096 - 3072 = k.val by omega))

end Columns

section Operands

variable (m : (ℓ : Loc nD τ sig) → Buf (Elt Ideal) ℓ) (c : Dev nD)

abbrev A0 : FVec Ideal S2x16384x512 .f32 := m ((c.tc : Thread nD τ).loc main_arg0)
abbrev A1 : FVec Ideal S2x16384x4x128 .f32 := m ((c.tc : Thread nD τ).loc main_arg1)
abbrev A2 : FVec Ideal S2x16384x4x128 .f32 := m ((c.tc : Thread nD τ).loc main_arg2)
abbrev A3 : FVec Ideal S2x16384x512 .f32 := m ((c.tc : Thread nD τ).loc main_arg3)
abbrev A4 : FVec Ideal S2x16384x512 .f32 := m ((c.tc : Thread nD τ).loc main_arg4)
abbrev A5 : FVec Ideal S2x16384x512 .f32 := m ((c.tc : Thread nD τ).loc main_arg5)
abbrev A6 : FVec Ideal S2x16384x4096 .f32 := m ((c.tc : Thread nD τ).loc main_arg6)
abbrev A7 : FVec Ideal S128 .f32 := m ((c.tc : Thread nD τ).loc main_arg7)
abbrev A8 : FVec Ideal S4x512x1024 .f32 := m ((c.tc : Thread nD τ).loc main_arg8)
abbrev A9 : FVec Ideal S1024x1024 .f32 := m ((c.tc : Thread nD τ).loc main_arg9)
abbrev A10 : FVec Ideal S2x16384x1024 .f32 := m ((c.tc : Thread nD τ).loc main_arg10)
abbrev A11 : FVec Ideal S2x1024 .f32 := m ((c.tc : Thread nD τ).loc main_arg11)

theorem op_p : (V m c main_v4 : FVec Ideal S2x16384x10240 .bf16) = pCat (A5 m c) (A6 m c) := by
  unfold pCat
  after_reads_simp
  rfl

theorem op_a (b : Fin 2) (q : Fin 16384) (k : Fin 512) : (V m c main_v5 : FVec Ideal S2x16384x512 .bf16) (ix3 b q k) = A0 m c (ix3 b q k) := by
  entry_read
  pointwise

theorem op_c (b : Fin 2) (q : Fin 16384) (k : Fin 512) : (V m c main_v8 : FVec Ideal S2x16384x512 .bf16) (ix3 b q k) = A3 m c (ix3 b q k) := by
  entry_read
  pointwise

theorem op_d (b : Fin 2) (q : Fin 16384) (k : Fin 512) : (V m c main_v9 : FVec Ideal S2x16384x512 .bf16) (ix3 b q k) = A4 m c (ix3 b q k) := by
  entry_read
  pointwise

theorem op_hf (b : Fin 2) (q : Fin 16384) (n : Fin 4) (e : Fin 128) :
    (V m c main_v6 : FVec Ideal S2x16384x512 .f32) (ix3 b q ⟨128 * n.val + e.val, by omega⟩) = A1 m c (ix4 b q n e) := by
  entry_read
  pointwise

theorem op_hb (b : Fin 2) (q : Fin 16384) (n : Fin 4) (e : Fin 128) :
    (V m c main_v7 : FVec Ideal S2x16384x512 .f32) (ix3 b q ⟨128 * n.val + e.val, by omega⟩) = A2 m c (ix4 b q n e) := by
  entry_read
  pointwise

theorem op_g (e : Fin 128) : (V m c main_v12 : FVec Ideal S1x128 .f32) (ix2 0 e) = A7 m c (ix1 e) := by
  entry_read
  pointwise

theorem op_w (n : Fin 4) (k : Fin 512) (d : Fin 1024) : (V m c main_v10 : FVec Ideal S4x512x1024 .bf16) (ix3 n k d) = A8 m c (ix3 n k d) := by
  entry_read
  pointwise

theorem op_wo (e d : Fin 1024) : (V m c main_v11 : FVec Ideal S1024x1024 .bf16) (ix2 e d) = A9 m c (ix2 e d) := by
  entry_read
  pointwise

theorem op_x (b : Fin 2) (q : Fin 16384) (d : Fin 1024) : (V m c main_arg10 : FVec Ideal S2x16384x1024 .f32) (ix3 b q d) = A10 m c (ix3 b q d) := by
  rw [V_main_arg10]

theorem op_gate (b : Fin 2) (d : Fin 1024) : (V m c main_v13 : FVec Ideal S2x1x1024 .f32) (ix3 b 0 d) = A11 m c (ix2 b d) := by
  entry_read
  pointwise

/-- Where each grid point's blocks lie. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, t.val % 32, 0] ∧ win0_4.index t = ![t.val / 32, t.val % 32, 0]
    ∧ win0_5.index t = ![t.val / 32, t.val % 32, 14] ∧ win0_6.index t = ![t.val / 32, t.val % 32, 0] ∧ win0_7.index t = ![0, 0]
    ∧ win0_8.index t = ![0, 0, 0] ∧ win0_9.index t = ![0, 0] ∧ win0_10.index t = ![t.val / 32, t.val % 32, 0]
    ∧ win0_11.index t = ![t.val / 32, 0, 0] ∧ win0_12.index t = ![t.val / 32, t.val % 32, 0] ∧ t.val / 32 < 2 :=
  (by decide +kernel : ∀ t : Fin grid0.N, _)

variable (t : Fin cfg0.N)

theorem blk_a (b : Fin 2) (j : Fin 32) (hb : t.val / 32 = b.val) (hj : t.val % 32 = j.val) (r : Fin 512) (k : Fin 512) :
    (iblk m c 0 t : FVec Ideal S1x512x512 .bf16) (ix3 0 r k) = A0 m c (ix3 b ⟨512 * j.val + r.val, by omega⟩ k) := by
  rw [← op_a]
  blk_ext [iblk, idx t, hb, hj]

theorem blk_hf (b : Fin 2) (j : Fin 32) (hb : t.val / 32 = b.val) (hj : t.val % 32 = j.val) (r : Fin 512) (n : Fin 4) (e : Fin 128) :
    (iblk m c 1 t : FVec Ideal S1x512x512 .f32) (ix3 0 r ⟨128 * n.val + e.val, by omega⟩) = A1 m c (ix4 b ⟨512 * j.val + r.val, by omega⟩ n e) := by
  rw [← op_hf]
  blk_ext [iblk, idx t, hb, hj]

theorem blk_hb (b : Fin 2) (j : Fin 32) (hb : t.val / 32 = b.val) (hj : t.val % 32 = j.val) (r : Fin 512) (n : Fin 4) (e : Fin 128) :
    (iblk m c 2 t : FVec Ideal S1x512x512 .f32) (ix3 0 r ⟨128 * n.val + e.val, by omega⟩) = A2 m c (ix4 b ⟨512 * j.val + r.val, by omega⟩ n e) := by
  rw [← op_hb]
  blk_ext [iblk, idx t, hb, hj]

theorem blk_c (b : Fin 2) (j : Fin 32) (hb : t.val / 32 = b.val) (hj : t.val % 32 = j.val) (r : Fin 512) (k : Fin 512) :
    (iblk m c 3 t : FVec Ideal S1x512x512 .bf16) (ix3 0 r k) = A3 m c (ix3 b ⟨512 * j.val + r.val, by omega⟩ k) := by
  rw [← op_c]
  blk_ext [iblk, idx t, hb, hj]

theorem blk_d (b : Fin 2) (j : Fin 32) (hb : t.val / 32 = b.val) (hj : t.val % 32 = j.val) (r : Fin 512) (k : Fin 512) :
    (iblk m c 4 t : FVec Ideal S1x512x512 .bf16) (ix3 0 r k) = A4 m c (ix3 b ⟨512 * j.val + r.val, by omega⟩ k) := by
  rw [← op_d]
  blk_ext [iblk, idx t, hb, hj]

theorem blk_o (b : Fin 2) (j : Fin 32) (hb : t.val / 32 = b.val) (hj : t.val % 32 = j.val) (r : Fin 512) (k : Fin 512) :
    (iblk m c 5 t : FVec Ideal S1x512x512 .bf16) (ix3 0 r k) = A5 m c (ix3 b ⟨512 * j.val + r.val, by omega⟩ k) := by
  rw [← cat_o (A5 m c) (A6 m c), ← op_p]
  blk_ext [iblk, idx t, hb, hj]

theorem blk_gt (b : Fin 2) (j : Fin 32) (hb : t.val / 32 = b.val) (hj : t.val % 32 = j.val) (r : Fin 512) (k : Fin 4096) :
    (X0_6 m c t : FVec Ideal S1x512x4096 .bf16) (ix3 0 r k) = A6 m c (ix3 b ⟨512 * j.val + r.val, by omega⟩ k) := by
  rw [← cat_gate (A5 m c) (A6 m c), ← op_p]
  unfold X0_6 Pipeline.Window.fill
  rw [dif_pos (moved0_6 t _)]
  blk_ext [iblk, idx t, hb, hj]

theorem blk_g (e : Fin 128) : (iblk m c 7 t : FVec Ideal S1x128 .f32) (ix2 0 e) = A7 m c (ix1 e) := by
  rw [← op_g]
  blk_ext [iblk, idx t]

theorem blk_w (n : Fin 4) (k : Fin 512) (d : Fin 1024) : (iblk m c 8 t : FVec Ideal S4x512x1024 .bf16) (ix3 n k d) = A8 m c (ix3 n k d) := by
  rw [← op_w]
  blk_ext [iblk, idx t]

theorem blk_wo (e d : Fin 1024) : (iblk m c 9 t : FVec Ideal S1024x1024 .bf16) (ix2 e d) = A9 m c (ix2 e d) := by
  rw [← op_wo]
  blk_ext [iblk, idx t]

theorem blk_x (b : Fin 2) (j : Fin 32) (hb : t.val / 32 = b.val) (hj : t.val % 32 = j.val) (r : Fin 512) (d : Fin 1024) :
    (iblk m c 10 t : FVec Ideal S1x512x1024 .f32) (ix3 0 r d) = A10 m c (ix3 b ⟨512 * j.val + r.val, by omega⟩ d) := by
  rw [← op_x]
  blk_ext [iblk, idx t, hb, hj]

theorem blk_gate (b : Fin 2) (hb : t.val / 32 = b.val) (d : Fin 1024) : (iblk m c 11 t : FVec Ideal S1x1x1024 .f32) (ix3 0 0 d) = A11 m c (ix2 b d) := by
  rw [← op_gate m c b d]
  blk_ext [iblk, idx t, hb]

end Operands

end Cert.MergeIdeal.Gen

end
-- ==== Proof.MergeArrVal.lean ====
/-
  The merge's output array is the reference's.
-/
module

public import proofs.«01_k».proof.Proof.MergeBlock
public import proofs.«01_k».proof.Proof.MergeHostVal
public import proofs.«01_k».proof.Proof.MergeRefVal
public import Idealize.ShloMosaic.Lib.Pipeline.ValueKit

@[expose] public section

set_option maxRecDepth 16384

noncomputable section

namespace Cert.MergeRefIdeal.Value

open Cert.MergeRefIdeal Cert.MergeRefIdeal.Gen Idealize.ShloMosaic Idealize.ShloMosaic.TcCoe Idealize.SL.Sem

/-- The reference's result at an index. -/
theorem rMerge_val (a0 : FVec Ideal S2x16384x512 .f32) (a1 a2 : FVec Ideal S2x16384x4x128 .f32) (a3 a4 a5 : FVec Ideal S2x16384x512 .f32) (a6 : FVec Ideal S2x16384x4096 .f32)
    (a7 : FVec Ideal S128 .f32) (a8 : FVec Ideal S4x512x1024 .f32) (a9 : FVec Ideal S1024x1024 .f32) (a10 : FVec Ideal S2x16384x1024 .f32) (a11 : FVec Ideal S2x1024 .f32)
    (b : Fin 2) (q : Fin 16384) (d : Fin 1024) :
    rMerge a0 a1 a2 a3 a4 a5 a6 a7 a8 a9 a10 a11 (ix3 b q d)
      = a10 (ix3 b q d) + a11 (ix2 b d) * ∑ e : Fin 1024, (∑ n : Fin 4, Ideal.logistic (a6 (ix3 b q ⟨n.val * 1024 + e.val, by omega⟩))
          * ∑ k : Fin 512, (![a0 (ix3 b q k), rB a1 a2 a5 a7 (ix3 b q k), a3 (ix3 b q k), a4 (ix3 b q k)] : Fin 4 → EReal) n * a8 (ix3 n k e)) * a9 (ix2 e d) := by
  unfold rMerge
  rw [rOut_val]
  simp only [rZ_val, rY_val]

end Cert.MergeRefIdeal.Value

namespace Cert.MergeIdeal.Gen

open Idealize.ShloMosaic Idealize.ShloMosaic.TcCoe Idealize.SL.Sem
open Idealize.ShloMosaic.Pipeline (Dat)
open Cert.MergeRefIdeal.Value (rMerge rMerge_val rB rB_val)

variable (m : (ℓ : Loc nD τ sig) → Buf (Elt Ideal) ℓ) (c : Dev nD)

/-- What a grid point's body leaves in the output block, at an index. -/
theorem outsAt_val (t : Fin cfg0.N) (b : Fin 2) (j : Fin 32) (hb : t.val / 32 = b.val) (hj : t.val % 32 = j.val) (r : Fin 512) (d : Fin 1024) :
    outsAt0 m c t (ix3 0 r d) = rMerge (A0 m c) (A1 m c) (A2 m c) (A3 m c) (A4 m c) (A5 m c) (A6 m c) (A7 m c) (A8 m c) (A9 m c) (A10 m c) (A11 m c)
      (ix3 b ⟨512 * j.val + r.val, by omega⟩ d) := by
  unfold outsAt0
  rw [out_val, rMerge_val]
  rw [blk_x m c t b j hb hj, blk_gate m c t b hb]
  refine congrArg (fun z => _ + _ * z) (Finset.sum_congr rfl fun e _ => ?_)
  rw [blk_wo]
  refine congrArg (· * _) (Finset.sum_congr rfl fun n _ => ?_)
  rw [blk_gt m c t b j hb hj]
  refine congrArg (_ * ·) (Finset.sum_congr rfl fun k _ => ?_)
  rw [blk_w, blk_a m c t b j hb hj, blk_c m c t b j hb hj, blk_d m c t b j hb hj]
  have hk : k.val = 128 * (k.val / 128) + k.val % 128 := by omega
  have ek : k = ⟨128 * (k.val / 128) + k.val % 128, by omega⟩ := Fin.ext hk
  have y := yb_val (ms0_1 t) (hs0_1 t) (ms0_2 t) (hs0_2 t) (ms0_5 t) (hs0_5 t) (ms0_7 t) (hs0_7 t) (iblk m c 1 t) (iblk m c 2 t) (iblk m c 5 t) (iblk m c 7 t)
    r ⟨k.val / 128, by omega⟩ ⟨k.val % 128, by omega⟩
  simp only [blk_g, blk_o m c t b j hb hj] at y
  simp only [blk_hf m c t b j hb hj r ⟨k.val / 128, by omega⟩, blk_hb m c t b j hb hj r ⟨k.val / 128, by omega⟩] at y
  rw [← ek] at y
  rw [y, rB_val (A1 m c) (A2 m c) (A5 m c) (A7 m c) b _ ⟨k.val / 128, by omega⟩ ⟨k.val % 128, by omega⟩ k hk]

/-- THE OUTPUT ARRAY. -/
theorem final : (dats m 0 c).arrAt 12 cfg0.N
    = rMerge (A0 m c) (A1 m c) (A2 m c) (A3 m c) (A4 m c) (A5 m c) (A6 m c) (A7 m c) (A8 m c) (A9 m c) (A10 m c) (A11 m c) := by
  refine (dats m 0 c).arrAt_eq_of_covers 12 _ (by decide +kernel) fun t _ y => ?_
  blk_simp
  rw [after0_12]
  have e2 : t.val / 32 < 2 := (idx t).2.2.2.2.2.2.2.2.2.2.2.2.2
  have h1 : (y 1).val < 512 := (y 1).isLt
  have h2 : (y 2).val < 1024 := (y 2).isLt
  have pv := outsAt_val m c t ⟨t.val / 32, e2⟩ ⟨t.val % 32, Nat.mod_lt _ (by norm_num)⟩ rfl rfl ⟨(y 1).val, h1⟩ ⟨(y 2).val, h2⟩
  refine Eq.trans (congrArg _ ?_) (pv.trans (congrArg _ ?_))
  · blk_ext [idx t]
  · blk_ext [idx t]

end Cert.MergeIdeal.Gen

end
-- ==== Proof.lean ====
/-
  The claims of the five calls: each kernel's two programs and each reference's run and leave their arguments as they were,
  each ideal kernel is the kernel (with its scale named, in the attentions), and each ideal kernel's output is its
  reference's (with real inputs, in the attentions).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.ArrVal
public import proofs.«01_k».proof.Proof.Finite
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.GqaArrVal
public import proofs.«01_k».proof.Proof.GqaFinite
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.FinalVal
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.ProjArrVal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.MergeArrVal
public import Idealize.ShloMosaic.Adequacy
public import Idealize.ShloMosaic.Init

@[expose] public section

set_option maxRecDepth 16384

noncomputable section

namespace Cert.Proof

open Idealize.ShloMosaic Idealize.SL.Sem

/-- The reference runs, keeps its arguments, and has no semaphore to leave raised. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's output array is the reference's. -/
theorem value : Cert.algebraic_KernelIdeal_ReferenceIdeal_pre_finite := by
  intro m ρ m' ρ' hpre hagree
  refine ⟨fun c => (Cert.KernelIdeal.Gen.dats m 0 c).arrAt 7 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨f0, f1, f2, f3, f4, f5⟩ := Cert.Pre_finite.finite_args _ _ _ _ _ _ _ (hpre c)
  obtain ⟨g0, g1, g2, g3, g4, g5, g6⟩ := hagree c
  refine (Cert.ReferenceIdeal.Value.res_eq m' c).trans (Eq.trans ?_ (Cert.KernelIdeal.Gen.final m c f0 f1 f2 f3 f4 f5).symm)
  rw [g0, g1, g2, g3, g4, g5, g6]

/-- The grouped-query reference runs, keeps its arguments, and has no semaphore to leave raised. -/
theorem frame_gqa_ref : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- The grouped-query kernel's output array is the reference's. -/
theorem gqa_value : Cert.algebraic_GqaIdeal_GqaRefIdeal_pre_gqa_finite := by
  intro m ρ m' ρ' hpre hagree
  refine ⟨fun c => (Cert.GqaIdeal.Gen.dats m 0 c).arrAt 5 Cert.GqaIdeal.cfg0.N, Cert.GqaIdeal.Value.run_blocks (F := Ideal) m ρ, ?_⟩
  refine (θ_run Cert.GqaRefIdeal.defs _ _).mono (fun _ h c => ⟨(h c).1.trans ?_, (h c).2⟩) (Cert.GqaRefIdeal.Value.run (F := Ideal) m' ρ')
  obtain ⟨f0, f1, f2, f3, f4⟩ := Cert.Pre_gqa_finite.finite_args _ _ _ _ _ (hpre c)
  obtain ⟨g0, g1, g2, g3, g4⟩ := hagree c
  refine Eq.trans ?_ (Cert.GqaIdeal.Gen.final m c f0 f1 f2 f3 f4).symm
  rw [g0, g1, g2, g3, g4]
  rfl

/-- The last norm's reference runs, keeps its arguments, and has no semaphore to leave raised. -/
theorem frame_final_ref : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The last norm's output array is the reference's. -/
theorem final_value : Cert.algebraic_FinalIdeal_FinalRefIdeal := by
  intro m ρ m' ρ' hpre hagree
  refine ⟨fun c => (Cert.FinalIdeal.Gen.dats m 0 c).arrAt 4 Cert.FinalIdeal.cfg0.N, Cert.FinalIdeal.Value.run_blocks (F := Ideal) m ρ, ?_⟩
  refine (θ_run Cert.FinalRefIdeal.defs _ _).mono (fun _ h c => ⟨(h c).1.trans ?_, (h c).2⟩) (Cert.FinalRefIdeal.Value.run (F := Ideal) m' ρ')
  obtain ⟨g0, g1⟩ := hagree c
  refine Eq.trans ?_ (Cert.FinalIdeal.Gen.final m c).symm
  rw [g0, g1]
  rfl

/-- The projection's reference runs, keeps its arguments, and has no semaphore to leave raised. -/
theorem frame_proj_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The projection's output array is the reference's. -/
theorem proj_value : Cert.algebraic_ProjIdeal_ProjRefIdeal := by
  intro m ρ m' ρ' hpre hagree
  refine ⟨fun c => (Cert.ProjIdeal.Gen.dats m 0 c).arrAt 5 Cert.ProjIdeal.cfg0.N, Cert.ProjIdeal.Value.run_blocks (F := Ideal) m ρ, ?_⟩
  refine (θ_run Cert.ProjRefIdeal.defs _ _).mono (fun _ h c => ⟨(h c).1.trans ?_, (h c).2⟩) (Cert.ProjRefIdeal.Value.run (F := Ideal) m' ρ')
  obtain ⟨g0, g1, g2, g3, g4⟩ := hagree c
  refine (Cert.ProjRefIdeal.Value.res_eq m' c).trans (Eq.trans ?_ (Cert.ProjIdeal.Gen.final m c).symm)
  rw [g0, g1, g2, g3, g4]

/-- The merge's reference runs, keeps its arguments, and has no semaphore to leave raised. -/
theorem frame_merge_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge's output array is the reference's. -/
theorem merge_value : Cert.algebraic_MergeIdeal_MergeRefIdeal := by
  intro m ρ m' ρ' hpre hagree
  refine ⟨fun c => (Cert.MergeIdeal.Gen.dats m 0 c).arrAt 12 Cert.MergeIdeal.cfg0.N, Cert.MergeIdeal.Value.run_blocks (F := Ideal) m ρ, ?_⟩
  refine (θ_run Cert.MergeRefIdeal.defs _ _).mono (fun _ h c => ⟨(h c).1.trans ?_, (h c).2⟩) (Cert.MergeRefIdeal.Value.run (F := Ideal) m' ρ')
  obtain ⟨g0, g1, g2, g3, g4, g5, g6, g7, g8, g9, g10, g11⟩ := hagree c
  refine Eq.trans ?_ (Cert.MergeIdeal.Gen.final m c).symm
  rw [g0, g1, g2, g3, g4, g5, g6, g7, g8, g9, g10, g11]
  rfl

theorem claim : Cert.Claim :=
  ⟨Kernel.Gen.facts, KernelIdeal.Gen.facts, ReferenceIdeal.Gen.facts, Gqa.Gen.facts, GqaIdeal.Gen.facts, GqaRefIdeal.Gen.facts,
    Final.Gen.facts, FinalIdeal.Gen.facts, FinalRefIdeal.Gen.facts, Proj.Gen.facts, ProjIdeal.Gen.facts, ProjRefIdeal.Gen.facts,
    Merge.Gen.facts, MergeIdeal.Gen.facts, MergeRefIdeal.Gen.facts, Pre_finite.facts, Pre_gqa_finite.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Gqa.Gen.frame m ρ, fun m ρ _ => Cert.GqaIdeal.Gen.frame m ρ, fun m ρ _ => Cert.GqaIdeal.Gen.frame m ρ,
    frame_gqa_ref, fun m ρ _ => frame_gqa_ref m ρ trivial,
    fun m ρ _ => Cert.Final.Gen.frame m ρ, fun m ρ _ => Cert.FinalIdeal.Gen.frame m ρ, frame_final_ref,
    fun m ρ _ => Cert.Proj.Gen.frame m ρ, fun m ρ _ => Cert.ProjIdeal.Gen.frame m ρ, frame_proj_ref,
    fun m ρ _ => Cert.Merge.Gen.frame m ρ, fun m ρ _ => Cert.MergeIdeal.Gen.frame m ρ, frame_merge_ref,
    IdealRules.named_const.statement Cert.KernelIdeal.κ "qscale" .f32 0x3E38AA3B#32 ((8⁻¹ * (Real.log 2)⁻¹ : ℝ) : EReal) rfl, value,
    IdealRules.named_const.statement Cert.GqaIdeal.κ "qscale" .f32 0x3E38AA3B#32 ((8⁻¹ * (Real.log 2)⁻¹ : ℝ) : EReal) rfl, gqa_value,
    trivial, final_value, trivial, proj_value, trivial, merge_value⟩

end Cert.Proof

end
